-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4352x4096 : Shape := ⟨3, ![8, 4352, 4096]⟩
abbrev S8x4352x32 : Shape := ⟨3, ![8, 4352, 32]⟩
abbrev S_ : Shape := ⟨0, ![]⟩

class Facts : Prop where
  bcast_S_S8x4352x4096 : S_.BroadcastsInDim S8x4352x4096 (![] : Fin 0 → Fin S8x4352x4096.rank)
  reducesTo_S8x4352x4096_S_d0_1_2 : S8x4352x4096.ReducesTo [0, 1, 2] S_
  h_S_ : 0 < S_.numel
  bcast_S_S8x4352x32 : S_.BroadcastsInDim S8x4352x32 (![] : Fin 0 → Fin S8x4352x32.rank)
  reducesTo_S8x4352x32_S_d0_1_2 : S8x4352x32.ReducesTo [0, 1, 2] S_

variable [Facts]

def fn_part1 {F : FTy → Type} [FloatOps F] (main_v13 : IVec S_ 1) (main_v16 : IVec S8x4352x32 1) : IVec S_ 1 :=
  let main_c_5 : IVec S_ 1 := constantI S_ 1 1#1
  let main_v17 : IVec S_ 1 := (fun x v => Host.reduce IntOp.andi x v reducesTo_S8x4352x32_S_d0_1_2 h_S_) main_v16 main_c_5
  let main_v18 : IVec S_ 1 := andi main_v13 main_v17
  main_v18

def fn {F : FTy → Type} [FloatOps F] (main_arg0 : FVec F S8x4352x4096 .f32) (main_arg1 : FVec F S8x4352x4096 .f32) (main_arg2 : FVec F S8x4352x4096 .f32) (main_arg3 : FVec F S8x4352x32 .f32) : IVec S_ 1 :=
  let main_v0 : FVec F S8x4352x4096 .f32 := Host.absf main_arg0
  let main_cst : FVec F S_ .f32 := constant S_ .f32 0x7F800000#32
  let main_v1 : FVec F S8x4352x4096 .f32 := broadcastInDim S8x4352x4096 ![] bcast_S_S8x4352x4096 main_cst
  let main_v2 : IVec S8x4352x4096 1 := cmpf .olt main_v0 main_v1
  let main_c : IVec S_ 1 := constantI S_ 1 1#1
  let main_v3 : IVec S_ 1 := (fun x v => Host.reduce IntOp.andi x v reducesTo_S8x4352x4096_S_d0_1_2 h_S_) main_v2 main_c
  let main_v4 : FVec F S8x4352x4096 .f32 := Host.absf main_arg1
  let main_cst_0 : FVec F S_ .f32 := constant S_ .f32 0x7F800000#32
  let main_v5 : FVec F S8x4352x4096 .f32 := broadcastInDim S8x4352x4096 ![] bcast_S_S8x4352x4096 main_cst_0
  let main_v6 : IVec S8x4352x4096 1 := cmpf .olt main_v4 main_v5
  let main_c_1 : IVec S_ 1 := constantI S_ 1 1#1
  let main_v7 : IVec S_ 1 := (fun x v => Host.reduce IntOp.andi x v reducesTo_S8x4352x4096_S_d0_1_2 h_S_) main_v6 main_c_1
  let main_v8 : IVec S_ 1 := andi main_v3 main_v7
  let main_v9 : FVec F S8x4352x4096 .f32 := Host.absf main_arg2
  let main_cst_2 : FVec F S_ .f32 := constant S_ .f32 0x7F800000#32
  let main_v10 : FVec F S8x4352x4096 .f32 := broadcastInDim S8x4352x4096 ![] bcast_S_S8x4352x4096 main_cst_2
  let main_v11 : IVec S8x4352x4096 1 := cmpf .olt main_v9 main_v10
  let main_c_3 : IVec S_ 1 := constantI S_ 1 1#1
  let main_v12 : IVec S_ 1 := (fun x v => Host.reduce IntOp.andi x v reducesTo_S8x4352x4096_S_d0_1_2 h_S_) main_v11 main_c_3
  let main_v13 : IVec S_ 1 := andi main_v8 main_v12
  let main_v14 : FVec F S8x4352x32 .f32 := Host.absf main_arg3
  let main_cst_4 : FVec F S_ .f32 := constant S_ .f32 0x7F800000#32
  let main_v15 : FVec F S8x4352x32 .f32 := broadcastInDim S8x4352x32 ![] bcast_S_S8x4352x32 main_cst_4
  let main_v16 : IVec S8x4352x32 1 := cmpf .olt main_v14 main_v15
  fn_part1 (F := F) main_v13 main_v16
-- ==== Kernel.lean ====
abbrev S8x4352x4096 : Shape := ⟨3, ![8, 4352, 4096]⟩
abbrev S8x4352x32 : Shape := ⟨3, ![8, 4352, 32]⟩
abbrev S_ : Shape := ⟨0, ![]⟩
abbrev S8x4096x4352 : Shape := ⟨3, ![8, 4096, 4352]⟩
abbrev S8x32x4352 : Shape := ⟨3, ![8, 32, 4352]⟩
abbrev S2x8x4352x4096 : Shape := ⟨4, ![2, 8, 4352, 4096]⟩
abbrev S1x256x2048 : Shape := ⟨3, ![1, 256, 2048]⟩
abbrev S1x2048x256 : Shape := ⟨3, ![1, 2048, 256]⟩
abbrev S1x256x32 : Shape := ⟨3, ![1, 256, 32]⟩
abbrev S1x32x256 : Shape := ⟨3, ![1, 32, 256]⟩
abbrev S1x1x256x2048 : Shape := ⟨4, ![1, 1, 256, 2048]⟩
abbrev S4x512x512 : Shape := ⟨3, ![4, 512, 512]⟩
abbrev S4x8x512 : Shape := ⟨3, ![4, 8, 512]⟩
abbrev S4x1x1 : Shape := ⟨3, ![4, 1, 1]⟩
abbrev S256x32 : Shape := ⟨2, ![256, 32]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1x1x1 : Shape := ⟨3, ![1, 1, 1]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S1x8x512 : Shape := ⟨3, ![1, 8, 512]⟩
abbrev S8x512 : Shape := ⟨2, ![8, 512]⟩
abbrev S16x512 : Shape := ⟨2, ![16, 512]⟩
abbrev S256x16 : Shape := ⟨2, ![256, 16]⟩
abbrev S1x1x256x512 : Shape := ⟨4, ![1, 1, 256, 512]⟩
abbrev S8x256 : Shape := ⟨2, ![8, 256]⟩
abbrev S16x256 : Shape := ⟨2, ![16, 256]⟩

abbrev nBuf : Space → Nat
  | .hbm => 66
  | .vmem => 18
  | .smem => 0
  | _ => 0

abbrev bufTy : (tb : Table) → Fin (tcTables nBuf tb) → BufTy
  | .hbm, ⟨0, _⟩ => ⟨S8x4352x4096, .f32⟩
  | .hbm, ⟨1, _⟩ => ⟨S8x4352x4096, .f32⟩
  | .hbm, ⟨2, _⟩ => ⟨S8x4352x4096, .f32⟩
  | .hbm, ⟨3, _⟩ => ⟨S8x4352x32, .f32⟩
  | .hbm, ⟨4, _⟩ => ⟨S_, .f32⟩
  | .hbm, ⟨5, _⟩ => ⟨S8x4352x4096, .f32⟩
  | .hbm, ⟨6, _⟩ => ⟨S8x4352x4096, .f32⟩
  | .hbm, ⟨7, _⟩ => ⟨S8x4352x4096, .bf16⟩
  | .hbm, ⟨8, _⟩ => ⟨S8x4352x4096, .bf16⟩
  | .hbm, ⟨9, _⟩ => ⟨S8x4352x4096, .bf16⟩
  | .hbm, ⟨10, _⟩ => ⟨S8x4352x32, .i32⟩
  | .hbm, ⟨11, _⟩ => ⟨S_, .i32⟩
  | .hbm, ⟨12, _⟩ => ⟨S_, .i32⟩
  | .hbm, ⟨13, _⟩ => ⟨S8x4352x32, .i32⟩
  | .hbm, ⟨14, _⟩ => ⟨S8x4352x32, .i32⟩
  | .hbm, ⟨15, _⟩ => ⟨S8x4352x32, .i32⟩
  | .hbm, ⟨16, _⟩ => ⟨S_, .i32⟩
  | .hbm, ⟨17, _⟩ => ⟨S8x4352x32, .i32⟩
  | .hbm, ⟨18, _⟩ => ⟨S8x4352x32, .i1⟩
  | .hbm, ⟨19, _⟩ => ⟨S8x4352x32, .i32⟩
  | .hbm, ⟨20, _⟩ => ⟨S8x4352x32, .i32⟩
  | .hbm, ⟨21, _⟩ => ⟨S_, .i32⟩
  | .hbm, ⟨22, _⟩ => ⟨S8x4352x32, .i32⟩
  | .hbm, ⟨23, _⟩ => ⟨S8x4352x32, .i1⟩
  | .hbm, ⟨24, _⟩ => ⟨S8x4352x32, .i1⟩
  | .hbm, ⟨25, _⟩ => ⟨S_, .i32⟩
  | .hbm, ⟨26, _⟩ => ⟨S8x4352x32, .i32⟩
  | .hbm, ⟨27, _⟩ => ⟨S8x4352x32, .i32⟩
  | .hbm, ⟨28, _⟩ => ⟨S8x4352x32, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8x4352x32, .i32⟩
  | .hbm, ⟨36, _⟩ => ⟨S8x4352x32, .i32⟩
  | .hbm, ⟨37, _⟩ => ⟨S_, .i32⟩
  | .hbm, ⟨38, _⟩ => ⟨S8x4352x32, .i32⟩
  | .hbm, ⟨39, _⟩ => ⟨S8x4352x32, .i1⟩
  | .hbm, ⟨40, _⟩ => ⟨S_, .i32⟩
  | .hbm, ⟨41, _⟩ => ⟨S8x4352x32, .i32⟩
  | .hbm, ⟨42, _⟩ => ⟨S8x4352x32, .i1⟩
  | .hbm, ⟨43, _⟩ => ⟨S_, .i32⟩
  | .hbm, ⟨44, _⟩ => ⟨S_, .i1⟩
  | .hbm, ⟨45, _⟩ => ⟨S8x4352x32, .i1⟩
  | .hbm, ⟨46, _⟩ => ⟨S8x4352x32, .i1⟩
  | .hbm, ⟨47, _⟩ => ⟨S8x4352x32, .i1⟩
  | .hbm, ⟨48, _⟩ => ⟨S8x4352x32, .i32⟩
  | .hbm, ⟨49, _⟩ => ⟨S8x4352x32, .i32⟩
  | .hbm, ⟨50, _⟩ => ⟨S8x4352x32, .i32⟩
  | .hbm, ⟨51, _⟩ => ⟨S_, .i32⟩
  | .hbm, ⟨52, _⟩ => ⟨S8x4352x32, .i32⟩
  | .hbm, ⟨53, _⟩ => ⟨S8x4352x32, .i1⟩
  | .hbm, ⟨54, _⟩ => ⟨S_, .f32⟩
  | .hbm, ⟨55, _⟩ => ⟨S8x4352x32, .f32⟩
  | .hbm, ⟨56, _⟩ => ⟨S8x4352x32, .f32⟩
  | .hbm, ⟨57, _⟩ => ⟨S8x4352x32, .f32⟩
  | .hbm, ⟨58, _⟩ => ⟨S8x4352x32, .f32⟩
  | .hbm, ⟨59, _⟩ => ⟨S8x4352x32, .f32⟩
  | .hbm, ⟨60, _⟩ => ⟨S8x4352x32, .f32⟩
  | .hbm, ⟨61, _⟩ => ⟨S8x4352x32, .f32⟩
  | .hbm, ⟨62, _⟩ => ⟨S8x4352x32, .f32⟩
  | .hbm, ⟨63, _⟩ => ⟨S8x4096x4352, .bf16⟩
  | .hbm, ⟨64, _⟩ => ⟨S8x32x4352, .f32⟩
  | .hbm, ⟨65, _⟩ => ⟨S2x8x4352x4096, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x32, .f32⟩
  | .local _ .vmem, ⟨9, _⟩ => ⟨S1x256x32, .f32⟩
  | .local _ .vmem, ⟨10, _⟩ => ⟨S1x32x256, .f32⟩
  | .local _ .vmem, ⟨11, _⟩ => ⟨S1x32x256, .f32⟩
  | .local _ .vmem, ⟨12, _⟩ => ⟨S1x1x256x2048, .bf16⟩
  | .local _ .vmem, ⟨13, _⟩ => ⟨S1x1x256x2048, .bf16⟩
  | .local _ .vmem, ⟨14, _⟩ => ⟨S4x512x512, .f32⟩
  | .local _ .vmem, ⟨15, _⟩ => ⟨S4x512x512, .bf16⟩
  | .local _ .vmem, ⟨16, _⟩ => ⟨S4x8x512, .f32⟩
  | .local _ .vmem, ⟨17, _⟩ => ⟨S4x1x1, .f32⟩
  | _, _ => ⟨S8x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v7 : Ref sig .tc := ⟨.hbm, 50, rfl⟩
abbrev main_c_1 : Ref sig .tc := ⟨.hbm, 51, rfl⟩
abbrev main_v8 : Ref sig .tc := ⟨.hbm, 52, rfl⟩
abbrev main_v9 : Ref sig .tc := ⟨.hbm, 53, rfl⟩
abbrev main_cst_2 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 8, 2, 17], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  ![arg1.toNat, v6.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  ![arg1.toNat, v6.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  ![arg1.toNat, arg2.toNat, v6.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  ![arg1.toNat, v6.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  let c0_i32_3 : BitVec 32 := 0#32
  ![arg1.toNat, v6.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  let c0_i32_3 : BitVec 32 := 0#32
  ![arg1.toNat, c0_i32_2.toNat, v6.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c16_i32 : BitVec 32 := 16#32
  let v2 : BitVec 32 := Scalar.subi c16_i32 arg3
  let c1_i32_0 : BitVec 32 := 1#32
  let v3 : BitVec 32 := Scalar.addi v2 c1_i32_0
  let v4 : BitVec 32 := Scalar.select v0 v1 v3
  let c0_i32_1 : BitVec 32 := 0#32
  let v5 : BitVec 1 := Scalar.cmpi .eq arg0 c0_i32_1
  let v6 : BitVec 32 := Scalar.select v5 arg3 v4
  let c0_i32_2 : BitVec 32 := 0#32
  ![arg0.toNat, arg1.toNat, v6.toNat, arg2.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S1x1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== ReferenceIdeal.lean ====
abbrev S8x4352x4096 : Shape := ⟨3, ![8, 4352, 4096]⟩
abbrev S8x4352x32 : Shape := ⟨3, ![8, 4352, 32]⟩
abbrev S8x4352x2x2x8 : Shape := ⟨5, ![8, 4352, 2, 2, 8]⟩
abbrev S2x2x8x8x4352 : Shape := ⟨5, ![2, 2, 8, 8, 4352]⟩
abbrev S8x4352x8x512 : Shape := ⟨4, ![8, 4352, 8, 512]⟩
abbrev S8x8x4352x512 : Shape := ⟨4, ![8, 8, 4352, 512]⟩
abbrev S8x8x256x512 : Shape := ⟨4, ![8, 8, 256, 512]⟩
abbrev S8x8x4096x512 : Shape := ⟨4, ![8, 8, 4096, 512]⟩
abbrev S16x8x4352x512 : Shape := ⟨4, ![16, 8, 4352, 512]⟩
abbrev S1x1x8x8x4352 : Shape := ⟨5, ![1, 1, 8, 8, 4352]⟩
abbrev S8x8x4352 : Shape := ⟨3, ![8, 8, 4352]⟩
abbrev S8x8x256 : Shape := ⟨3, ![8, 8, 256]⟩
abbrev S8x8x4096 : Shape := ⟨3, ![8, 8, 4096]⟩
abbrev S16x8x4352 : Shape := ⟨3, ![16, 8, 4352]⟩
abbrev S_ : Shape := ⟨0, ![]⟩
abbrev S64x64 : Shape := ⟨2, ![64, 64]⟩
abbrev S16x8x512x512 : Shape := ⟨4, ![16, 8, 512, 512]⟩
abbrev S16x8x512 : Shape := ⟨3, ![16, 8, 512]⟩
abbrev S16x8 : Shape := ⟨2, ![16, 8]⟩
abbrev S16x8x68x64x512 : Shape := ⟨5, ![16, 8, 68, 64, 512]⟩
abbrev S68x16x8x64x512 : Shape := ⟨5, ![68, 16, 8, 64, 512]⟩
abbrev S16x8x68x64 : Shape := ⟨4, ![16, 8, 68, 64]⟩
abbrev S68x16x8x64 : Shape := ⟨4, ![68, 16, 8, 64]⟩
abbrev S1x16x8x64x512 : Shape := ⟨5, ![1, 16, 8, 64, 512]⟩
abbrev S16x8x64x512 : Shape := ⟨4, ![16, 8, 64, 512]⟩
abbrev S1x16x8x64 : Shape := ⟨4, ![1, 16, 8, 64]⟩
abbrev S16x8x64 : Shape := ⟨3, ![16, 8, 64]⟩
abbrev S16x8x64x1 : Shape := ⟨4, ![16, 8, 64, 1]⟩
abbrev S16x8x1x64 : Shape := ⟨4, ![16, 8, 1, 64]⟩
abbrev S16x8x64x64 : Shape := ⟨4, ![16, 8, 64, 64]⟩
abbrev S16x8x1 : Shape := ⟨3, ![16, 8, 1]⟩
abbrev S16x8x1x1 : Shape := ⟨4, ![16, 8, 1, 1]⟩
abbrev S2x8x8x4352x512 : Shape := ⟨5, ![2, 8, 8, 4352, 512]⟩
abbrev S2x8x4352x8x512 : Shape := ⟨5, ![2, 8, 4352, 8, 512]⟩
abbrev S2x8x4352x4096 : Shape := ⟨4, ![2, 8, 4352, 4096]⟩

abbrev nBuf : Space → Nat
  | .hbm => 257
  | .vmem => 0
  | .smem => 0
  | _ => 0

abbrev hbmTy0_0 (i : Nat) : BufTy := match i % 128 with
  | 0 => ⟨S8x4352x4096, .f32⟩
  | 1 => ⟨S8x4352x4096, .f32⟩
  | 2 => ⟨S8x4352x4096, .f32⟩
  | 3 => ⟨S8x4352x32, .f32⟩
  | 4 => ⟨S8x4352x2x2x8, .f32⟩
  | 5 => ⟨S2x2x8x8x4352, .f32⟩
  | 6 => ⟨S8x4352x8x512, .f32⟩
  | 7 => ⟨S8x8x4352x512, .f32⟩
  | 8 => ⟨S8x4352x8x512, .f32⟩
  | 9 => ⟨S8x8x4352x512, .f32⟩
  | 10 => ⟨S8x4352x8x512, .f32⟩
  | 11 => ⟨S8x8x4352x512, .f32⟩
  | 12 => ⟨S8x8x256x512, .f32⟩
  | 13 => ⟨S8x8x256x512, .f32⟩
  | 14 => ⟨S8x8x4096x512, .f32⟩
  | 15 => ⟨S8x8x4096x512, .f32⟩
  | 16 => ⟨S8x8x4352x512, .f32⟩
  | 17 => ⟨S16x8x4352x512, .f32⟩
  | 18 => ⟨S8x8x256x512, .f32⟩
  | 19 => ⟨S8x8x256x512, .f32⟩
  | 20 => ⟨S8x8x4096x512, .f32⟩
  | 21 => ⟨S8x8x4096x512, .f32⟩
  | 22 => ⟨S8x8x4352x512, .f32⟩
  | 23 => ⟨S16x8x4352x512, .f32⟩
  | 24 => ⟨S8x8x256x512, .f32⟩
  | 25 => ⟨S8x8x256x512, .f32⟩
  | 26 => ⟨S8x8x4096x512, .f32⟩
  | 27 => ⟨S8x8x4096x512, .f32⟩
  | 28 => ⟨S8x8x4352x512, .f32⟩
  | 29 => ⟨S16x8x4352x512, .f32⟩
  | 30 => ⟨S1x1x8x8x4352, .f32⟩
  | 31 => ⟨S8x8x4352, .f32⟩
  | 32 => ⟨S1x1x8x8x4352, .f32⟩
  | 33 => ⟨S8x8x4352, .f32⟩
  | 34 => ⟨S8x8x256, .f32⟩
  | 35 => ⟨S8x8x256, .f32⟩
  | 36 => ⟨S8x8x4096, .f32⟩
  | 37 => ⟨S8x8x4096, .f32⟩
  | 38 => ⟨S8x8x4352, .f32⟩
  | 39 => ⟨S16x8x4352, .f32⟩
  | 40 => ⟨S1x1x8x8x4352, .f32⟩
  | 41 => ⟨S8x8x4352, .f32⟩
  | 42 => ⟨S8x8x4352, .f32⟩
  | 43 => ⟨S_, .f32⟩
  | 44 => ⟨S8x8x4352, .f32⟩
  | 45 => ⟨S8x8x4352, .f32⟩
  | 46 => ⟨S8x8x4352, .f32⟩
  | 47 => ⟨S8x8x4352, .f32⟩
  | 48 => ⟨S8x8x4352, .i1⟩
  | 49 => ⟨S8x8x4352, .f32⟩
  | 50 => ⟨S8x8x4352, .f32⟩
  | 51 => ⟨S8x8x4352, .f32⟩
  | 52 => ⟨S8x8x4352, .f32⟩
  | 53 => ⟨S8x8x4352, .f32⟩
  | 54 => ⟨S8x8x4352, .f32⟩
  | 55 => ⟨S8x8x4352, .f32⟩
  | 56 => ⟨S8x8x4352, .f32⟩
  | 57 => ⟨S8x8x4352, .f32⟩
  | 58 => ⟨S1x1x8x8x4352, .f32⟩
  | 59 => ⟨S8x8x4352, .f32⟩
  | 60 => ⟨S8x8x4352, .f32⟩
  | 61 => ⟨S_, .f32⟩
  | 62 => ⟨S8x8x4352, .f32⟩
  | 63 => ⟨S8x8x4352, .f32⟩
  | 64 => ⟨S8x8x4352, .f32⟩
  | 65 => ⟨S8x8x4352, .f32⟩
  | 66 => ⟨S8x8x4352, .i1⟩
  | 67 => ⟨S8x8x4352, .f32⟩
  | 68 => ⟨S8x8x4352, .f32⟩
  | 69 => ⟨S8x8x4352, .f32⟩
  | 70 => ⟨S8x8x4352, .f32⟩
  | 71 => ⟨S8x8x4352, .f32⟩
  | 72 => ⟨S8x8x4352, .f32⟩
  | 73 => ⟨S8x8x4352, .f32⟩
  | 74 => ⟨S8x8x4352, .f32⟩
  | 75 => ⟨S8x8x4352, .f32⟩
  | 76 => ⟨S8x8x256, .f32⟩
  | 77 => ⟨S8x8x256, .f32⟩
  | 78 => ⟨S8x8x4096, .f32⟩
  | 79 => ⟨S8x8x4096, .f32⟩
  | 80 => ⟨S8x8x4352, .f32⟩
  | 81 => ⟨S16x8x4352, .f32⟩
  | 82 => ⟨S_, .f32⟩
  | 83 => ⟨S16x8x4352x512, .f32⟩
  | 84 => ⟨S16x8x4352x512, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .f32⟩
  | 97 => ⟨S16x8x512x512, .f32⟩
  | 98 => ⟨S_, .f32⟩
  | 99 => ⟨S16x8x512, .f32⟩
  | 100 => ⟨S_, .f32⟩
  | 101 => ⟨S16x8, .f32⟩
  | 102 => ⟨S16x8x68x64x512, .f32⟩
  | 103 => ⟨S68x16x8x64x512, .f32⟩
  | 104 => ⟨S16x8x68x64x512, .f32⟩
  | 105 => ⟨S68x16x8x64x512, .f32⟩
  | 106 => ⟨S16x8x68x64x512, .f32⟩
  | 107 => ⟨S68x16x8x64x512, .f32⟩
  | 108 => ⟨S16x8x68x64, .f32⟩
  | 109 => ⟨S68x16x8x64, .f32⟩
  | 110 => ⟨S16x8x68x64, .f32⟩
  | 111 => ⟨S68x16x8x64, .f32⟩
  | 112 => ⟨S_, .f32⟩
  | 113 => ⟨S68x16x8x64x512, .f32⟩
  | 114 => ⟨S_, .i32⟩
  | 115 => ⟨S68x16x8x64x512, .f32⟩
  | 116 => ⟨S68x16x8x64x512, .f32⟩
  | 117 => ⟨S68x16x8x64x512, .f32⟩
  | 118 => ⟨S68x16x8x64, .f32⟩
  | 119 => ⟨S68x16x8x64, .f32⟩
  | 120 => ⟨S64x64, .i1⟩
  | 121 => ⟨S_, .i32⟩
  | 122 => ⟨S16x8x512x512, .f32⟩
  | 123 => ⟨S16x8x512, .f32⟩
  | 124 => ⟨S16x8, .f32⟩
  | 125 => ⟨S68x16x8x64x512, .f32⟩
  | 126 => ⟨S_, .i32⟩
  | 127 => ⟨S_, .i1⟩
  | _ => ⟨S8x4352x4096, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x8x64x512, .f32⟩
  | 5 => ⟨S16x8x64x512, .f32⟩
  | 6 => ⟨S_, .i32⟩
  | 7 => ⟨S_, .i32⟩
  | 8 => ⟨S_, .i32⟩
  | 9 => ⟨S_, .i32⟩
  | 10 => ⟨S1x16x8x64x512, .f32⟩
  | 11 => ⟨S16x8x64x512, .f32⟩
  | 12 => ⟨S_, .i32⟩
  | 13 => ⟨S_, .i32⟩
  | 14 => ⟨S_, .i32⟩
  | 15 => ⟨S_, .i32⟩
  | 16 => ⟨S1x16x8x64x512, .f32⟩
  | 17 => ⟨S16x8x64x512, .f32⟩
  | 18 => ⟨S_, .i32⟩
  | 19 => ⟨S_, .i32⟩
  | 20 => ⟨S_, .i32⟩
  | 21 => ⟨S1x16x8x64, .f32⟩
  | 22 => ⟨S16x8x64, .f32⟩
  | 23 => ⟨S_, .i32⟩
  | 24 => ⟨S_, .i32⟩
  | 25 => ⟨S_, .i32⟩
  | 26 => ⟨S1x16x8x64, .f32⟩
  | 27 => ⟨S16x8x64, .f32⟩
  | 28 => ⟨S_, .f32⟩
  | 29 => ⟨S_, .f32⟩
  | 30 => ⟨S16x8x64, .f32⟩
  | 31 => ⟨S16x8x64x1, .f32⟩
  | 32 => ⟨S16x8x1x64, .f32⟩
  | 33 => ⟨S16x8x64x64, .f32⟩
  | 34 => ⟨S16x8x64x64, .f32⟩
  | 35 => ⟨S16x8x64x64, .f32⟩
  | 36 => ⟨S16x8x1x64, .f32⟩
  | 37 => ⟨S16x8x64x64, .f32⟩
  | 38 => ⟨S16x8x64x64, .f32⟩
  | 39 => ⟨S_, .f32⟩
  | 40 => ⟨S_, .f32⟩
  | 41 => ⟨S16x8x64x64, .i1⟩
  | 42 => ⟨S16x8x64x64, .f32⟩
  | 43 => ⟨S16x8x64x64, .f32⟩
  | 44 => ⟨S16x8x1, .f32⟩
  | 45 => ⟨S16x8x64, .f32⟩
  | 46 => ⟨S16x8x64, .f32⟩
  | 47 => ⟨S_, .f32⟩
  | 48 => ⟨S16x8x64, .f32⟩
  | 49 => ⟨S16x8x64, .f32⟩
  | 50 => ⟨S16x8x64x1, .f32⟩
  | 51 => ⟨S16x8x64x64, .f32⟩
  | 52 => ⟨S16x8x64x64, .f32⟩
  | 53 => ⟨S16x8x64x64, .f32⟩
  | 54 => ⟨S16x8x64, .f32⟩
  | 55 => ⟨S16x8x64, .f32⟩
  | 56 => ⟨S16x8x64x64, .f32⟩
  | 57 => ⟨S16x8x64x64, .f32⟩
  | 58 => ⟨S16x8x64x1, .f32⟩
  | 59 => ⟨S16x8x64x512, .f32⟩
  | 60 => ⟨S16x8x64x512, .f32⟩
  | 61 => ⟨S16x8x64x512, .f32⟩
  | 62 => ⟨S16x8x64x512, .f32⟩
  | 63 => ⟨S16x8x64x512, .f32⟩
  | 64 => ⟨S16x8x64, .f32⟩
  | 65 => ⟨S16x8x64, .f32⟩
  | 66 => ⟨S_, .f32⟩
  | 67 => ⟨S16x8x64, .f32⟩
  | 68 => ⟨S16x8x64, .f32⟩
  | 69 => ⟨S16x8x64, .f32⟩
  | 70 => ⟨S16x8x64, .f32⟩
  | 71 => ⟨S16x8x64, .f32⟩
  | 72 => ⟨S16x8x64, .f32⟩
  | 73 => ⟨S16x8x64x1, .f32⟩
  | 74 => ⟨S16x8x64x512, .f32⟩
  | 75 => ⟨S16x8x64x512, .f32⟩
  | 76 => ⟨S16x8x1, .f32⟩
  | 77 => ⟨S16x8, .f32⟩
  | 78 => ⟨S16x8x1, .f32⟩
  | 79 => ⟨S16x8x64, .f32⟩
  | 80 => ⟨S16x8x64, .f32⟩
  | 81 => ⟨S16x8x64, .f32⟩
  | 82 => ⟨S16x8, .f32⟩
  | 83 => ⟨S_, .f32⟩
  | 84 => ⟨S16x8, .f32⟩
  | 85 => ⟨S16x8, .f32⟩
  | 86 => ⟨S16x8x1, .f32⟩
  | 87 => ⟨S16x8x64, .f32⟩
  | 88 => ⟨S16x8x64, .f32⟩
  | 89 => ⟨S16x8x64, .f32⟩
  | 90 => ⟨S16x8, .f32⟩
  | 91 => ⟨S16x8, .f32⟩
  | 92 => ⟨S16x8, .f32⟩
  | 93 => ⟨S16x8x64x1, .f32⟩
  | 94 => ⟨S16x8x64x512, .f32⟩
  | 95 => ⟨S16x8x64x512, .f32⟩
  | 96 => ⟨S16x8x1x1, .f32⟩
  | 97 => ⟨S16x8x512x512, .f32⟩
  | 98 => ⟨S16x8x512x512, .f32⟩
  | 99 => ⟨S16x8x512x512, .f32⟩
  | 100 => ⟨S16x8x512x512, .f32⟩
  | 101 => ⟨S16x8x1, .f32⟩
  | 102 => ⟨S16x8x512, .f32⟩
  | 103 => ⟨S16x8x512, .f32⟩
  | 104 => ⟨S_, .f32⟩
  | 105 => ⟨S16x8x512, .f32⟩
  | 106 => ⟨S16x8x512, .f32⟩
  | 107 => ⟨S1x16x8x64x512, .f32⟩
  | 108 => ⟨S_, .i32⟩
  | 109 => ⟨S_, .i32⟩
  | 110 => ⟨S_, .i32⟩
  | 111 => ⟨S_, .i32⟩
  | 112 => ⟨S68x16x8x64x512, .f32⟩
  | 113 => ⟨S_, .i32⟩
  | 114 => ⟨S_, .i32⟩
  | 115 => ⟨S16x8x68x64x512, .f32⟩
  | 116 => ⟨S16x8x4352x512, .f32⟩
  | 117 => ⟨S8x8x4352x512, .f32⟩
  | 118 => ⟨S8x8x4352x512, .f32⟩
  | 119 => ⟨S8x8x256x512, .f32⟩
  | 120 => ⟨S8x8x256x512, .f32⟩
  | 121 => ⟨S8x8x4096x512, .f32⟩
  | 122 => ⟨S8x8x4096x512, .f32⟩
  | 123 => ⟨S8x8x4352x512, .f32⟩
  | 124 => ⟨S16x8x4352x512, .f32⟩
  | 125 => ⟨S2x8x8x4352x512, .f32⟩
  | 126 => ⟨S2x8x4352x8x512, .f32⟩
  | 127 => ⟨S2x8x4352x4096, .f32⟩
  | _ => ⟨S8x4352x4096, .f32⟩

abbrev hbmTy0_2 (i : Nat) : BufTy := match i % 128 with
  | 0 => ⟨S2x8x4352x4096, .bf16⟩
  | _ => ⟨S8x4352x4096, .f32⟩

abbrev hbmTy (i : Nat) : BufTy := match i / 128 with
  | 0 => hbmTy0_0 i
  | 1 => hbmTy0_1 i
  | 2 => hbmTy0_2 i
  | _ => ⟨S8x4352x4096, .f32⟩

abbrev bufTy : (tb : Table) → Fin (tcTables nBuf tb) → BufTy
  | .hbm, ⟨i, _⟩ => hbmTy i
  | _, _ => ⟨S8x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_call0_cst : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_call0_v2 : Ref sig .tc := ⟨.hbm, 64, rfl⟩
abbrev main_call1_call0_v3 : Ref sig .tc := ⟨.hbm, 65, rfl⟩
abbrev main_call1_call0_v4 : Ref sig .tc := ⟨.hbm, 66, rfl⟩
abbrev main_call1_call0_v5 : Ref sig .tc := ⟨.hbm, 67, rfl⟩
abbrev main_call1_call0_v6 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_v1 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst : Ref sig .tc := ⟨.hbm, 82, rfl⟩
abbrev main_v48 : Ref sig .tc := ⟨.hbm, 83, rfl⟩
abbrev main_v49 : Ref sig .tc := ⟨.hbm, 84, rfl⟩
abbrev main_c : Ref sig .tc := ⟨.hbm, 85, rfl⟩
abbrev main_v50 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_c_0 : Ref sig .tc := ⟨.hbm, 93, rfl⟩
abbrev main_call2_v5 : Ref sig .tc := ⟨.hbm, 94, rfl⟩
abbrev main_v51 : Ref sig .tc := ⟨.hbm, 95, rfl⟩
abbrev main_cst_0 : Ref sig .tc := ⟨.hbm, 96, rfl⟩
abbrev main_v52 : Ref sig .tc := ⟨.hbm, 97, rfl⟩
abbrev main_cst_1 : Ref sig .tc := ⟨.hbm, 98, rfl⟩
abbrev main_v53 : Ref sig .tc := ⟨.hbm, 99, rfl⟩
abbrev main_cst_2 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_3 : Ref sig .tc := ⟨.hbm, 112, rfl⟩
abbrev main_v65 : Ref sig .tc := ⟨.hbm, 113, rfl⟩
abbrev main_c_4 : Ref sig .tc := ⟨.hbm, 114, rfl⟩
abbrev main_v66_0 : Ref sig .tc := ⟨.hbm, 115, rfl⟩
abbrev main_v66_1 : Ref sig .tc := ⟨.hbm, 116, rfl⟩
abbrev main_v66_2 : Ref sig .tc := ⟨.hbm, 117, rfl⟩
abbrev main_v66_3 : Ref sig .tc := ⟨.hbm, 118, rfl⟩
abbrev main_v66_4 : Ref sig .tc := ⟨.hbm, 119, rfl⟩
abbrev main_v66_5 : Ref sig .tc := ⟨.hbm, 120, rfl⟩
abbrev main_v66_6 : Ref sig .tc := ⟨.hbm, 121, rfl⟩
abbrev main_v66_7 : Ref sig .tc := ⟨.hbm, 122, rfl⟩
abbrev main_v66_8 : Ref sig .tc := ⟨.hbm, 123, rfl⟩
abbrev main_v66_9 : Ref sig .tc := ⟨.hbm, 124, rfl⟩
abbrev main_v66_10 : Ref sig .tc := ⟨.hbm, 125, rfl⟩
abbrev main_while0c_c_15 : Ref sig .tc := ⟨.hbm, 126, rfl⟩
abbrev main_while0c_v81 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_c_2 : Ref sig .tc := ⟨.hbm, 131, rfl⟩
abbrev main_while0b_call3_v0 : Ref sig .tc := ⟨.hbm, 132, rfl⟩
abbrev main_while0b_v81 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_call4_c_1 : Ref sig .tc := ⟨.hbm, 136, rfl⟩
abbrev main_while0b_call4_c_2 : Ref sig .tc := ⟨.hbm, 137, rfl⟩
abbrev main_while0b_call4_v0 : Ref sig .tc := ⟨.hbm, 138, rfl⟩
abbrev main_while0b_v82 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_c_1 : Ref sig .tc := ⟨.hbm, 142, rfl⟩
abbrev main_while0b_call5_c_2 : Ref sig .tc := ⟨.hbm, 143, rfl⟩
abbrev main_while0b_call5_v0 : Ref sig .tc := ⟨.hbm, 144, rfl⟩
abbrev main_while0b_v83 : Ref sig .tc := ⟨.hbm, 145, rfl⟩
abbrev main_while0b_call6_c : Ref sig .tc := ⟨.hbm, 146, rfl⟩
abbrev main_while0b_call6_c_0 : Ref sig .tc := ⟨.hbm, 147, rfl⟩
abbrev main_while0b_call6_c_1 : Ref sig .tc := ⟨.hbm, 148, rfl⟩
abbrev main_while0b_call6_v0 : Ref sig .tc := ⟨.hbm, 149, rfl⟩
abbrev main_while0b_v84 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_call7_v0 : Ref sig .tc := ⟨.hbm, 154, rfl⟩
abbrev main_while0b_v85 : Ref sig .tc := ⟨.hbm, 155, rfl⟩
abbrev main_while0b_call8_call0_cst : Ref sig .tc := ⟨.hbm, 156, rfl⟩
abbrev main_while0b_call8_call0_v0 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_v89 : Ref sig .tc := ⟨.hbm, 161, rfl⟩
abbrev main_while0b_v90 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_cst_15 : Ref sig .tc := ⟨.hbm, 167, rfl⟩
abbrev main_while0b_call9_v0 : Ref sig .tc := ⟨.hbm, 168, rfl⟩
abbrev main_while0b_call9_v1 : Ref sig .tc := ⟨.hbm, 169, rfl⟩
abbrev main_while0b_call9_v2 : Ref sig .tc := ⟨.hbm, 170, rfl⟩
abbrev main_while0b_v95 : Ref sig .tc := ⟨.hbm, 171, rfl⟩
abbrev main_while0b_v96 : Ref sig .tc := ⟨.hbm, 172, rfl⟩
abbrev main_while0b_v97 : Ref sig .tc := ⟨.hbm, 173, rfl⟩
abbrev main_while0b_v98 : Ref sig .tc := ⟨.hbm, 174, rfl⟩
abbrev main_while0b_cst_16 : Ref sig .tc := ⟨.hbm, 175, rfl⟩
abbrev main_while0b_v99 : Ref sig .tc := ⟨.hbm, 176, rfl⟩
abbrev main_while0b_v100 : Ref sig .tc := ⟨.hbm, 177, rfl⟩
abbrev main_while0b_v101 : Ref sig .tc := ⟨.hbm, 178, rfl⟩
abbrev main_while0b_v102 : Ref sig .tc := ⟨.hbm, 179, rfl⟩
abbrev main_while0b_v103 : Ref sig .tc := ⟨.hbm, 180, rfl⟩
abbrev main_while0b_v104 : Ref sig .tc := ⟨.hbm, 181, rfl⟩
abbrev main_while0b_v105 : Ref sig .tc := ⟨.hbm, 182, rfl⟩
abbrev main_while0b_v106 : Ref sig .tc := ⟨.hbm, 183, rfl⟩
abbrev main_while0b_v107 : Ref sig .tc := ⟨.hbm, 184, rfl⟩
abbrev main_while0b_v108 : Ref sig .tc := ⟨.hbm, 185, rfl⟩
abbrev main_while0b_v109 : Ref sig .tc := ⟨.hbm, 186, rfl⟩
abbrev main_while0b_v110 : Ref sig .tc := ⟨.hbm, 187, rfl⟩
abbrev main_while0b_v111 : Ref sig .tc := ⟨.hbm, 188, rfl⟩
abbrev main_while0b_v112 : Ref sig .tc := ⟨.hbm, 189, rfl⟩
abbrev main_while0b_v113 : Ref sig .tc := ⟨.hbm, 190, rfl⟩
abbrev main_while0b_v114 : Ref sig .tc := ⟨.hbm, 191, rfl⟩
abbrev main_while0b_v115 : Ref sig .tc := ⟨.hbm, 192, rfl⟩
abbrev main_while0b_v116 : Ref sig .tc := ⟨.hbm, 193, rfl⟩
abbrev main_while0b_cst_17 : Ref sig .tc := ⟨.hbm, 194, rfl⟩
abbrev main_while0b_v117 : Ref sig .tc := ⟨.hbm, 195, rfl⟩
abbrev main_while0b_v118 : Ref sig .tc := ⟨.hbm, 196, rfl⟩
abbrev main_while0b_v119 : Ref sig .tc := ⟨.hbm, 197, rfl⟩
abbrev main_while0b_v120 : Ref sig .tc := ⟨.hbm, 198, rfl⟩
abbrev main_while0b_v121 : Ref sig .tc := ⟨.hbm, 199, rfl⟩
abbrev main_while0b_v122 : Ref sig .tc := ⟨.hbm, 200, rfl⟩
abbrev main_while0b_v123 : Ref sig .tc := ⟨.hbm, 201, rfl⟩
abbrev main_while0b_v124 : Ref sig .tc := ⟨.hbm, 202, rfl⟩
abbrev main_while0b_v125 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_v129 : Ref sig .tc := ⟨.hbm, 207, rfl⟩
abbrev main_while0b_v130 : Ref sig .tc := ⟨.hbm, 208, rfl⟩
abbrev main_while0b_v131 : Ref sig .tc := ⟨.hbm, 209, rfl⟩
abbrev main_while0b_v132 : Ref sig .tc := ⟨.hbm, 210, rfl⟩
abbrev main_while0b_cst_18 : Ref sig .tc := ⟨.hbm, 211, rfl⟩
abbrev main_while0b_v133 : Ref sig .tc := ⟨.hbm, 212, rfl⟩
abbrev main_while0b_v134 : Ref sig .tc := ⟨.hbm, 213, rfl⟩
abbrev main_while0b_v135 : Ref sig .tc := ⟨.hbm, 214, rfl⟩
abbrev main_while0b_v136 : Ref sig .tc := ⟨.hbm, 215, rfl⟩
abbrev main_while0b_v137 : Ref sig .tc := ⟨.hbm, 216, rfl⟩
abbrev main_while0b_v138 : Ref sig .tc := ⟨.hbm, 217, rfl⟩
abbrev main_while0b_v139 : Ref sig .tc := ⟨.hbm, 218, rfl⟩
abbrev main_while0b_v140 : Ref sig .tc := ⟨.hbm, 219, rfl⟩
abbrev main_while0b_v141 : Ref sig .tc := ⟨.hbm, 220, rfl⟩
abbrev main_while0b_v142 : Ref sig .tc := ⟨.hbm, 221, rfl⟩
abbrev main_while0b_v143 : Ref sig .tc := ⟨.hbm, 222, rfl⟩
abbrev main_while0b_v144 : Ref sig .tc := ⟨.hbm, 223, rfl⟩
abbrev main_while0b_v145 : Ref sig .tc := ⟨.hbm, 224, rfl⟩
abbrev main_while0b_v146 : Ref sig .tc := ⟨.hbm, 225, rfl⟩
abbrev main_while0b_v147 : Ref sig .tc := ⟨.hbm, 226, rfl⟩
abbrev main_while0b_v148 : Ref sig .tc := ⟨.hbm, 227, rfl⟩
abbrev main_while0b_v149 : Ref sig .tc := ⟨.hbm, 228, rfl⟩
abbrev main_while0b_v150 : Ref sig .tc := ⟨.hbm, 229, rfl⟩
abbrev main_while0b_v151 : Ref sig .tc := ⟨.hbm, 230, rfl⟩
abbrev main_while0b_v152 : Ref sig .tc := ⟨.hbm, 231, rfl⟩
abbrev main_while0b_cst_19 : Ref sig .tc := ⟨.hbm, 232, rfl⟩
abbrev main_while0b_v153 : Ref sig .tc := ⟨.hbm, 233, rfl⟩
abbrev main_while0b_v154 : Ref sig .tc := ⟨.hbm, 234, rfl⟩
abbrev main_while0b_call10_v0 : Ref sig .tc := ⟨.hbm, 235, rfl⟩
abbrev main_while0b_call10_c : Ref sig .tc := ⟨.hbm, 236, rfl⟩
abbrev main_while0b_call10_c_0 : Ref sig .tc := ⟨.hbm, 237, rfl⟩
abbrev main_while0b_call10_c_1 : Ref sig .tc := ⟨.hbm, 238, rfl⟩
abbrev main_while0b_call10_c_2 : Ref sig .tc := ⟨.hbm, 239, rfl⟩
abbrev main_while0b_v155 : Ref sig .tc := ⟨.hbm, 240, rfl⟩
abbrev main_while0b_c_20 : Ref sig .tc := ⟨.hbm, 241, rfl⟩
abbrev main_while0b_v156 : Ref sig .tc := ⟨.hbm, 242, rfl⟩
abbrev main_v67 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_v74 : Ref sig .tc := ⟨.hbm, 250, rfl⟩
abbrev main_v75 : Ref sig .tc := ⟨.hbm, 251, rfl⟩
abbrev main_v76 : Ref sig .tc := ⟨.hbm, 252, rfl⟩
abbrev main_v77 : Ref sig .tc := ⟨.hbm, 253, rfl⟩
abbrev main_v78 : Ref sig .tc := ⟨.hbm, 254, rfl⟩
abbrev main_v79 : Ref sig .tc := ⟨.hbm, 255, rfl⟩
abbrev main_v80 : Ref sig .tc := ⟨.hbm, 256, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S8x4096x2048 : Shape := ⟨3, ![8, 4096, 2048]⟩
abbrev S2048 : Shape := ⟨1, ![2048]⟩
abbrev S8x2048 : Shape := ⟨2, ![8, 2048]⟩
abbrev S2048x12288 : Shape := ⟨2, ![2048, 12288]⟩
abbrev S32768x2048 : Shape := ⟨2, ![32768, 2048]⟩
abbrev S1x2048 : Shape := ⟨2, ![1, 2048]⟩
abbrev S8x1x2048 : Shape := ⟨3, ![8, 1, 2048]⟩
abbrev S32768x4096 : Shape := ⟨2, ![32768, 4096]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x12288, .f32⟩
  | .hbm, ⟨5, _⟩ => ⟨S2048x12288, .bf16⟩
  | .hbm, ⟨6, _⟩ => ⟨S32768x2048, .f32⟩
  | .hbm, ⟨7, _⟩ => ⟨S1x2048, .f32⟩
  | .hbm, ⟨8, _⟩ => ⟨S8x1x2048, .f32⟩
  | .hbm, ⟨9, _⟩ => ⟨S8x1x2048, .f32⟩
  | .hbm, ⟨10, _⟩ => ⟨S32768x4096, .bf16⟩
  | .hbm, ⟨11, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .slt v9 c0_i32_3
  let c4_i32_4 : BitVec 32 := 4#32
  let v11 : BitVec 32 := Scalar.divsi arg0 c4_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg0 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c7_i32 : BitVec 32 := 7#32
  let v28 : BitVec 32 := Scalar.select v10 c7_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .slt v9 c0_i32_3
  let c4_i32_4 : BitVec 32 := 4#32
  let v11 : BitVec 32 := Scalar.divsi arg0 c4_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg0 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c7_i32 : BitVec 32 := 7#32
  let v28 : BitVec 32 := Scalar.select v10 c7_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x2048 : Shape := ⟨3, ![8, 4096, 2048]⟩
abbrev S2048 : Shape := ⟨1, ![2048]⟩
abbrev S8x2048 : Shape := ⟨2, ![8, 2048]⟩
abbrev S2048x12288 : Shape := ⟨2, ![2048, 12288]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x12288 : Shape := ⟨3, ![8, 4096, 12288]⟩
abbrev S8x4096x4096 : Shape := ⟨3, ![8, 4096, 4096]⟩
abbrev S32768x4096 : Shape := ⟨2, ![32768, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x12288, .f32⟩
  | .hbm, ⟨5, _⟩ => ⟨S8x1x2048, .f32⟩
  | .hbm, ⟨6, _⟩ => ⟨S8x1x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x12288, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S32768x4096, .f32⟩
  | .hbm, ⟨44, _⟩ => ⟨S32768x4096, .bf16⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S32768x4096, .f32⟩
  | .hbm, ⟨55, _⟩ => ⟨S32768x4096, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048 : Shape := ⟨1, ![2048]⟩
abbrev S8x2048 : Shape := ⟨2, ![8, 2048]⟩
abbrev S2048x16384 : Shape := ⟨2, ![2048, 16384]⟩
abbrev S32768x2048 : Shape := ⟨2, ![32768, 2048]⟩
abbrev S1x2048 : Shape := ⟨2, ![1, 2048]⟩
abbrev S8x1x2048 : Shape := ⟨3, ![8, 1, 2048]⟩
abbrev S32768x4096 : Shape := ⟨2, ![32768, 4096]⟩
abbrev S1024x2048 : Shape := ⟨2, ![1024, 2048]⟩
abbrev S1x1x2048 : Shape := ⟨3, ![1, 1, 2048]⟩
abbrev S2048x256 : Shape := ⟨2, ![2048, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 14
  | .vmem => 24
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x16384, .f32⟩
  | .hbm, ⟨5, _⟩ => ⟨S2048x16384, .bf16⟩
  | .hbm, ⟨6, _⟩ => ⟨S32768x2048, .f32⟩
  | .hbm, ⟨7, _⟩ => ⟨S1x2048, .f32⟩
  | .hbm, ⟨8, _⟩ => ⟨S8x1x2048, .f32⟩
  | .hbm, ⟨9, _⟩ => ⟨S8x1x2048, .f32⟩
  | .hbm, ⟨10, _⟩ => ⟨S32768x4096, .bf16⟩
  | .hbm, ⟨11, _⟩ => ⟨S32768x4096, .bf16⟩
  | .hbm, ⟨12, _⟩ => ⟨S32768x4096, .bf16⟩
  | .hbm, ⟨13, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .slt v9 c0_i32_3
  let c4_i32_4 : BitVec 32 := 4#32
  let v11 : BitVec 32 := Scalar.divsi arg0 c4_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg0 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c7_i32 : BitVec 32 := 7#32
  let v28 : BitVec 32 := Scalar.select v10 c7_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .slt v9 c0_i32_3
  let c4_i32_4 : BitVec 32 := 4#32
  let v11 : BitVec 32 := Scalar.divsi arg0 c4_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg0 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c7_i32 : BitVec 32 := 7#32
  let v28 : BitVec 32 := Scalar.select v10 c7_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x2048 : Shape := ⟨3, ![8, 4096, 2048]⟩
abbrev S2048 : Shape := ⟨1, ![2048]⟩
abbrev S8x2048 : Shape := ⟨2, ![8, 2048]⟩
abbrev S2048x16384 : Shape := ⟨2, ![2048, 16384]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x16384 : Shape := ⟨3, ![8, 4096, 16384]⟩
abbrev S8x4096x4096 : Shape := ⟨3, ![8, 4096, 4096]⟩
abbrev S32768x4096 : Shape := ⟨2, ![32768, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x16384, .f32⟩
  | .hbm, ⟨5, _⟩ => ⟨S8x1x2048, .f32⟩
  | .hbm, ⟨6, _⟩ => ⟨S8x1x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x16384, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S32768x4096, .f32⟩
  | .hbm, ⟨45, _⟩ => ⟨S32768x4096, .bf16⟩
  | .hbm, ⟨46, _⟩ => ⟨S32768x4096, .f32⟩
  | .hbm, ⟨47, _⟩ => ⟨S32768x4096, .bf16⟩
  | .hbm, ⟨48, _⟩ => ⟨S32768x4096, .f32⟩
  | .hbm, ⟨49, _⟩ => ⟨S32768x4096, .bf16⟩
  | .hbm, ⟨50, _⟩ => ⟨S32768x4096, .f32⟩
  | .hbm, ⟨51, _⟩ => ⟨S32768x4096, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel4.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x2048 : Shape := ⟨2, ![8, 2048]⟩
abbrev S2048 : Shape := ⟨1, ![2048]⟩
abbrev S32768x4096 : Shape := ⟨2, ![32768, 4096]⟩
abbrev S32768x2048 : Shape := ⟨2, ![32768, 2048]⟩
abbrev S8x1x2048 : Shape := ⟨3, ![8, 1, 2048]⟩
abbrev S1x2048 : Shape := ⟨2, ![1, 2048]⟩
abbrev S512x4096 : Shape := ⟨2, ![512, 4096]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S8x4096x2048, .f32⟩
  | .hbm, ⟨3, _⟩ => ⟨S8x2048, .f32⟩
  | .hbm, ⟨4, _⟩ => ⟨S2048, .f32⟩
  | .hbm, ⟨5, _⟩ => ⟨S8x4096x4096, .bf16⟩
  | .hbm, ⟨6, _⟩ => ⟨S4096x2048, .bf16⟩
  | .hbm, ⟨7, _⟩ => ⟨S32768x4096, .bf16⟩
  | .hbm, ⟨8, _⟩ => ⟨S32768x2048, .f32⟩
  | .hbm, ⟨9, _⟩ => ⟨S8x1x2048, .f32⟩
  | .hbm, ⟨10, _⟩ => ⟨S1x2048, .f32⟩
  | .hbm, ⟨11, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x2048 : Shape := ⟨2, ![8, 2048]⟩
abbrev S2048 : Shape := ⟨1, ![2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S8x4096x2048, .f32⟩
  | .hbm, ⟨3, _⟩ => ⟨S8x2048, .f32⟩
  | .hbm, ⟨4, _⟩ => ⟨S2048, .f32⟩
  | .hbm, ⟨5, _⟩ => ⟨S8x1x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x2048, .f32⟩
  | .hbm, ⟨22, _⟩ => ⟨S8x4096x2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S32768x2048, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel5.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x2048 : Shape := ⟨2, ![8, 2048]⟩
abbrev S32768x4096 : Shape := ⟨2, ![32768, 4096]⟩
abbrev S32768x2048 : Shape := ⟨2, ![32768, 2048]⟩
abbrev S8x1x2048 : Shape := ⟨3, ![8, 1, 2048]⟩
abbrev S512x4096 : Shape := ⟨2, ![512, 4096]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S8x4096x2048, .f32⟩
  | .hbm, ⟨3, _⟩ => ⟨S8x2048, .f32⟩
  | .hbm, ⟨4, _⟩ => ⟨S8x4096x4096, .bf16⟩
  | .hbm, ⟨5, _⟩ => ⟨S4096x2048, .bf16⟩
  | .hbm, ⟨6, _⟩ => ⟨S32768x4096, .bf16⟩
  | .hbm, ⟨7, _⟩ => ⟨S32768x2048, .f32⟩
  | .hbm, ⟨8, _⟩ => ⟨S8x1x2048, .f32⟩
  | .hbm, ⟨9, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x2048 : Shape := ⟨2, ![8, 2048]⟩
abbrev S8x1x2048 : Shape := ⟨3, ![8, 1, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S8x4096x2048, .f32⟩
  | .hbm, ⟨3, _⟩ => ⟨S8x2048, .f32⟩
  | .hbm, ⟨4, _⟩ => ⟨S8x1x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S32768x2048, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8x256x2048 : Shape := ⟨3, ![8, 256, 2048]⟩
abbrev S8x4096x2048 : Shape := ⟨3, ![8, 4096, 2048]⟩
abbrev S2048 : Shape := ⟨1, ![2048]⟩
abbrev S8x2048 : Shape := ⟨2, ![8, 2048]⟩
abbrev S2048x8192 : Shape := ⟨2, ![2048, 8192]⟩
abbrev S_ : Shape := ⟨0, ![]⟩
abbrev S8x4608x2048 : Shape := ⟨3, ![8, 4608, 2048]⟩
abbrev S1x2048 : Shape := ⟨2, ![1, 2048]⟩
abbrev S9x2048 : Shape := ⟨2, ![9, 2048]⟩
abbrev S36864x2048 : Shape := ⟨2, ![36864, 2048]⟩
abbrev S9x1x2048 : Shape := ⟨3, ![9, 1, 2048]⟩
abbrev S36864x4096 : Shape := ⟨2, ![36864, 4096]⟩
abbrev S512x2048 : Shape := ⟨2, ![512, 2048]⟩
abbrev S1x1x2048 : Shape := ⟨3, ![1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S8x4096x2048, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S_, .f32⟩
  | .hbm, ⟨9, _⟩ => ⟨S8x256x2048, .f32⟩
  | .hbm, ⟨10, _⟩ => ⟨S8x4608x2048, .f32⟩
  | .hbm, ⟨11, _⟩ => ⟨S1x2048, .f32⟩
  | .hbm, ⟨12, _⟩ => ⟨S9x2048, .f32⟩
  | .hbm, ⟨13, _⟩ => ⟨S1x2048, .f32⟩
  | .hbm, ⟨14, _⟩ => ⟨S9x2048, .f32⟩
  | .hbm, ⟨15, _⟩ => ⟨S2048x8192, .bf16⟩
  | .hbm, ⟨16, _⟩ => ⟨S36864x2048, .f32⟩
  | .hbm, ⟨17, _⟩ => ⟨S1x2048, .f32⟩
  | .hbm, ⟨18, _⟩ => ⟨S9x1x2048, .f32⟩
  | .hbm, ⟨19, _⟩ => ⟨S9x1x2048, .f32⟩
  | .hbm, ⟨20, _⟩ => ⟨S36864x4096, .bf16⟩
  | .hbm, ⟨21, _⟩ => ⟨S36864x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![72, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8x256x2048 : Shape := ⟨3, ![8, 256, 2048]⟩
abbrev S8x4096x2048 : Shape := ⟨3, ![8, 4096, 2048]⟩
abbrev S2048 : Shape := ⟨1, ![2048]⟩
abbrev S8x2048 : Shape := ⟨2, ![8, 2048]⟩
abbrev S2048x8192 : Shape := ⟨2, ![2048, 8192]⟩
abbrev S_ : Shape := ⟨0, ![]⟩
abbrev S8x512x2048 : Shape := ⟨3, ![8, 512, 2048]⟩
abbrev S8x512 : Shape := ⟨2, ![8, 512]⟩
abbrev S8x512x1 : Shape := ⟨3, ![8, 512, 1]⟩
abbrev S1x1x2048 : Shape := ⟨3, ![1, 1, 2048]⟩
abbrev S8x1x2048 : Shape := ⟨3, ![8, 1, 2048]⟩
abbrev S8x4096 : Shape := ⟨2, ![8, 4096]⟩
abbrev S8x4096x1 : Shape := ⟨3, ![8, 4096, 1]⟩
abbrev S8x512x8192 : Shape := ⟨3, ![8, 512, 8192]⟩
abbrev S8x512x4096 : Shape := ⟨3, ![8, 512, 4096]⟩
abbrev S8x4096x8192 : Shape := ⟨3, ![8, 4096, 8192]⟩
abbrev S8x4096x4096 : Shape := ⟨3, ![8, 4096, 4096]⟩
abbrev S8x4608x4096 : Shape := ⟨3, ![8, 4608, 4096]⟩
abbrev S36864x4096 : Shape := ⟨2, ![36864, 4096]⟩

abbrev nBuf : Space → Nat
  | .hbm => 82
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x4096x2048, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S_, .i32⟩
  | .hbm, ⟨9, _⟩ => ⟨S_, .f32⟩
  | .hbm, ⟨10, _⟩ => ⟨S8x512x2048, .f32⟩
  | .hbm, ⟨11, _⟩ => ⟨S8x512x2048, .f32⟩
  | .hbm, ⟨12, _⟩ => ⟨S_, .f32⟩
  | .hbm, ⟨13, _⟩ => ⟨S8x512, .f32⟩
  | .hbm, ⟨14, _⟩ => ⟨S8x512x1, .f32⟩
  | .hbm, ⟨15, _⟩ => ⟨S_, .f32⟩
  | .hbm, ⟨16, _⟩ => ⟨S8x512x1, .f32⟩
  | .hbm, ⟨17, _⟩ => ⟨S8x512x1, .f32⟩
  | .hbm, ⟨18, _⟩ => ⟨S_, .f32⟩
  | .hbm, ⟨19, _⟩ => ⟨S8x512x1, .f32⟩
  | .hbm, ⟨20, _⟩ => ⟨S8x512x1, .f32⟩
  | .hbm, ⟨21, _⟩ => ⟨S8x512x1, .f32⟩
  | .hbm, ⟨22, _⟩ => ⟨S8x512x2048, .f32⟩
  | .hbm, ⟨23, _⟩ => ⟨S8x512x2048, .f32⟩
  | .hbm, ⟨24, _⟩ => ⟨S1x1x2048, .f32⟩
  | .hbm, ⟨25, _⟩ => ⟨S8x512x2048, .f32⟩
  | .hbm, ⟨26, _⟩ => ⟨S8x512x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x1x2048, .f32⟩
  | .hbm, ⟨31, _⟩ => ⟨S8x512x2048, .f32⟩
  | .hbm, ⟨32, _⟩ => ⟨S8x512x2048, .f32⟩
  | .hbm, ⟨33, _⟩ => ⟨S1x1x2048, .f32⟩
  | .hbm, ⟨34, _⟩ => ⟨S8x512x2048, .f32⟩
  | .hbm, ⟨35, _⟩ => ⟨S8x512x2048, .f32⟩
  | .hbm, ⟨36, _⟩ => ⟨S8x1x2048, .f32⟩
  | .hbm, ⟨37, _⟩ => ⟨S8x1x2048, .f32⟩
  | .hbm, ⟨38, _⟩ => ⟨S8x4096x2048, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x2048, .f32⟩
  | .hbm, ⟨50, _⟩ => ⟨S8x4096x2048, .f32⟩
  | .hbm, ⟨51, _⟩ => ⟨S1x1x2048, .f32⟩
  | .hbm, ⟨52, _⟩ => ⟨S8x4096x2048, .f32⟩
  | .hbm, ⟨53, _⟩ => ⟨S8x4096x2048, .f32⟩
  | .hbm, ⟨54, _⟩ => ⟨S_, .f32⟩
  | .hbm, ⟨55, _⟩ => ⟨S8x1x2048, .f32⟩
  | .hbm, ⟨56, _⟩ => ⟨S8x1x2048, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S8x4096x2048, .f32⟩
  | .hbm, ⟨61, _⟩ => ⟨S8x512x8192, .f32⟩
  | .hbm, ⟨62, _⟩ => ⟨S8x512x4096, .f32⟩
  | .hbm, ⟨63, _⟩ => ⟨S8x512x4096, .f32⟩
  | .hbm, ⟨64, _⟩ => ⟨S8x4096x8192, .f32⟩
  | .hbm, ⟨65, _⟩ => ⟨S8x4096x4096, .f32⟩
  | .hbm, ⟨66, _⟩ => ⟨S8x4096x4096, .f32⟩
  | .hbm, ⟨67, _⟩ => ⟨S8x4608x4096, .f32⟩
  | .hbm, ⟨68, _⟩ => ⟨S8x4608x4096, .f32⟩
  | .hbm, ⟨69, _⟩ => ⟨S36864x4096, .f32⟩
  | .hbm, ⟨70, _⟩ => ⟨S36864x4096, .bf16⟩
  | .hbm, ⟨71, _⟩ => ⟨S8x4608x4096, .f32⟩
  | .hbm, ⟨72, _⟩ => ⟨S8x4608x4096, .f32⟩
  | .hbm, ⟨73, _⟩ => ⟨S_, .f32⟩
  | .hbm, ⟨74, _⟩ => ⟨S8x4608x4096, .f32⟩
  | .hbm, ⟨75, _⟩ => ⟨S8x4608x4096, .f32⟩
  | .hbm, ⟨76, _⟩ => ⟨S_, .f32⟩
  | .hbm, ⟨77, _⟩ => ⟨S8x4608x4096, .f32⟩
  | .hbm, ⟨78, _⟩ => ⟨S8x4608x4096, .f32⟩
  | .hbm, ⟨79, _⟩ => ⟨S8x4608x4096, .f32⟩
  | .hbm, ⟨80, _⟩ => ⟨S36864x4096, .f32⟩
  | .hbm, ⟨81, _⟩ => ⟨S36864x4096, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel7.lean ====
abbrev S2x8x4352x4096 : Shape := ⟨4, ![2, 8, 4352, 4096]⟩
abbrev S8x4352x4096 : Shape := ⟨3, ![8, 4352, 4096]⟩
abbrev S8x4608x4096 : Shape := ⟨3, ![8, 4608, 4096]⟩
abbrev S4096 : Shape := ⟨1, ![4096]⟩
abbrev S4096x2048 : Shape := ⟨2, ![4096, 2048]⟩
abbrev S8x4096x2048 : Shape := ⟨3, ![8, 4096, 2048]⟩
abbrev S8x2048 : Shape := ⟨2, ![8, 2048]⟩
abbrev S1x4096 : Shape := ⟨2, ![1, 4096]⟩
abbrev S32768x2048 : Shape := ⟨2, ![32768, 2048]⟩
abbrev S8x1x2048 : Shape := ⟨3, ![8, 1, 2048]⟩
abbrev S1x1x256x4096 : Shape := ⟨4, ![1, 1, 256, 4096]⟩
abbrev S1x256x4096 : Shape := ⟨3, ![1, 256, 4096]⟩
abbrev S256x2048 : Shape := ⟨2, ![256, 2048]⟩
abbrev S1x1x2048 : Shape := ⟨3, ![1, 1, 2048]⟩
abbrev S256x4096 : Shape := ⟨2, ![256, 4096]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S1x256x512 : Shape := ⟨3, ![1, 256, 512]⟩
abbrev S1x2048 : Shape := ⟨2, ![1, 2048]⟩

abbrev nBuf : Space → Nat
  | .hbm => 19
  | .vmem => 20
  | .smem => 0
  | _ => 0

abbrev bufTy : (tb : Table) → Fin (tcTables nBuf tb) → BufTy
  | .hbm, ⟨0, _⟩ => ⟨S2x8x4352x4096, .f32⟩
  | .hbm, ⟨1, _⟩ => ⟨S8x4352x4096, .f32⟩
  | .hbm, ⟨2, _⟩ => ⟨S8x4352x4096, .f32⟩
  | .hbm, ⟨3, _⟩ => ⟨S8x4608x4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S8x4096x2048, .f32⟩
  | .hbm, ⟨8, _⟩ => ⟨S8x2048, .f32⟩
  | .hbm, ⟨9, _⟩ => ⟨S2x8x4352x4096, .bf16⟩
  | .hbm, ⟨10, _⟩ => ⟨S8x4352x4096, .bf16⟩
  | .hbm, ⟨11, _⟩ => ⟨S8x4352x4096, .bf16⟩
  | .hbm, ⟨12, _⟩ => ⟨S8x4608x4096, .bf16⟩
  | .hbm, ⟨13, _⟩ => ⟨S4096x2048, .bf16⟩
  | .hbm, ⟨14, _⟩ => ⟨S1x4096, .f32⟩
  | .hbm, ⟨15, _⟩ => ⟨S1x4096, .f32⟩
  | .hbm, ⟨16, _⟩ => ⟨S32768x2048, .f32⟩
  | .hbm, ⟨17, _⟩ => ⟨S8x1x2048, .f32⟩
  | .hbm, ⟨18, _⟩ => ⟨S32768x2048, .f32⟩
  | .local _ .vmem, ⟨0, _⟩ => ⟨S1x1x256x4096, .bf16⟩
  | .local _ .vmem, ⟨1, _⟩ => ⟨S1x1x256x4096, .bf16⟩
  | .local _ .vmem, ⟨2, _⟩ => ⟨S1x1x256x4096, .bf16⟩
  | .local _ .vmem, ⟨3, _⟩ => ⟨S1x1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x4096, .f32⟩
  | .local _ .vmem, ⟨11, _⟩ => ⟨S1x4096, .f32⟩
  | .local _ .vmem, ⟨12, _⟩ => ⟨S4096x2048, .bf16⟩
  | .local _ .vmem, ⟨13, _⟩ => ⟨S256x2048, .f32⟩
  | .local _ .vmem, ⟨14, _⟩ => ⟨S256x2048, .f32⟩
  | .local _ .vmem, ⟨15, _⟩ => ⟨S1x1x2048, .f32⟩
  | .local _ .vmem, ⟨16, _⟩ => ⟨S1x1x2048, .f32⟩
  | .local _ .vmem, ⟨17, _⟩ => ⟨S256x2048, .f32⟩
  | .local _ .vmem, ⟨18, _⟩ => ⟨S256x2048, .f32⟩
  | .local _ .vmem, ⟨19, _⟩ => ⟨S256x4096, .bf16⟩
  | _, _ => ⟨S2x8x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi c1_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi c1_i32_10 v26
  let c1_i32_11 : BitVec 32 := 1#32
  let c0_i32_12 : BitVec 32 := 0#32
  let c0_i32_13 : BitVec 32 := 0#32
  ![c1_i32_11.toNat, v16.toNat, v27.toNat, c0_i32_12.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi c1_i32_10 v26
  let c0_i32_11 : BitVec 32 := 0#32
  let c0_i32_12 : BitVec 32 := 0#32
  ![v16.toNat, v27.toNat, c0_i32_11.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi c1_i32_10 v26
  let c0_i32_11 : BitVec 32 := 0#32
  let c0_i32_12 : BitVec 32 := 0#32
  ![v16.toNat, v27.toNat, c0_i32_11.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_10 : BitVec 32 := 0#32
  let c0_i32_11 : BitVec 32 := 0#32
  ![v16.toNat, v27.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S2x8x4352x4096 : Shape := ⟨4, ![2, 8, 4352, 4096]⟩
abbrev S8x4352x4096 : Shape := ⟨3, ![8, 4352, 4096]⟩
abbrev S8x4608x4096 : Shape := ⟨3, ![8, 4608, 4096]⟩
abbrev S4096 : Shape := ⟨1, ![4096]⟩
abbrev S4096x2048 : Shape := ⟨2, ![4096, 2048]⟩
abbrev S8x4096x2048 : Shape := ⟨3, ![8, 4096, 2048]⟩
abbrev S8x2048 : Shape := ⟨2, ![8, 2048]⟩
abbrev S1x8x4352x4096 : Shape := ⟨4, ![1, 8, 4352, 4096]⟩
abbrev S8x4352x8x512 : Shape := ⟨4, ![8, 4352, 8, 512]⟩
abbrev S8x8x4352x512 : Shape := ⟨4, ![8, 8, 4352, 512]⟩
abbrev S_ : Shape := ⟨0, ![]⟩
abbrev S8x8x4352 : Shape := ⟨3, ![8, 8, 4352]⟩
abbrev S8x8x4352x1 : Shape := ⟨4, ![8, 8, 4352, 1]⟩
abbrev S8x1x512 : Shape := ⟨3, ![8, 1, 512]⟩
abbrev S1x8x1x512 : Shape := ⟨4, ![1, 8, 1, 512]⟩
abbrev S1x1x4096 : Shape := ⟨3, ![1, 1, 4096]⟩
abbrev S8x1x2048 : Shape := ⟨3, ![8, 1, 2048]⟩
abbrev S8x4096x4096 : Shape := ⟨3, ![8, 4096, 4096]⟩
abbrev S32768x2048 : Shape := ⟨2, ![32768, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x8x4352x4096, .f32⟩
  | .hbm, ⟨1, _⟩ => ⟨S8x4352x4096, .f32⟩
  | .hbm, ⟨2, _⟩ => ⟨S8x4352x4096, .f32⟩
  | .hbm, ⟨3, _⟩ => ⟨S8x4608x4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S8x4096x2048, .f32⟩
  | .hbm, ⟨8, _⟩ => ⟨S8x2048, .f32⟩
  | .hbm, ⟨9, _⟩ => ⟨S1x8x4352x4096, .f32⟩
  | .hbm, ⟨10, _⟩ => ⟨S8x4352x4096, .f32⟩
  | .hbm, ⟨11, _⟩ => ⟨S1x8x4352x4096, .f32⟩
  | .hbm, ⟨12, _⟩ => ⟨S8x4352x4096, .f32⟩
  | .hbm, ⟨13, _⟩ => ⟨S8x4352x4096, .f32⟩
  | .hbm, ⟨14, _⟩ => ⟨S8x4352x8x512, .f32⟩
  | .hbm, ⟨15, _⟩ => ⟨S8x8x4352x512, .f32⟩
  | .hbm, ⟨16, _⟩ => ⟨S_, .f32⟩
  | .hbm, ⟨17, _⟩ => ⟨S8x8x4352, .f32⟩
  | .hbm, ⟨18, _⟩ => ⟨S8x8x4352x1, .f32⟩
  | .hbm, ⟨19, _⟩ => ⟨S_, .f32⟩
  | .hbm, ⟨20, _⟩ => ⟨S8x8x4352x1, .f32⟩
  | .hbm, ⟨21, _⟩ => ⟨S8x8x4352x1, .f32⟩
  | .hbm, ⟨22, _⟩ => ⟨S8x8x4352x512, .f32⟩
  | .hbm, ⟨23, _⟩ => ⟨S8x8x4352x512, .f32⟩
  | .hbm, ⟨24, _⟩ => ⟨S8x8x4352x512, .f32⟩
  | .hbm, ⟨25, _⟩ => ⟨S_, .f32⟩
  | .hbm, ⟨26, _⟩ => ⟨S8x8x4352, .f32⟩
  | .hbm, ⟨27, _⟩ => ⟨S8x8x4352x1, .f32⟩
  | .hbm, ⟨28, _⟩ => ⟨S_, .f32⟩
  | .hbm, ⟨29, _⟩ => ⟨S8x8x4352x1, .f32⟩
  | .hbm, ⟨30, _⟩ => ⟨S8x8x4352x1, .f32⟩
  | .hbm, ⟨31, _⟩ => ⟨S8x8x4352x512, .f32⟩
  | .hbm, ⟨32, _⟩ => ⟨S8x8x4352x512, .f32⟩
  | .hbm, ⟨33, _⟩ => ⟨S_, .f32⟩
  | .hbm, ⟨34, _⟩ => ⟨S8x8x4352x1, .f32⟩
  | .hbm, ⟨35, _⟩ => ⟨S8x8x4352x1, .f32⟩
  | .hbm, ⟨36, _⟩ => ⟨S8x8x4352x1, .f32⟩
  | .hbm, ⟨37, _⟩ => ⟨S8x8x4352x512, .f32⟩
  | .hbm, ⟨38, _⟩ => ⟨S8x8x4352x512, .f32⟩
  | .hbm, ⟨39, _⟩ => ⟨S8x1x512, .f32⟩
  | .hbm, ⟨40, _⟩ => ⟨S1x8x1x512, .f32⟩
  | .hbm, ⟨41, _⟩ => ⟨S8x8x4352x512, .f32⟩
  | .hbm, ⟨42, _⟩ => ⟨S8x8x4352x512, .f32⟩
  | .hbm, ⟨43, _⟩ => ⟨S8x4352x8x512, .f32⟩
  | .hbm, ⟨44, _⟩ => ⟨S8x4352x4096, .f32⟩
  | .hbm, ⟨45, _⟩ => ⟨S8x4352x4096, .f32⟩
  | .hbm, ⟨46, _⟩ => ⟨S1x1x4096, .f32⟩
  | .hbm, ⟨47, _⟩ => ⟨S8x4352x4096, .f32⟩
  | .hbm, ⟨48, _⟩ => ⟨S8x4352x4096, .f32⟩
  | .hbm, ⟨49, _⟩ => ⟨S8x4352x4096, .f32⟩
  | .hbm, ⟨50, _⟩ => ⟨S8x4352x4096, .f32⟩
  | .hbm, ⟨51, _⟩ => ⟨S8x4352x4096, .f32⟩
  | .hbm, ⟨52, _⟩ => ⟨S8x1x2048, .f32⟩
  | .hbm, ⟨53, _⟩ => ⟨S8x4096x4096, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S32768x2048, .f32⟩
  | _, _ => ⟨S2x8x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Rows.lean ====
module

public import Idealize.ShloMosaic.Lib.MatmulPlain
public import Idealize.ShloMosaic.Lib.Tactic
public import Idealize.ShloMosaic.Lib.Pointwise

@[expose] public section

noncomputable section

open Idealize.ShloMosaic

/-! # The tokens of the eight sequences, laid out as one column of rows -/

namespace Cert.Rows

/-- The sequence a row belongs to. -/
def seq (r : Fin 32768) : Fin 8 := ⟨r.val / 4096, by omega⟩
/-- The place of a row in its sequence. -/
def tok (r : Fin 32768) : Fin 4096 := ⟨r.val % 4096, by omega⟩

/-- The gated rows through the output projection, added to the residual. -/
def gated (y : Fin 8 → Fin 4096 → Fin 4096 → EReal) (w : Fin 4096 → Fin 2048 → EReal) (h : Fin 8 → Fin 4096 → Fin 2048 → EReal)
    (g : Fin 8 → Fin 2048 → EReal) (b : Fin 8) (s : Fin 4096) (j : Fin 2048) : EReal :=
  h b s j + g b j * ∑ k, y b s k * w k j

/-- The root mean square a row is divided by, as its reciprocal. -/
def scale (x : Fin 2048 → EReal) : EReal :=
  Ideal.rsqrt (Ideal.div (∑ k, x k * x k) (Ideal.ofBits .f32 0x45000000#32) + Ideal.ofBits .f32 0x358637BD#32)

/-- A row normalised, times the weights of its lanes. -/
def normed (x g : Fin 2048 → EReal) (j : Fin 2048) : EReal := x j * scale x * g j

/-- A normalised row, scaled and shifted. -/
def modulated (x g sh sc : Fin 2048 → EReal) (k : Fin 2048) : EReal := normed x g k * (1 + sc k) + sh k

theorem modulated_congr {x x' g g' sh sh' sc sc' : Fin 2048 → EReal} (hx : ∀ k, x k = x' k) (hg : ∀ k, g k = g' k) (hsh : ∀ k, sh k = sh' k)
    (hsc : ∀ k, sc k = sc' k) (k : Fin 2048) : modulated x g sh sc k = modulated x' g' sh' sc' k := by
  rw [funext hx, funext hg, funext hsh, funext hsc]

/-- The rows a projection reads. -/
def input (h : Fin 8 → Fin 4096 → Fin 2048 → EReal) (g : Fin 2048 → EReal) (sh sc : Fin 8 → Fin 2048 → EReal) (r : Fin 32768) : Fin 2048 → EReal :=
  modulated (h (seq r) (tok r)) g (sh (seq r)) (sc (seq r))

/-- A row through one column of the weights. -/
def through {E : ℕ} (x : Fin 2048 → EReal) (w : Fin 2048 → Fin E → EReal) (e : Fin E) : EReal := ∑ k, x k * w k e

/-- Column `j` of a group of the weights' columns that starts at column `o`. -/
def col {E : ℕ} (o : ℕ) (h : o + 4096 ≤ E) (j : Fin 4096) : Fin E := ⟨o + j.val, by omega⟩

/-- The logistic function. -/
def sigmoid (x : EReal) : EReal := Ideal.div 1 (1 + Ideal.exp (-x))

/-- A matrix product accumulated into zeros, at an index. -/
theorem matmul_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (r : Fin M) (j : Fin N) :
    matmul d none a b (constant ⟨2, ![M, N]⟩ .f32 0#32) (ix2 r j) = ∑ k : Fin K, a (ix2 r k) * b (ix2 k j) := by
  subst hd
  refine (Ideal.matmul_plain_apply none a b _ r j).trans ?_
  pointwise
  rfl

end Cert.Rows

end
-- ==== Proof.Out5.lean ====
module

public import proofs.«01_k».proof.Proof.Gen.Kernel5Ideal.Value
public import proofs.«01_k».proof.Proof.Gen.Reference5Ideal.Run
public import Idealize.ShloMosaic.Lib.StableHlo.RunRead
public import Idealize.ShloMosaic.Lib.Tactic
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.Kernel5Ideal.Out

open Cert.Kernel5Ideal Cert.Kernel5Ideal.Gen

theorem index : ∀ t : Fin grid0.N, win0_0.index t = ![t.val, 0] ∧ win0_1.index t = ![0, 0] ∧ win0_2.index t = ![t.val, 0]
    ∧ win0_3.index t = ![t.val / 8, 0, 0] ∧ win0_4.index t = ![t.val, 0] := by decide +kernel

section
variable (m : (ℓ : Loc nD τ sig) → Buf (Elt Ideal) ℓ) (c : Dev nD)

/-- What a block of rows stores, at an index. -/
theorem pay_apply (a b c' d) (r : Fin 512) (j : Fin 2048) : k0_pay1 (F := Ideal) a b c' d (ix2 r j)
    = c' (ix2 r j) + d (ix3 0 0 j) * ∑ k : Fin 4096, a (ix2 r k) * b (ix2 k j) := by
  have e : k0_pay1 a b c' d (ix2 r j) = c' (ix2 r j) + d (ix3 0 0 j)
      * matmul (φ₁ := .bf16) (φ₂ := .bf16) dot_S512x4096_S4096x2048_S512x2048_1_0_0_1_n_n none a b (constant S512x2048 .f32 0#32) (ix2 r j) := by pointwise [k0_pay1]
  exact e.trans (congrArg (c' (ix2 r j) + d (ix3 0 0 j) * ·) (Rows.matmul_apply (φ₁ := .bf16) (φ₂ := .bf16) _ rfl a b r j))

theorem out_eq (a b c' d) : out0_4 (F := Ideal) a b c' d = k0_pay1 a b c' d := by
  unfold out0_4
  rw [View.canon_cons_unit_lit _ _ _ (by decide), View.ld_unit_zero (by decide), View.ld_unit_zero (by decide), View.ld_unit_zero (by decide), View.ld_unit_zero (by decide)]

/-! ## The arguments as the call reads them -/

theorem main_v2_apply (r : Fin 32768) (k : Fin 4096) : V m c main_v2 (ix2 r k) = m ((c.tc : Thread nD τ).loc main_arg0) (ix3 (Rows.seq r) (Rows.tok r) k) := by
  unfold_abbrev_sides; after_reads_simp; pointwise [Rows.seq, Rows.tok]
theorem main_v1_apply (r : Fin 4096) (k : Fin 2048) : V m c main_v1 (ix2 r k) = m ((c.tc : Thread nD τ).loc main_arg1) (ix2 r k) := by
  unfold_abbrev_sides; after_reads_simp; pointwise [Rows.seq, Rows.tok]
theorem main_v3_apply (r : Fin 32768) (k : Fin 2048) : V m c main_v3 (ix2 r k) = m ((c.tc : Thread nD τ).loc main_arg2) (ix3 (Rows.seq r) (Rows.tok r) k) := by
  unfold_abbrev_sides; after_reads_simp; pointwise [Rows.seq, Rows.tok]
theorem main_v4_apply (r : Fin 8) (k : Fin 2048) : V m c main_v4 (ix3 r 0 k) = m ((c.tc : Thread nD τ).loc main_arg3) (ix2 r k) := by
  unfold_abbrev_sides; after_reads_simp; pointwise [Rows.seq, Rows.tok]

/-- The result array after the run. -/
theorem array : (dats m 0 c).arrAt 4 cfg0.N = fun i => Rows.gated (fun b s k => m ((c.tc : Thread nD τ).loc main_arg0) (ix3 b s k))
    (fun k j => m ((c.tc : Thread nD τ).loc main_arg1) (ix2 k j)) (fun b s j => m ((c.tc : Thread nD τ).loc main_arg2) (ix3 b s j))
    (fun b j => m ((c.tc : Thread nD τ).loc main_arg3) (ix2 b j)) (Rows.seq (i 0)) (Rows.tok (i 0)) (i 1) := by
  refine (dats m 0 c).arrAt_eq_of_covers 4 _ (by decide +kernel) fun t hf y => ?_
  blk_simp [after0_4]
  have ht : t.val < 64 := lt_of_lt_of_eq t.isLt (by decide)
  obtain ⟨r, j, rfl⟩ : ∃ (r : Fin 512) (j : Fin 2048), y = ix2 r j := ⟨y 0, y 1, (ix2_eta y).symm⟩
  let R : Fin 32768 := ⟨512 * t.val + r.val, by omega⟩
  have e0 : (win0_4.blk t).view.emb (ix2 r j) 0 = R := Fin.ext (by
    blk_simp [index t, R]; exact congrArg (· + r.val) (Nat.mul_comm _ _))
  have e1 : (win0_4.blk t).view.emb (ix2 r j) 1 = j := Fin.ext (by blk_simp [index t])
  have b0 : ∀ k : Fin 4096, iblk m c 0 t (ix2 r k) = V m c main_v2 (ix2 R k) := fun k => by blk_ext [iblk, index t, R]
  have b1 : ∀ (i : Fin 4096) (k : Fin 2048), iblk m c 1 t (ix2 i k) = V m c main_v1 (ix2 i k) := fun i k => by blk_ext [iblk, index t]
  have b2 : iblk m c 2 t (ix2 r j) = V m c main_v3 (ix2 R j) := by blk_ext [iblk, index t, R]
  have b3 : iblk m c 3 t (ix3 0 0 j) = V m c main_v4 (ix3 (Rows.seq R) 0 j) := by blk_ext [iblk, index t, R, Rows.seq]
  rw [e0, e1, out_eq, pay_apply]
  exact congrArg₂ (· + ·) (b2.trans (main_v3_apply m c R j)) (congrArg₂ (· * ·) (b3.trans (main_v4_apply m c _ j))
    (Finset.sum_congr rfl fun k _ => congrArg₂ (· * ·) ((b0 k).trans (main_v2_apply m c R k)) ((b1 k j).trans (main_v1_apply m c k j))))

end
end Cert.Kernel5Ideal.Out

namespace Cert.Reference5Ideal.Out
open Cert.Reference5Ideal Cert.Reference5Ideal.Gen

theorem dot_apply (y : FVec Ideal S8x4096x4096 .f32) (w : FVec Ideal S4096x2048 .f32) (b : Fin 8) (s : Fin 4096) (j : Fin 2048) :
    Host.dotGeneral dot_S8x4096x4096_S4096x2048_S8x4096x2048_2_0_01_1_n_n none y w (ix3 b s j) = ∑ k : Fin 4096, y (ix3 b s k) * w (ix2 k j) := by
  pointwise

/-- The residual with the gated projection added. -/
def x (y : FVec Ideal S8x4096x4096 .f32) (w : FVec Ideal S4096x2048 .f32) (h : FVec Ideal S8x4096x2048 .f32) (g : FVec Ideal S8x2048 .f32) : FVec Ideal S8x4096x2048 .f32 :=
  addf h (mulf (broadcastInDim S8x4096x2048 ![0, 1, 2] bcast_S8x1x2048_S8x4096x2048_0_1_2 (broadcastInDim S8x1x2048 ![0, 2] bcast_S8x2048_S8x1x2048_0_2 g)) (Host.dotGeneral dot_S8x4096x4096_S4096x2048_S8x4096x2048_2_0_01_1_n_n none y w))

theorem x_apply (y w h g) (b : Fin 8) (s : Fin 4096) (j : Fin 2048) : x y w h g (ix3 b s j)
    = Rows.gated (fun b s k => y (ix3 b s k)) (fun k j => w (ix2 k j)) (fun b s k => h (ix3 b s k)) (fun b s => g (ix2 b s)) b s j := by
  rw [Rows.gated, ← dot_apply]
  pointwise [x]

/-- The reference's result, at an index. -/
theorem result_apply (y w h g) (r : Fin 32768) (j : Fin 2048) : (shapeCast _ (x y w h g) shapeCasts_S8x4096x2048_S32768x2048 : FVec Ideal S32768x2048 .f32) (ix2 r j)
    = Rows.gated (fun b s k => y (ix3 b s k)) (fun k j => w (ix2 k j)) (fun b s k => h (ix3 b s k)) (fun b s => g (ix2 b s)) (Rows.seq r) (Rows.tok r) j := by
  rw [← x_apply]
  pointwise [Rows.seq, Rows.tok]

end Cert.Reference5Ideal.Out
end
-- ==== Proof.Out4.lean ====
module

public import proofs.«01_k».proof.Proof.Gen.Kernel4Ideal.Value
public import proofs.«01_k».proof.Proof.Gen.Reference4Ideal.Run
public import Idealize.ShloMosaic.Lib.StableHlo.RunRead
public import Idealize.ShloMosaic.Lib.Tactic
public import Idealize.ShloMosaic.Lib.Pipeline.ValueKit
public import Idealize.ShloMosaic.Lib.Pointwise
public import proofs.«01_k».proof.Proof.Out5

@[expose] public section

set_option maxRecDepth 16384

noncomputable section

open Idealize.ShloMosaic Idealize.ShloMosaic.TcCoe Idealize.SL.Sem

namespace Cert.Kernel4Ideal.Out

open Cert.Kernel4Ideal Cert.Kernel4Ideal.Gen

theorem index : ∀ t : Fin grid0.N, win0_0.index t = ![t.val, 0] ∧ win0_1.index t = ![0, 0] ∧ win0_2.index t = ![t.val, 0]
    ∧ win0_3.index t = ![t.val / 8, 0, 0] ∧ win0_4.index t = ![0, 0] ∧ win0_5.index t = ![t.val, 0] := by decide +kernel

section
variable (m : (ℓ : Loc nD τ sig) → Buf (Elt Ideal) ℓ) (c : Dev nD)

/-- The normalisation of a block of rows. -/
def norm (x : FVec Ideal S512x2048 .f32) (g : FVec Ideal S1x2048 .f32) : FVec Ideal S512x2048 .f32 :=
  mulf (mulf x (broadcastTo S512x2048 (rsqrt (addf (divf (shapeCast S512x1 (multiReduction .add [1] S512 (mulf x x) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048))
    (broadcastTo S512x2048 (shapeCast S1x2048 g shapeCasts_S1x2048_S1x2048) broadcasts_S1x2048_S512x2048)

theorem norm_apply (x g) (r : Fin 512) (j : Fin 2048) : norm x g (ix2 r j) = Rows.normed (fun j => x (ix2 r j)) (fun j => g (ix2 0 j)) j := by
  pointwise [norm, Rows.normed]
  rfl

theorem out_eq (a b c' d e) : out0_5 (F := Ideal) a b c' d e = norm (Cert.Kernel5Ideal.Gen.k0_pay1 a b c' d) e := by
  unfold out0_5
  rw [View.canon_cons_unit_lit _ _ _ (by decide), View.ld_unit_zero (by decide), View.ld_unit_zero (by decide), View.ld_unit_zero (by decide), View.ld_unit_zero (by decide), View.ld_unit_zero (by decide)]
  rfl

/-! ## The arguments as the call reads them -/

theorem main_v2_apply (r : Fin 32768) (k : Fin 4096) : V m c main_v2 (ix2 r k) = m ((c.tc : Thread nD τ).loc main_arg0) (ix3 (Rows.seq r) (Rows.tok r) k) := by
  unfold_abbrev_sides; after_reads_simp; pointwise [Rows.seq, Rows.tok]
theorem main_v1_apply (r : Fin 4096) (k : Fin 2048) : V m c main_v1 (ix2 r k) = m ((c.tc : Thread nD τ).loc main_arg1) (ix2 r k) := by
  unfold_abbrev_sides; after_reads_simp; pointwise [Rows.seq, Rows.tok]
theorem main_v3_apply (r : Fin 32768) (k : Fin 2048) : V m c main_v3 (ix2 r k) = m ((c.tc : Thread nD τ).loc main_arg2) (ix3 (Rows.seq r) (Rows.tok r) k) := by
  unfold_abbrev_sides; after_reads_simp; pointwise [Rows.seq, Rows.tok]
theorem main_v4_apply (r : Fin 8) (k : Fin 2048) : V m c main_v4 (ix3 r 0 k) = m ((c.tc : Thread nD τ).loc main_arg3) (ix2 r k) := by
  unfold_abbrev_sides; after_reads_simp; pointwise [Rows.seq, Rows.tok]

theorem main_v5_apply (k : Fin 2048) : V m c main_v5 (ix2 0 k) = m ((c.tc : Thread nD τ).loc main_arg4) (ix1 k) := by
  unfold_abbrev_sides; after_reads_simp; pointwise

/-- The result array after the run. -/
theorem array : (dats m 0 c).arrAt 5 cfg0.N = fun i => Rows.normed (Rows.gated (fun b s k => m ((c.tc : Thread nD τ).loc main_arg0) (ix3 b s k))
    (fun k j => m ((c.tc : Thread nD τ).loc main_arg1) (ix2 k j)) (fun b s j => m ((c.tc : Thread nD τ).loc main_arg2) (ix3 b s j))
    (fun b j => m ((c.tc : Thread nD τ).loc main_arg3) (ix2 b j)) (Rows.seq (i 0)) (Rows.tok (i 0))) (fun j => m ((c.tc : Thread nD τ).loc main_arg4) (ix1 j)) (i 1) := by
  refine (dats m 0 c).arrAt_eq_of_covers 5 _ (by decide +kernel) fun t hf y => ?_
  blk_simp [after0_5]
  have ht : t.val < 64 := lt_of_lt_of_eq t.isLt (by decide)
  obtain ⟨r, j, rfl⟩ : ∃ (r : Fin 512) (j : Fin 2048), y = ix2 r j := ⟨y 0, y 1, (ix2_eta y).symm⟩
  let R : Fin 32768 := ⟨512 * t.val + r.val, by omega⟩
  have e0 : (win0_5.blk t).view.emb (ix2 r j) 0 = R := Fin.ext (by
    blk_simp [index t, R]; exact congrArg (· + r.val) (Nat.mul_comm _ _))
  have e1 : (win0_5.blk t).view.emb (ix2 r j) 1 = j := Fin.ext (by blk_simp [index t])
  have b0 : ∀ k : Fin 4096, iblk m c 0 t (ix2 r k) = V m c main_v2 (ix2 R k) := fun k => by blk_ext [iblk, index t, R]
  have b1 : ∀ (i : Fin 4096) (k : Fin 2048), iblk m c 1 t (ix2 i k) = V m c main_v1 (ix2 i k) := fun i k => by blk_ext [iblk, index t]
  have b2 : ∀ j : Fin 2048, iblk m c 2 t (ix2 r j) = V m c main_v3 (ix2 R j) := fun j => by blk_ext [iblk, index t, R]
  have b3 : ∀ j : Fin 2048, iblk m c 3 t (ix3 0 0 j) = V m c main_v4 (ix3 (Rows.seq R) 0 j) := fun j => by blk_ext [iblk, index t, R, Rows.seq]
  have b4 : ∀ j : Fin 2048, iblk m c 4 t (ix2 0 j) = V m c main_v5 (ix2 0 j) := fun j => by blk_ext [iblk, index t]
  rw [e0, e1, out_eq, norm_apply]
  refine congrArg₂ (fun x g => Rows.normed x g j) (funext fun j => ?_) (funext fun j => (b4 j).trans (main_v5_apply m c j))
  rw [Cert.Kernel5Ideal.Out.pay_apply]
  exact congrArg₂ (· + ·) ((b2 j).trans (main_v3_apply m c R j)) (congrArg₂ (· * ·) ((b3 j).trans (main_v4_apply m c _ j))
    (Finset.sum_congr rfl fun k _ => congrArg₂ (· * ·) ((b0 k).trans (main_v2_apply m c R k)) ((b1 k j).trans (main_v1_apply m c k j))))

end
end Cert.Kernel4Ideal.Out

namespace Cert.Reference4Ideal.Out
open Cert.Reference4Ideal Cert.Reference4Ideal.Gen

/-- The normalisation of the rows. -/
def norm (x : FVec Ideal S8x4096x2048 .f32) (g : FVec Ideal S2048 .f32) : FVec Ideal S8x4096x2048 .f32 :=
  mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

theorem norm_apply (x g) (b : Fin 8) (s : Fin 4096) (j : Fin 2048) : norm x g (ix3 b s j) = Rows.normed (fun j => x (ix3 b s j)) (fun j => g (ix1 j)) j := by
  pointwise [norm, Rows.normed]
  rfl

/-- The reference's result, at an index. -/
theorem result_apply (y w h g f) (r : Fin 32768) (j : Fin 2048) :
    (shapeCast _ (norm (Cert.Reference5Ideal.Out.x y w h g) f) shapeCasts_S8x4096x2048_S32768x2048 : FVec Ideal S32768x2048 .f32) (ix2 r j)
    = Rows.normed (Rows.gated (fun b s k => y (ix3 b s k)) (fun k j => w (ix2 k j)) (fun b s k => h (ix3 b s k)) (fun b s => g (ix2 b s)) (Rows.seq r) (Rows.tok r))
      (fun j => f (ix1 j)) j := by
  refine Eq.trans ?_ ((norm_apply _ f (Rows.seq r) (Rows.tok r) j).trans (congrArg (fun x => Rows.normed x _ j) (funext fun j => Cert.Reference5Ideal.Out.x_apply y w h g _ _ j)))
  pointwise [Rows.seq, Rows.tok]

end Cert.Reference4Ideal.Out
end
-- ==== Proof.In2.lean ====
module

public import proofs.«01_k».proof.Proof.Gen.Kernel2Ideal.Frame
public import proofs.«01_k».proof.Proof.Gen.Reference2Ideal.Run
public import Idealize.ShloMosaic.Lib.StableHlo.RunRead
public import Idealize.ShloMosaic.Lib.Tactic
public import Idealize.ShloMosaic.Lib.Pipeline.ValueKit
public import Idealize.ShloMosaic.Lib.Pipeline.ValueKit.Acc
public import Idealize.ShloMosaic.Lib.Pointwise
public import proofs.«01_k».proof.Proof.Out4

@[expose] public section

set_option maxRecDepth 16384

noncomputable section

open Idealize.ShloMosaic Idealize.ShloMosaic.TcCoe Idealize.SL.Sem

namespace Cert.Kernel2Ideal.In

open Cert.Kernel2Ideal Cert.Kernel2Ideal.Gen

theorem index : ∀ t : Fin grid0.N, win0_0.index t = ![t.val / 8, 0] ∧ win0_1.index t = ![0, 0] ∧ win0_2.index t = ![t.val / 32, 0, 0]
    ∧ win0_3.index t = ![t.val / 32, 0, 0] ∧ win0_4.index t = ![0, t.val % 8] ∧ win0_5.index t = ![0, 8 + t.val % 8] ∧ win0_6.index t = ![0, 16 + t.val % 8]
    ∧ win0_7.index t = ![t.val / 8, t.val % 8] ∧ win0_8.index t = ![t.val / 8, t.val % 8] := by decide +kernel

section Bodies
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x2048 .bf16) (harg11 : arg11.IsWhole)
  (x0 : Vec F S1024x2048 .f32) (x1 : Vec F S1x2048 .f32) (x2 : Vec F S1x1x2048 .f32) (x3 : Vec F S1x1x2048 .f32) (x4 : Vec F S2048x512 .bf16) (x5 : Vec F S2048x512 .bf16) (x6 : Vec F S2048x512 .bf16) (xs0 : Vec F S1024x2048 .bf16)

theorem out7_B (hc0 : ¬cond0_0 i) : out0_B_7 c i arg2 harg2 arg3 harg3 arg4 harg4 arg5 harg5 arg6 harg6 arg7 harg7 arg8 harg8 arg9 harg9 arg10 harg10 arg11 harg11 hc0 x0 x1 x2 x3 x4 x5 x6 xs0 = k0_pay2 xs0 x4 x5 := by
  frame_out
theorem out8_B (hc0 : ¬cond0_0 i) : out0_B_8 c i arg2 harg2 arg3 harg3 arg4 harg4 arg5 harg5 arg6 harg6 arg7 harg7 arg8 harg8 arg9 harg9 arg10 harg10 arg11 harg11 hc0 x0 x1 x2 x3 x4 x5 x6 xs0 = k0_pay3 xs0 x6 := by
  frame_out
theorem u_B (hc0 : ¬cond0_0 i) : sout0_B_0 c i arg2 harg2 arg3 harg3 arg4 harg4 arg5 harg5 arg6 harg6 arg7 harg7 arg8 harg8 arg9 harg9 arg10 harg10 arg11 harg11 hc0 x0 x1 x2 x3 x4 x5 x6 xs0 = xs0 := rfl
theorem out7_A (hc0 : cond0_0 i) : out0_A_7 c i arg2 harg2 arg3 harg3 arg4 harg4 arg5 harg5 arg6 harg6 arg7 harg7 arg8 harg8 arg9 harg9 arg10 harg10 arg11 harg11 hc0 x0 x1 x2 x3 x4 x5 x6 = k0_pay2 (k0_pay1 x0 x1 x3 x2) x4 x5 := by
  frame_out
theorem out8_A (hc0 : cond0_0 i) : out0_A_8 c i arg2 harg2 arg3 harg3 arg4 harg4 arg5 harg5 arg6 harg6 arg7 harg7 arg8 harg8 arg9 harg9 arg10 harg10 arg11 harg11 hc0 x0 x1 x2 x3 x4 x5 x6 = k0_pay3 (k0_pay1 x0 x1 x3 x2) x6 := by
  frame_out
theorem u_A (hc0 : cond0_0 i) : sout0_A_0 c i arg2 harg2 arg3 harg3 arg4 harg4 arg5 harg5 arg6 harg6 arg7 harg7 arg8 harg8 arg9 harg9 arg10 harg10 arg11 harg11 hc0 x0 x1 x2 x3 x4 x5 x6 = k0_pay1 x0 x1 x3 x2 := by
  frame_out

end Bodies

/-! ## What a point stores, at an index -/

/-- The modulated norm of a block of rows. -/
theorem u_apply (x g sc sh) (r : Fin 1024) (k : Fin 2048) : k0_pay1 (F := Ideal) x g sc sh (ix2 r k)
    = Rows.modulated (fun k => x (ix2 r k)) (fun k => g (ix2 0 k)) (fun k => sh (ix3 0 0 k)) (fun k => sc (ix3 0 0 k)) k := by
  pointwise [k0_pay1, Rows.modulated, Rows.normed]
  rfl

theorem pay2_apply (u a b) (r : Fin 1024) (j : Fin 512) : k0_pay2 (F := Ideal) u a b (ix2 r j)
    = (∑ k : Fin 2048, u (ix2 r k) * a (ix2 k j)) * Rows.sigmoid (∑ k : Fin 2048, u (ix2 r k) * b (ix2 k j)) := by
  pointwise [k0_pay2, Rows.sigmoid]
  rw [zero_sub]

theorem pay3_apply (u a) (r : Fin 1024) (j : Fin 512) : k0_pay3 (F := Ideal) u a (ix2 r j)
    = (∑ k : Fin 2048, u (ix2 r k) * a (ix2 k j)) * Rows.sigmoid (∑ k : Fin 2048, u (ix2 r k) * a (ix2 k j)) := by
  pointwise [k0_pay3, Rows.sigmoid]
  rw [zero_sub]

section
variable (m : (ℓ : Loc nD τ sig) → Buf (Elt Ideal) ℓ) (c : Dev nD)

/-! ## The arguments as the call reads them -/

theorem main_v0_apply (k : Fin 2048) (e : Fin 12288) : V m c main_v0 (ix2 k e) = m ((c.tc : Thread nD τ).loc main_arg4) (ix2 k e) := by
  unfold_abbrev_sides; after_reads_simp; pointwise
theorem main_v1_apply (r : Fin 32768) (k : Fin 2048) : V m c main_v1 (ix2 r k) = m ((c.tc : Thread nD τ).loc main_arg0) (ix3 (Rows.seq r) (Rows.tok r) k) := by
  unfold_abbrev_sides; after_reads_simp; pointwise [Rows.seq, Rows.tok]
theorem main_v2_apply (k : Fin 2048) : V m c main_v2 (ix2 0 k) = m ((c.tc : Thread nD τ).loc main_arg1) (ix1 k) := by
  unfold_abbrev_sides; after_reads_simp; pointwise
theorem main_v3_apply (b : Fin 8) (k : Fin 2048) : V m c main_v3 (ix3 b 0 k) = m ((c.tc : Thread nD τ).loc main_arg2) (ix2 b k) := by
  unfold_abbrev_sides; after_reads_simp; pointwise
theorem main_v4_apply (b : Fin 8) (k : Fin 2048) : V m c main_v4 (ix3 b 0 k) = m ((c.tc : Thread nD τ).loc main_arg3) (ix2 b k) := by
  unfold_abbrev_sides; after_reads_simp; pointwise

/-- The rows the projection reads, from the arguments. -/
abbrev input (r : Fin 32768) : Fin 2048 → EReal :=
  Rows.input (fun b s k => m ((c.tc : Thread nD τ).loc main_arg0) (ix3 b s k)) (fun k => m ((c.tc : Thread nD τ).loc main_arg1) (ix1 k))
    (fun b k => m ((c.tc : Thread nD τ).loc main_arg2) (ix2 b k)) (fun b k => m ((c.tc : Thread nD τ).loc main_arg3) (ix2 b k)) r
/-- One of its columns. -/
abbrev through (r : Fin 32768) (o : ℕ) (h : o + 4096 ≤ 12288) (j : Fin 4096) : EReal :=
  Rows.through (input m c r) (fun k e => m ((c.tc : Thread nD τ).loc main_arg4) (ix2 k e)) (Rows.col o h j)

theorem N_eq : cfg0.N = 256 := by decide

/-- The row of the array that a point's row `r` is. -/
def row (t : Fin cfg0.N) (r : Fin 1024) : Fin 32768 := ⟨1024 * (t.val / 8) + r.val, by have := lt_of_lt_of_eq t.isLt N_eq; omega⟩
/-- The column of a group that a point's column `j` is. -/
def lane (t : Fin cfg0.N) (j : Fin 512) : Fin 4096 := ⟨512 * (t.val % 8) + j.val, by omega⟩

theorem block0 (t : Fin cfg0.N) (r : Fin 1024) (k : Fin 2048) : iblk m c 0 t (ix2 r k) = V m c main_v1 (ix2 (row t r) k) := by blk_ext [iblk, index t, row]
theorem block1 (t : Fin cfg0.N) (k : Fin 2048) : iblk m c 1 t (ix2 0 k) = V m c main_v2 (ix2 0 k) := by blk_ext [iblk, index t]
theorem block2 (t : Fin cfg0.N) (r : Fin 1024) (k : Fin 2048) : iblk m c 2 t (ix3 0 0 k) = V m c main_v3 (ix3 (Rows.seq (row t r)) 0 k) := by
  blk_ext [iblk, index t, Rows.seq, row]
theorem block3 (t : Fin cfg0.N) (r : Fin 1024) (k : Fin 2048) : iblk m c 3 t (ix3 0 0 k) = V m c main_v4 (ix3 (Rows.seq (row t r)) 0 k) := by
  blk_ext [iblk, index t, Rows.seq, row]
theorem block4 (t : Fin cfg0.N) (k : Fin 2048) (j : Fin 512) : iblk m c 4 t (ix2 k j) = V m c main_v0 (ix2 k (Rows.col 0 (by decide) (lane t j))) := by
  blk_ext [iblk, index t, Rows.col, lane]
theorem block5 (t : Fin cfg0.N) (k : Fin 2048) (j : Fin 512) : iblk m c 5 t (ix2 k j) = V m c main_v0 (ix2 k (Rows.col 4096 (by decide) (lane t j))) := by
  blk_ext [iblk, index t, Rows.col, lane]
theorem block6 (t : Fin cfg0.N) (k : Fin 2048) (j : Fin 512) : iblk m c 6 t (ix2 k j) = V m c main_v0 (ix2 k (Rows.col 8192 (by decide) (lane t j))) := by
  blk_ext [iblk, index t, Rows.col, lane]

/-- A point's results, from the rows it keeps. -/
theorem outs_eq (t : Fin cfg0.N) :
    (outsAt0 m c t.val t.isLt).1 = k0_pay2 (outsAt0 m c t.val t.isLt).2.2 (iblk m c 4 t) (iblk m c 5 t)
    ∧ (outsAt0 m c t.val t.isLt).2.1 = k0_pay3 (outsAt0 m c t.val t.isLt).2.2 (iblk m c 6 t) := by
  by_cases h0 : t.val % 8 = 0
  · rw [outsAt0_A m c t h0]
    dsimp only
    rw [out7_A, out8_A, u_A]
    exact ⟨rfl, rfl⟩
  · rw [outsAt0_B m c t h0]
    dsimp only
    rw [out7_B, out8_B, u_B]
    exact ⟨rfl, rfl⟩

/-- At the first column tile the rows are normalised. -/
theorem kept_first (t : Fin cfg0.N) (h0 : t.val % 8 = 0) (r : Fin 1024) (k : Fin 2048) : (outsAt0 m c t.val t.isLt).2.2 (ix2 r k) = input m c (row t r) k := by
  rw [outsAt0_A m c t h0]
  dsimp only
  rw [u_A, u_apply]
  exact Rows.modulated_congr (fun k => (block0 m c t r k).trans (main_v1_apply m c _ k)) (fun k => (block1 m c t k).trans (main_v2_apply m c k))
    (fun k => (block2 m c t r k).trans (main_v3_apply m c _ k)) (fun k => (block3 m c t r k).trans (main_v4_apply m c _ k)) k

/-- The rows a point keeps are the modulated norm of its rows of the input. -/
theorem kept (n : ℕ) : ∀ (hn : n < cfg0.N) (r : Fin 1024) (k : Fin 2048), (outsAt0 m c n hn).2.2 (ix2 r k) = input m c (row ⟨n, hn⟩ r) k := by
  induction n with
  | zero => exact fun hn => kept_first m c ⟨0, hn⟩ rfl
  | succ n ih =>
    intro hn r k
    by_cases h0 : (n + 1) % 8 = 0
    · exact kept_first m c ⟨n + 1, hn⟩ h0 r k
    · rw [outsAt0_B m c ⟨n + 1, hn⟩ h0]
      dsimp only
      rw [u_B]
      refine (ih (Nat.lt_of_succ_lt hn) r k).trans (congrArg (fun r => input m c r k) (Fin.ext ?_))
      show 1024 * (n / 8) + r.val = 1024 * ((n + 1) / 8) + r.val
      omega

/-- A block of the product, from the weights' block. -/
theorem through_apply (t : Fin cfg0.N) (o : ℕ) (h : o + 4096 ≤ 12288) (r : Fin 1024) (j : Fin 512) (w : Fin 2048 → EReal)
    (hw : ∀ k, w k = V m c main_v0 (ix2 k (Rows.col o h (lane t j)))) :
    ∑ k : Fin 2048, (outsAt0 m c t.val t.isLt).2.2 (ix2 r k) * w k = through m c (row t r) o h (lane t j) :=
  Finset.sum_congr rfl fun k _ => congrArg₂ (· * ·) (kept m c t.val t.isLt r k) ((hw k).trans (main_v0_apply m c k _))

/-- The first result's array after the run. -/
theorem array7 : (dats m 0 c).arrAt 7 cfg0.N = fun i => through m c (i 0) 0 (by decide) (i 1) * Rows.sigmoid (through m c (i 0) 4096 (by decide) (i 1)) := by
  refine (dats m 0 c).arrAt_eq_of_covers 7 _ (by decide +kernel) fun t hf y => ?_
  blk_simp [after0_7]
  obtain ⟨r, j, rfl⟩ : ∃ (r : Fin 1024) (j : Fin 512), y = ix2 r j := ⟨y 0, y 1, (ix2_eta y).symm⟩
  have e0 : (win0_7.blk t).view.emb (ix2 r j) 0 = row t r := Fin.ext (by blk_simp [index t, row]; exact congrArg (· + r.val) (Nat.mul_comm _ _))
  have e1 : (win0_7.blk t).view.emb (ix2 r j) 1 = lane t j := Fin.ext (by blk_simp [index t, lane]; exact congrArg (· + j.val) (Nat.mul_comm _ _))
  rw [e0, e1, (outs_eq m c t).1, pay2_apply]
  exact congrArg₂ (fun a b => a * Rows.sigmoid b) (through_apply m c t 0 (by decide) r j _ fun k => block4 m c t k j)
    (through_apply m c t 4096 (by decide) r j _ fun k => block5 m c t k j)

/-- The second result's array after the run. -/
theorem array8 : (dats m 0 c).arrAt 8 cfg0.N = fun i => through m c (i 0) 8192 (by decide) (i 1) * Rows.sigmoid (through m c (i 0) 8192 (by decide) (i 1)) := by
  refine (dats m 0 c).arrAt_eq_of_covers 8 _ (by decide +kernel) fun t hf y => ?_
  blk_simp [after0_8]
  obtain ⟨r, j, rfl⟩ : ∃ (r : Fin 1024) (j : Fin 512), y = ix2 r j := ⟨y 0, y 1, (ix2_eta y).symm⟩
  have e0 : (win0_8.blk t).view.emb (ix2 r j) 0 = row t r := Fin.ext (by blk_simp [index t, row]; exact congrArg (· + r.val) (Nat.mul_comm _ _))
  have e1 : (win0_8.blk t).view.emb (ix2 r j) 1 = lane t j := Fin.ext (by blk_simp [index t, lane]; exact congrArg (· + j.val) (Nat.mul_comm _ _))
  rw [e0, e1, (outs_eq m c t).2, pay3_apply]
  exact congrArg (fun a => a * Rows.sigmoid a) (through_apply m c t 8192 (by decide) r j _ fun k => block6 m c t k j)

/-- The run ends with both arrays and leaves the arguments. -/
theorem run (ρ : Dev nD → PrngReg) : θ_run defs (onTc (τ := τ) (main (F := Ideal))) ⟨m, fun _ => 0, ρ⟩ fun r => ∀ c : Dev nD,
      r.2.mem ((c.tc : Thread nD τ).loc main_v5_0) = (dats m 0 c).arrAt 7 cfg0.N
      ∧ r.2.mem ((c.tc : Thread nD τ).loc main_v5_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    have k : ∀ b (hb : b ∈ Pipeline.restRefs sig spec0), r.2.mem ((c.tc : Thread nD τ).loc b) = V m c b := (h c).2
    ⟨(h c).1 7, (h c).1 8,
      (k main_arg0 (Pipeline.mem_restRefs_of main_arg0 (by decide) (by decide))).trans (V_main_arg0 m c),
      (k main_arg1 (Pipeline.mem_restRefs_of main_arg1 (by decide) (by decide))).trans (V_main_arg1 m c),
      (k main_arg2 (Pipeline.mem_restRefs_of main_arg2 (by decide) (by decide))).trans (V_main_arg2 m c),
      (k main_arg3 (Pipeline.mem_restRefs_of main_arg3 (by decide) (by decide))).trans (V_main_arg3 m c),
      (k main_arg4 (Pipeline.mem_restRefs_of main_arg4 (by decide) (by decide))).trans (V_main_arg4 m c)⟩)
    (run_main m ρ)

end

end Cert.Kernel2Ideal.In

namespace Cert.Reference2Ideal.In
open Cert.Reference2Ideal Cert.Reference2Ideal.Gen

/-- The modulated norm of the tokens. -/
def input (h : FVec Ideal S8x4096x2048 .f32) (g : FVec Ideal S2048 .f32) (sh sc : FVec Ideal S8x2048 .f32) : FVec Ideal S8x4096x2048 .f32 :=
  addf (mulf (Cert.Reference4Ideal.Out.norm h g) (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 sc))))
    (broadcastInDim S8x4096x2048 ![0, 1, 2] bcast_S8x1x2048_S8x4096x2048_0_1_2 (broadcastInDim S8x1x2048 ![0, 2] bcast_S8x2048_S8x1x2048_0_2 sh))

theorem input_apply (h g sh sc) (b : Fin 8) (s : Fin 4096) (k : Fin 2048) : input h g sh sc (ix3 b s k)
    = Rows.modulated (fun k => h (ix3 b s k)) (fun k => g (ix1 k)) (fun k => sh (ix2 b k)) (fun k => sc (ix2 b k)) k := by
  rw [Rows.modulated, ← Cert.Reference4Ideal.Out.norm_apply]
  pointwise [input]

/-- The tokens through the weights. -/
def product (x : FVec Ideal S8x4096x2048 .f32) (w : FVec Ideal S2048x12288 .f32) : FVec Ideal S8x4096x12288 .f32 :=
  Host.dotGeneral dot_S8x4096x2048_S2048x12288_S8x4096x12288_2_0_01_1_n_n none x w

theorem product_apply (h g sh sc w) (r : Fin 32768) (e : Fin 12288) : product (input h g sh sc) w (ix3 (Rows.seq r) (Rows.tok r) e)
    = Rows.through (Rows.input (fun b s k => h (ix3 b s k)) (fun k => g (ix1 k)) (fun b k => sh (ix2 b k)) (fun b k => sc (ix2 b k)) r) (fun k e => w (ix2 k e)) e := by
  refine Eq.trans ?_ (Finset.sum_congr rfl fun k _ => congrArg (· * w (ix2 k e)) (input_apply h g sh sc (Rows.seq r) (Rows.tok r) k))
  pointwise [product]

/-- The logistic function of an array. -/
def sigmoid (x : FVec Ideal S8x4096x4096 .f32) : FVec Ideal S8x4096x4096 .f32 :=
  Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf x)))

theorem sigmoid_apply (x) (i : S8x4096x4096.Idx) : sigmoid x i = Rows.sigmoid (x i) := by pointwise [sigmoid, Rows.sigmoid]

/-- The tokens flattened into rows. -/
def rows (x : FVec Ideal S8x4096x4096 .f32) : FVec Ideal S32768x4096 .bf16 := truncf .bf16 (shapeCast S32768x4096 x shapeCasts_S8x4096x4096_S32768x4096) bitsLt_bf16_f32

theorem rows_apply (x) (r : Fin 32768) (j : Fin 4096) : rows x (ix2 r j) = x (ix3 (Rows.seq r) (Rows.tok r) j) := by
  pointwise [rows, Rows.seq, Rows.tok]

/-- The first result, at an index. -/
theorem gated_apply (p : FVec Ideal S8x4096x12288 .f32) (r : Fin 32768) (j : Fin 4096) :
    rows (mulf (extractStridedSlice S8x4096x4096 ![0, 0, 0] p slices_S8x4096x12288_S8x4096x4096_0_0_0) (sigmoid (extractStridedSlice S8x4096x4096 ![0, 0, 4096] p slices_S8x4096x12288_S8x4096x4096_0_0_4096))) (ix2 r j)
    = p (ix3 (Rows.seq r) (Rows.tok r) (Rows.col 0 (by decide) j)) * Rows.sigmoid (p (ix3 (Rows.seq r) (Rows.tok r) (Rows.col 4096 (by decide) j))) := by
  rw [rows_apply]
  pointwise [sigmoid_apply, Rows.col]

/-- The second result, at an index. -/
theorem silu_apply (p : FVec Ideal S8x4096x12288 .f32) (r : Fin 32768) (j : Fin 4096) :
    rows (mulf (extractStridedSlice S8x4096x4096 ![0, 0, 8192] p slices_S8x4096x12288_S8x4096x4096_0_0_8192) (sigmoid (extractStridedSlice S8x4096x4096 ![0, 0, 8192] p slices_S8x4096x12288_S8x4096x4096_0_0_8192))) (ix2 r j)
    = p (ix3 (Rows.seq r) (Rows.tok r) (Rows.col 8192 (by decide) j)) * Rows.sigmoid (p (ix3 (Rows.seq r) (Rows.tok r) (Rows.col 8192 (by decide) j))) := by
  rw [rows_apply]
  pointwise [sigmoid_apply, Rows.col]

end Cert.Reference2Ideal.In
end
-- ==== Proof.In3.lean ====
module

public import proofs.«01_k».proof.Proof.Gen.Kernel3Ideal.Frame
public import proofs.«01_k».proof.Proof.Gen.Reference3Ideal.Run
public import Idealize.ShloMosaic.Lib.StableHlo.RunRead
public import Idealize.ShloMosaic.Lib.Tactic
public import Idealize.ShloMosaic.Lib.Pipeline.ValueKit
public import Idealize.ShloMosaic.Lib.Pipeline.ValueKit.Acc
public import Idealize.ShloMosaic.Lib.Pointwise
public import proofs.«01_k».proof.Proof.In2

@[expose] public section

set_option maxRecDepth 16384

noncomputable section

open Idealize.ShloMosaic Idealize.ShloMosaic.TcCoe Idealize.SL.Sem

namespace Cert.Kernel3Ideal.In

open Cert.Kernel3Ideal Cert.Kernel3Ideal.Gen

theorem index : ∀ t : Fin grid0.N, win0_0.index t = ![t.val / 16, 0] ∧ win0_1.index t = ![0, 0] ∧ win0_2.index t = ![t.val / 64, 0, 0]
    ∧ win0_3.index t = ![t.val / 64, 0, 0] ∧ win0_4.index t = ![0, t.val % 16] ∧ win0_5.index t = ![0, 16 + t.val % 16] ∧ win0_6.index t = ![0, 32 + t.val % 16]
    ∧ win0_7.index t = ![0, 48 + t.val % 16] ∧ win0_8.index t = ![t.val / 16, t.val % 16] ∧ win0_9.index t = ![t.val / 16, t.val % 16]
    ∧ win0_10.index t = ![t.val / 16, t.val % 16] ∧ win0_11.index t = ![t.val / 16, t.val % 16] := by decide +kernel

section Bodies
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x2048 .bf16) (harg14 : arg14.IsWhole)
  (x0 : Vec F S1024x2048 .f32) (x1 : Vec F S1x2048 .f32) (x2 : Vec F S1x1x2048 .f32) (x3 : Vec F S1x1x2048 .f32) (x4 : Vec F S2048x256 .bf16) (x5 : Vec F S2048x256 .bf16) (x6 : Vec F S2048x256 .bf16) (x7 : Vec F S2048x256 .bf16) (xs0 : Vec F S1024x2048 .bf16)

theorem out8_B (hc0 : ¬cond0_0 i) : out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = k0_pay4 xs0 x4 := by
  frame_out
theorem out9_B (hc0 : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = k0_pay5 xs0 x5 := by
  frame_out
theorem out10_B (hc0 : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = k0_pay6 xs0 x6 := by
  frame_out
theorem out11_B (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = k0_pay1 (k0_pay3 xs0 x7) := by
  frame_out
theorem u_B (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = xs0 := rfl
theorem out8_A (hc0 : cond0_0 i) : out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay4 (k0_pay2 x0 x1 x3 x2) x4 := by
  frame_out
theorem out9_A (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay5 (k0_pay2 x0 x1 x3 x2) x5 := by
  frame_out
theorem out10_A (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay6 (k0_pay2 x0 x1 x3 x2) x6 := by
  frame_out
theorem out11_A (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay1 (k0_pay3 (k0_pay2 x0 x1 x3 x2) x7) := by
  frame_out
theorem u_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay2 x0 x1 x3 x2 := by
  frame_out

end Bodies

/-! ## What a point stores, at an index -/

/-- The modulated norm of a block of rows. -/
theorem u_apply (x g sc sh) (r : Fin 1024) (k : Fin 2048) : k0_pay2 (F := Ideal) x g sc sh (ix2 r k)
    = Rows.modulated (fun k => x (ix2 r k)) (fun k => g (ix2 0 k)) (fun k => sh (ix3 0 0 k)) (fun k => sc (ix3 0 0 k)) k := by
  pointwise [k0_pay2, Rows.modulated, Rows.normed]
  rfl

/-- The first three results are a block of the product. -/
theorem plain_apply (u a) (r : Fin 1024) (j : Fin 256) : k0_pay4 (F := Ideal) u a (ix2 r j) = ∑ k : Fin 2048, u (ix2 r k) * a (ix2 k j) := by
  pointwise [k0_pay4]

theorem silu_apply (u a) (r : Fin 1024) (j : Fin 256) : k0_pay1 (k0_pay3 (F := Ideal) u a) (ix2 r j)
    = (∑ k : Fin 2048, u (ix2 r k) * a (ix2 k j)) * Rows.sigmoid (∑ k : Fin 2048, u (ix2 r k) * a (ix2 k j)) := by
  pointwise [k0_pay1, k0_pay3, Rows.sigmoid]
  rw [zero_sub]

section
variable (m : (ℓ : Loc nD τ sig) → Buf (Elt Ideal) ℓ) (c : Dev nD)

/-! ## The arguments as the call reads them -/

theorem main_v0_apply (k : Fin 2048) (e : Fin 16384) : V m c main_v0 (ix2 k e) = m ((c.tc : Thread nD τ).loc main_arg4) (ix2 k e) := by
  unfold_abbrev_sides; after_reads_simp; pointwise
theorem main_v1_apply (r : Fin 32768) (k : Fin 2048) : V m c main_v1 (ix2 r k) = m ((c.tc : Thread nD τ).loc main_arg0) (ix3 (Rows.seq r) (Rows.tok r) k) := by
  unfold_abbrev_sides; after_reads_simp; pointwise [Rows.seq, Rows.tok]
theorem main_v2_apply (k : Fin 2048) : V m c main_v2 (ix2 0 k) = m ((c.tc : Thread nD τ).loc main_arg1) (ix1 k) := by
  unfold_abbrev_sides; after_reads_simp; pointwise
theorem main_v3_apply (b : Fin 8) (k : Fin 2048) : V m c main_v3 (ix3 b 0 k) = m ((c.tc : Thread nD τ).loc main_arg2) (ix2 b k) := by
  unfold_abbrev_sides; after_reads_simp; pointwise
theorem main_v4_apply (b : Fin 8) (k : Fin 2048) : V m c main_v4 (ix3 b 0 k) = m ((c.tc : Thread nD τ).loc main_arg3) (ix2 b k) := by
  unfold_abbrev_sides; after_reads_simp; pointwise

/-- The rows the projection reads, from the arguments. -/
abbrev input (r : Fin 32768) : Fin 2048 → EReal :=
  Rows.input (fun b s k => m ((c.tc : Thread nD τ).loc main_arg0) (ix3 b s k)) (fun k => m ((c.tc : Thread nD τ).loc main_arg1) (ix1 k))
    (fun b k => m ((c.tc : Thread nD τ).loc main_arg2) (ix2 b k)) (fun b k => m ((c.tc : Thread nD τ).loc main_arg3) (ix2 b k)) r
/-- One of its columns. -/
abbrev through (r : Fin 32768) (o : ℕ) (h : o + 4096 ≤ 16384) (j : Fin 4096) : EReal :=
  Rows.through (input m c r) (fun k e => m ((c.tc : Thread nD τ).loc main_arg4) (ix2 k e)) (Rows.col o h j)

theorem N_eq : cfg0.N = 512 := by decide

/-- The row of the array that a point's row `r` is. -/
def row (t : Fin cfg0.N) (r : Fin 1024) : Fin 32768 := ⟨1024 * (t.val / 16) + r.val, by have := lt_of_lt_of_eq t.isLt N_eq; omega⟩
/-- The column of a group that a point's column `j` is. -/
def lane (t : Fin cfg0.N) (j : Fin 256) : Fin 4096 := ⟨256 * (t.val % 16) + j.val, by omega⟩

theorem block0 (t : Fin cfg0.N) (r : Fin 1024) (k : Fin 2048) : iblk m c 0 t (ix2 r k) = V m c main_v1 (ix2 (row t r) k) := by blk_ext [iblk, index t, row]
theorem block1 (t : Fin cfg0.N) (k : Fin 2048) : iblk m c 1 t (ix2 0 k) = V m c main_v2 (ix2 0 k) := by blk_ext [iblk, index t]
theorem block2 (t : Fin cfg0.N) (r : Fin 1024) (k : Fin 2048) : iblk m c 2 t (ix3 0 0 k) = V m c main_v3 (ix3 (Rows.seq (row t r)) 0 k) := by
  blk_ext [iblk, index t, Rows.seq, row]
theorem block3 (t : Fin cfg0.N) (r : Fin 1024) (k : Fin 2048) : iblk m c 3 t (ix3 0 0 k) = V m c main_v4 (ix3 (Rows.seq (row t r)) 0 k) := by
  blk_ext [iblk, index t, Rows.seq, row]
theorem block4 (t : Fin cfg0.N) (k : Fin 2048) (j : Fin 256) : iblk m c 4 t (ix2 k j) = V m c main_v0 (ix2 k (Rows.col 0 (by decide) (lane t j))) := by
  blk_ext [iblk, index t, Rows.col, lane]
theorem block5 (t : Fin cfg0.N) (k : Fin 2048) (j : Fin 256) : iblk m c 5 t (ix2 k j) = V m c main_v0 (ix2 k (Rows.col 4096 (by decide) (lane t j))) := by
  blk_ext [iblk, index t, Rows.col, lane]
theorem block6 (t : Fin cfg0.N) (k : Fin 2048) (j : Fin 256) : iblk m c 6 t (ix2 k j) = V m c main_v0 (ix2 k (Rows.col 8192 (by decide) (lane t j))) := by
  blk_ext [iblk, index t, Rows.col, lane]

theorem block7 (t : Fin cfg0.N) (k : Fin 2048) (j : Fin 256) : iblk m c 7 t (ix2 k j) = V m c main_v0 (ix2 k (Rows.col 12288 (by decide) (lane t j))) := by
  blk_ext [iblk, index t, Rows.col, lane]

/-- A point's results, from the rows it keeps. -/
theorem outs_eq (t : Fin cfg0.N) : outsAt0 m c t.val t.isLt
    = (k0_pay4 (outsAt0 m c t.val t.isLt).2.2.2.2 (iblk m c 4 t), k0_pay4 (outsAt0 m c t.val t.isLt).2.2.2.2 (iblk m c 5 t),
      k0_pay4 (outsAt0 m c t.val t.isLt).2.2.2.2 (iblk m c 6 t), k0_pay1 (k0_pay3 (outsAt0 m c t.val t.isLt).2.2.2.2 (iblk m c 7 t)), (outsAt0 m c t.val t.isLt).2.2.2.2) := by
  by_cases h0 : t.val % 16 = 0
  · rw [outsAt0_A m c t h0]
    dsimp only
    rw [out8_A, out9_A, out10_A, out11_A, u_A]
    rfl
  · rw [outsAt0_B m c t h0]
    dsimp only
    rw [out8_B, out9_B, out10_B, out11_B, u_B]
    rfl

/-- At the first column tile the rows are normalised. -/
theorem kept_first (t : Fin cfg0.N) (h0 : t.val % 16 = 0) (r : Fin 1024) (k : Fin 2048) : (outsAt0 m c t.val t.isLt).2.2.2.2 (ix2 r k) = input m c (row t r) k := by
  rw [outsAt0_A m c t h0]
  dsimp only
  rw [u_A, u_apply]
  exact Rows.modulated_congr (fun k => (block0 m c t r k).trans (main_v1_apply m c _ k)) (fun k => (block1 m c t k).trans (main_v2_apply m c k))
    (fun k => (block2 m c t r k).trans (main_v3_apply m c _ k)) (fun k => (block3 m c t r k).trans (main_v4_apply m c _ k)) k

/-- The rows a point keeps are the modulated norm of its rows of the input. -/
theorem kept (n : ℕ) : ∀ (hn : n < cfg0.N) (r : Fin 1024) (k : Fin 2048), (outsAt0 m c n hn).2.2.2.2 (ix2 r k) = input m c (row ⟨n, hn⟩ r) k := by
  induction n with
  | zero => exact fun hn => kept_first m c ⟨0, hn⟩ rfl
  | succ n ih =>
    intro hn r k
    by_cases h0 : (n + 1) % 16 = 0
    · exact kept_first m c ⟨n + 1, hn⟩ h0 r k
    · rw [outsAt0_B m c ⟨n + 1, hn⟩ h0]
      dsimp only
      rw [u_B]
      refine (ih (Nat.lt_of_succ_lt hn) r k).trans (congrArg (fun r => input m c r k) (Fin.ext ?_))
      show 1024 * (n / 16) + r.val = 1024 * ((n + 1) / 16) + r.val
      omega

/-- A block of the product, from the weights' block. -/
theorem through_apply (t : Fin cfg0.N) (o : ℕ) (h : o + 4096 ≤ 16384) (r : Fin 1024) (j : Fin 256) (w : Fin 2048 → EReal)
    (hw : ∀ k, w k = V m c main_v0 (ix2 k (Rows.col o h (lane t j)))) :
    ∑ k : Fin 2048, (outsAt0 m c t.val t.isLt).2.2.2.2 (ix2 r k) * w k = through m c (row t r) o h (lane t j) :=
  Finset.sum_congr rfl fun k _ => congrArg₂ (· * ·) (kept m c t.val t.isLt r k) ((hw k).trans (main_v0_apply m c k _))

/-! ## The results after the run -/

theorem array8 : (dats m 0 c).arrAt 8 cfg0.N = fun i => through m c (i 0) 0 (by decide) (i 1) := by
  refine (dats m 0 c).arrAt_eq_of_covers 8 _ (by decide +kernel) fun t hf y => ?_
  blk_simp [after0_8]
  obtain ⟨r, j, rfl⟩ : ∃ (r : Fin 1024) (j : Fin 256), y = ix2 r j := ⟨y 0, y 1, (ix2_eta y).symm⟩
  rw [show (win0_8.blk t).view.emb (ix2 r j) 0 = row t r from Fin.ext (by blk_simp [index t, row]; exact congrArg (· + r.val) (Nat.mul_comm _ _)),
    show (win0_8.blk t).view.emb (ix2 r j) 1 = lane t j from Fin.ext (by blk_simp [index t, lane]; exact congrArg (· + j.val) (Nat.mul_comm _ _)), outs_eq m c t]
  exact (plain_apply _ _ r j).trans (through_apply m c t 0 (by decide) r j _ fun k => block4 m c t k j)

theorem array9 : (dats m 0 c).arrAt 9 cfg0.N = fun i => through m c (i 0) 4096 (by decide) (i 1) := by
  refine (dats m 0 c).arrAt_eq_of_covers 9 _ (by decide +kernel) fun t hf y => ?_
  blk_simp [after0_9]
  obtain ⟨r, j, rfl⟩ : ∃ (r : Fin 1024) (j : Fin 256), y = ix2 r j := ⟨y 0, y 1, (ix2_eta y).symm⟩
  rw [show (win0_9.blk t).view.emb (ix2 r j) 0 = row t r from Fin.ext (by blk_simp [index t, row]; exact congrArg (· + r.val) (Nat.mul_comm _ _)),
    show (win0_9.blk t).view.emb (ix2 r j) 1 = lane t j from Fin.ext (by blk_simp [index t, lane]; exact congrArg (· + j.val) (Nat.mul_comm _ _)), outs_eq m c t]
  exact (plain_apply _ _ r j).trans (through_apply m c t 4096 (by decide) r j _ fun k => block5 m c t k j)

theorem array10 : (dats m 0 c).arrAt 10 cfg0.N = fun i => through m c (i 0) 8192 (by decide) (i 1) := by
  refine (dats m 0 c).arrAt_eq_of_covers 10 _ (by decide +kernel) fun t hf y => ?_
  blk_simp [after0_10]
  obtain ⟨r, j, rfl⟩ : ∃ (r : Fin 1024) (j : Fin 256), y = ix2 r j := ⟨y 0, y 1, (ix2_eta y).symm⟩
  rw [show (win0_10.blk t).view.emb (ix2 r j) 0 = row t r from Fin.ext (by blk_simp [index t, row]; exact congrArg (· + r.val) (Nat.mul_comm _ _)),
    show (win0_10.blk t).view.emb (ix2 r j) 1 = lane t j from Fin.ext (by blk_simp [index t, lane]; exact congrArg (· + j.val) (Nat.mul_comm _ _)), outs_eq m c t]
  exact (plain_apply _ _ r j).trans (through_apply m c t 8192 (by decide) r j _ fun k => block6 m c t k j)

theorem array11 : (dats m 0 c).arrAt 11 cfg0.N = fun i => through m c (i 0) 12288 (by decide) (i 1) * Rows.sigmoid (through m c (i 0) 12288 (by decide) (i 1)) := by
  refine (dats m 0 c).arrAt_eq_of_covers 11 _ (by decide +kernel) fun t hf y => ?_
  blk_simp [after0_11]
  obtain ⟨r, j, rfl⟩ : ∃ (r : Fin 1024) (j : Fin 256), y = ix2 r j := ⟨y 0, y 1, (ix2_eta y).symm⟩
  rw [show (win0_11.blk t).view.emb (ix2 r j) 0 = row t r from Fin.ext (by blk_simp [index t, row]; exact congrArg (· + r.val) (Nat.mul_comm _ _)),
    show (win0_11.blk t).view.emb (ix2 r j) 1 = lane t j from Fin.ext (by blk_simp [index t, lane]; exact congrArg (· + j.val) (Nat.mul_comm _ _)), outs_eq m c t]
  exact (silu_apply _ _ r j).trans (congrArg (fun a => a * Rows.sigmoid a) (through_apply m c t 12288 (by decide) r j _ fun k => block7 m c t k j))

/-- The run ends with both arrays and leaves the arguments. -/
theorem run (ρ : Dev nD → PrngReg) : θ_run defs (onTc (τ := τ) (main (F := Ideal))) ⟨m, fun _ => 0, ρ⟩ fun r => ∀ c : Dev nD,
      r.2.mem ((c.tc : Thread nD τ).loc main_v5_0) = (dats m 0 c).arrAt 8 cfg0.N
      ∧ r.2.mem ((c.tc : Thread nD τ).loc main_v5_1) = (dats m 0 c).arrAt 9 cfg0.N
      ∧ r.2.mem ((c.tc : Thread nD τ).loc main_v5_2) = (dats m 0 c).arrAt 10 cfg0.N
      ∧ r.2.mem ((c.tc : Thread nD τ).loc main_v5_3) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    have k : ∀ b (hb : b ∈ Pipeline.restRefs sig spec0), r.2.mem ((c.tc : Thread nD τ).loc b) = V m c b := (h c).2
    ⟨(h c).1 8, (h c).1 9, (h c).1 10, (h c).1 11,
      (k main_arg0 (Pipeline.mem_restRefs_of main_arg0 (by decide) (by decide))).trans (V_main_arg0 m c),
      (k main_arg1 (Pipeline.mem_restRefs_of main_arg1 (by decide) (by decide))).trans (V_main_arg1 m c),
      (k main_arg2 (Pipeline.mem_restRefs_of main_arg2 (by decide) (by decide))).trans (V_main_arg2 m c),
      (k main_arg3 (Pipeline.mem_restRefs_of main_arg3 (by decide) (by decide))).trans (V_main_arg3 m c),
      (k main_arg4 (Pipeline.mem_restRefs_of main_arg4 (by decide) (by decide))).trans (V_main_arg4 m c)⟩)
    (run_main m ρ)

end

end Cert.Kernel3Ideal.In

namespace Cert.Reference3Ideal.In
open Cert.Reference3Ideal Cert.Reference3Ideal.Gen

/-- The tokens through the weights. -/
def product (x : FVec Ideal S8x4096x2048 .f32) (w : FVec Ideal S2048x16384 .f32) : FVec Ideal S8x4096x16384 .f32 :=
  Host.dotGeneral dot_S8x4096x2048_S2048x16384_S8x4096x16384_2_0_01_1_n_n none x w

theorem product_apply (h g sh sc w) (r : Fin 32768) (e : Fin 16384) : product (Cert.Reference2Ideal.In.input h g sh sc) w (ix3 (Rows.seq r) (Rows.tok r) e)
    = Rows.through (Rows.input (fun b s k => h (ix3 b s k)) (fun k => g (ix1 k)) (fun b k => sh (ix2 b k)) (fun b k => sc (ix2 b k)) r) (fun k e => w (ix2 k e)) e := by
  refine Eq.trans ?_ (Finset.sum_congr rfl fun k _ => congrArg (· * w (ix2 k e)) (Cert.Reference2Ideal.In.input_apply h g sh sc (Rows.seq r) (Rows.tok r) k))
  pointwise [product]

/-- A group of the product's columns. -/
def group (o : ℕ) (hs : S8x4096x16384.Slices ![0, 0, o] S8x4096x4096) (p : FVec Ideal S8x4096x16384 .f32) : FVec Ideal S8x4096x4096 .f32 :=
  extractStridedSlice S8x4096x4096 ![0, 0, o] p hs

theorem group_apply (o : ℕ) (ho : o + 4096 ≤ 16384) (hs) (p) (b : Fin 8) (s : Fin 4096) (j : Fin 4096) : group o hs p (ix3 b s j) = p (ix3 b s (Rows.col o ho j)) := by
  pointwise [group, Rows.col]

section
variable (o : ℕ) (ho : o + 4096 ≤ 16384) (hs : S8x4096x16384.Slices ![0, 0, o] S8x4096x4096) (h : FVec Ideal S8x4096x2048 .f32) (g : FVec Ideal S2048 .f32)
  (sh sc : FVec Ideal S8x2048 .f32) (w : FVec Ideal S2048x16384 .f32) (r : Fin 32768) (j : Fin 4096)

/-- A result that is a group of columns, at an index. -/
theorem plain_apply : Cert.Reference2Ideal.In.rows (group o hs (product (Cert.Reference2Ideal.In.input h g sh sc) w)) (ix2 r j)
    = Rows.through (Rows.input (fun b s k => h (ix3 b s k)) (fun k => g (ix1 k)) (fun b k => sh (ix2 b k)) (fun b k => sc (ix2 b k)) r) (fun k e => w (ix2 k e)) (Rows.col o ho j) :=
  (Cert.Reference2Ideal.In.rows_apply _ r j).trans ((group_apply o ho hs _ _ _ j).trans (product_apply h g sh sc w r _))

/-- A result that is a group of columns, gated by itself, at an index. -/
theorem silu_apply : Cert.Reference2Ideal.In.rows (mulf (group o hs (product (Cert.Reference2Ideal.In.input h g sh sc) w)) (Cert.Reference2Ideal.In.sigmoid (group o hs (product (Cert.Reference2Ideal.In.input h g sh sc) w)))) (ix2 r j)
    = Rows.through (Rows.input (fun b s k => h (ix3 b s k)) (fun k => g (ix1 k)) (fun b k => sh (ix2 b k)) (fun b k => sc (ix2 b k)) r) (fun k e => w (ix2 k e)) (Rows.col o ho j)
      * Rows.sigmoid (Rows.through (Rows.input (fun b s k => h (ix3 b s k)) (fun k => g (ix1 k)) (fun b k => sh (ix2 b k)) (fun b k => sc (ix2 b k)) r) (fun k e => w (ix2 k e)) (Rows.col o ho j)) := by
  have e := (group_apply o ho hs (product (Cert.Reference2Ideal.In.input h g sh sc) w) (Rows.seq r) (Rows.tok r) j).trans (product_apply h g sh sc w r _)
  refine (Cert.Reference2Ideal.In.rows_apply _ r j).trans ?_
  rw [← e, ← Cert.Reference2Ideal.In.sigmoid_apply]
  rfl

end

end Cert.Reference3Ideal.In
end
-- ==== Proof.In6.lean ====
module

public import proofs.«01_k».proof.Proof.Gen.Kernel6Ideal.Frame
public import proofs.«01_k».proof.Proof.Gen.Reference6Ideal.Run
public import Idealize.ShloMosaic.Lib.StableHlo.RunRead
public import Idealize.ShloMosaic.Lib.Tactic
public import Idealize.ShloMosaic.Lib.Pipeline.ValueKit
public import Idealize.ShloMosaic.Lib.Pipeline.ValueKit.Acc
public import Idealize.ShloMosaic.Lib.Pointwise
public import proofs.«01_k».proof.Proof.In2

@[expose] public section

set_option maxRecDepth 16384

noncomputable section

open Idealize.ShloMosaic Idealize.ShloMosaic.TcCoe Idealize.SL.Sem

/-! # The tokens of context and latent sequences, with rows of zeros in front, laid out as one column of rows -/

namespace Cert.Wide

/-- The sequence a row belongs to. -/
def seq (r : Fin 36864) : Fin 8 := ⟨r.val / 4608, by omega⟩
/-- The place of a row in its sequence. -/
def tok (r : Fin 36864) : Fin 4608 := ⟨r.val % 4608, by omega⟩

/-- The tokens of a sequence: 256 of zeros, 256 of the context, then the latent ones. -/
def tokens (x : Fin 8 → Fin 256 → Fin 2048 → EReal) (y : Fin 8 → Fin 4096 → Fin 2048 → EReal) (b : Fin 8) (s : Fin 4608) (k : Fin 2048) : EReal :=
  if h : s.val < 256 then 0 else if h' : s.val - 256 < 256 then x b ⟨s.val - 256, h'⟩ k else y b ⟨s.val - 256 - 256, by omega⟩ k

/-- A parameter of the norm: the context's for the first 512 tokens, then the sequence's own. -/
def param (a : Fin 8 → Fin 2048 → EReal) (z : Fin 2048 → EReal) (b : Fin 8) (s : Fin 4608) (k : Fin 2048) : EReal :=
  if s.val < 512 then z k else a b k

/-- The rows the projection reads. -/
def input (x : Fin 8 → Fin 256 → Fin 2048 → EReal) (y : Fin 8 → Fin 4096 → Fin 2048 → EReal) (g : Fin 2048 → EReal) (sh sc : Fin 8 → Fin 2048 → EReal)
    (zh zc : Fin 2048 → EReal) (b : Fin 8) (s : Fin 4608) : Fin 2048 → EReal :=
  Rows.modulated (tokens x y b s) g (param sh zh b s) (param sc zc b s)

end Cert.Wide

namespace Cert.Kernel6Ideal.In

open Cert.Kernel6Ideal Cert.Kernel6Ideal.Gen

theorem index : ∀ t : Fin grid0.N, win0_0.index t = ![t.val / 4, 0] ∧ win0_1.index t = ![0, 0] ∧ win0_2.index t = ![if t.val / 4 % 9 = 0 then 8 else t.val / 36, 0, 0]
    ∧ win0_3.index t = ![if t.val / 4 % 9 = 0 then 8 else t.val / 36, 0, 0] ∧ win0_4.index t = ![0, t.val % 4] ∧ win0_5.index t = ![0, 4 + t.val % 4]
    ∧ win0_6.index t = ![t.val / 4, t.val % 4] ∧ win0_7.index t = ![t.val / 4, t.val % 4] := by decide +kernel

section Bodies
variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole)
  (x0 : Vec F S512x2048 .f32) (x1 : Vec F S1x2048 .f32) (x2 : Vec F S1x1x2048 .f32) (x3 : Vec F S1x1x2048 .f32) (x4 : Vec F S2048x1024 .bf16) (x5 : Vec F S2048x1024 .bf16) (xs0 : Vec F S512x2048 .bf16)

theorem out6_B (hc0 : ¬cond0_0 i) : out0_B_6 c i arg2 harg2 arg3 harg3 arg4 harg4 arg5 harg5 arg6 harg6 arg7 harg7 arg8 harg8 arg9 harg9 arg10 harg10 hc0 x0 x1 x2 x3 x4 x5 xs0 = k0_pay2 xs0 x4 := by
  frame_out
theorem out7_B (hc0 : ¬cond0_0 i) : out0_B_7 c i arg2 harg2 arg3 harg3 arg4 harg4 arg5 harg5 arg6 harg6 arg7 harg7 arg8 harg8 arg9 harg9 arg10 harg10 hc0 x0 x1 x2 x3 x4 x5 xs0 = k0_pay3 xs0 x5 := by
  frame_out
theorem u_B (hc0 : ¬cond0_0 i) : sout0_B_0 c i arg2 harg2 arg3 harg3 arg4 harg4 arg5 harg5 arg6 harg6 arg7 harg7 arg8 harg8 arg9 harg9 arg10 harg10 hc0 x0 x1 x2 x3 x4 x5 xs0 = xs0 := rfl
theorem out6_A (hc0 : cond0_0 i) : out0_A_6 c i arg2 harg2 arg3 harg3 arg4 harg4 arg5 harg5 arg6 harg6 arg7 harg7 arg8 harg8 arg9 harg9 arg10 harg10 hc0 x0 x1 x2 x3 x4 x5 = k0_pay2 (k0_pay1 x0 x1 x3 x2) x4 := by
  frame_out
theorem out7_A (hc0 : cond0_0 i) : out0_A_7 c i arg2 harg2 arg3 harg3 arg4 harg4 arg5 harg5 arg6 harg6 arg7 harg7 arg8 harg8 arg9 harg9 arg10 harg10 hc0 x0 x1 x2 x3 x4 x5 = k0_pay3 (k0_pay1 x0 x1 x3 x2) x5 := by
  frame_out
theorem u_A (hc0 : cond0_0 i) : sout0_A_0 c i arg2 harg2 arg3 harg3 arg4 harg4 arg5 harg5 arg6 harg6 arg7 harg7 arg8 harg8 arg9 harg9 arg10 harg10 hc0 x0 x1 x2 x3 x4 x5 = k0_pay1 x0 x1 x3 x2 := by
  frame_out

end Bodies

/-! ## What a point stores, at an index -/

/-- The modulated norm of a block of rows. -/
theorem u_apply (x g sc sh) (r : Fin 512) (k : Fin 2048) : k0_pay1 (F := Ideal) x g sc sh (ix2 r k)
    = Rows.modulated (fun k => x (ix2 r k)) (fun k => g (ix2 0 k)) (fun k => sh (ix3 0 0 k)) (fun k => sc (ix3 0 0 k)) k := by
  pointwise [k0_pay1, Rows.modulated, Rows.normed]
  rfl

theorem pay2_apply (u a) (r : Fin 512) (j : Fin 1024) : k0_pay2 (F := Ideal) u a (ix2 r j) = ∑ k : Fin 2048, u (ix2 r k) * a (ix2 k j) := by
  pointwise [k0_pay2]

theorem pay3_apply (u a) (r : Fin 512) (j : Fin 1024) : k0_pay3 (F := Ideal) u a (ix2 r j)
    = (∑ k : Fin 2048, u (ix2 r k) * a (ix2 k j)) * Rows.sigmoid (∑ k : Fin 2048, u (ix2 r k) * a (ix2 k j)) := by
  pointwise [k0_pay3, Rows.sigmoid]
  rw [zero_sub]

section
variable (m : (ℓ : Loc nD τ sig) → Buf (Elt Ideal) ℓ) (c : Dev nD)

/-! ## The arguments as the call reads them -/

theorem main_v6_apply (k : Fin 2048) (e : Fin 8192) : V m c main_v6 (ix2 k e) = m ((c.tc : Thread nD τ).loc main_arg7) (ix2 k e) := by
  unfold_abbrev_sides; after_reads_simp; pointwise
theorem main_v7_apply (r : Fin 36864) (k : Fin 2048) : V m c main_v7 (ix2 r k)
    = Wide.tokens (fun b s k => m ((c.tc : Thread nD τ).loc main_arg0) (ix3 b s k)) (fun b s k => m ((c.tc : Thread nD τ).loc main_arg1) (ix3 b s k)) (Wide.seq r) (Wide.tok r) k := by
  unfold_abbrev_sides; after_reads_simp; pointwise [Wide.tokens, Wide.seq, Wide.tok]
  split
  · after_reads_simp; pointwise
  · split
    · after_reads_simp
    · after_reads_simp
theorem main_v8_apply (k : Fin 2048) : V m c main_v8 (ix2 0 k) = m ((c.tc : Thread nD τ).loc main_arg2) (ix1 k) := by
  unfold_abbrev_sides; after_reads_simp; pointwise
theorem main_v9_apply (b : Fin 9) (k : Fin 2048) : V m c main_v9 (ix3 b 0 k)
    = if h : b.val < 8 then m ((c.tc : Thread nD τ).loc main_arg3) (ix2 ⟨b.val, h⟩ k) else m ((c.tc : Thread nD τ).loc main_arg5) (ix1 k) := by
  unfold_abbrev_sides; after_reads_simp; pointwise
  split
  · after_reads_simp
  · after_reads_simp; pointwise
theorem main_v10_apply (b : Fin 9) (k : Fin 2048) : V m c main_v10 (ix3 b 0 k)
    = if h : b.val < 8 then m ((c.tc : Thread nD τ).loc main_arg4) (ix2 ⟨b.val, h⟩ k) else m ((c.tc : Thread nD τ).loc main_arg6) (ix1 k) := by
  unfold_abbrev_sides; after_reads_simp; pointwise
  split
  · after_reads_simp
  · after_reads_simp; pointwise

/-- The rows the projection reads, from the arguments. -/
abbrev input (r : Fin 36864) : Fin 2048 → EReal :=
  Wide.input (fun b s k => m ((c.tc : Thread nD τ).loc main_arg0) (ix3 b s k)) (fun b s k => m ((c.tc : Thread nD τ).loc main_arg1) (ix3 b s k))
    (fun k => m ((c.tc : Thread nD τ).loc main_arg2) (ix1 k)) (fun b k => m ((c.tc : Thread nD τ).loc main_arg3) (ix2 b k)) (fun b k => m ((c.tc : Thread nD τ).loc main_arg4) (ix2 b k))
    (fun k => m ((c.tc : Thread nD τ).loc main_arg5) (ix1 k)) (fun k => m ((c.tc : Thread nD τ).loc main_arg6) (ix1 k)) (Wide.seq r) (Wide.tok r)
/-- One of its columns. -/
abbrev through (r : Fin 36864) (o : ℕ) (h : o + 4096 ≤ 8192) (j : Fin 4096) : EReal :=
  Rows.through (input m c r) (fun k e => m ((c.tc : Thread nD τ).loc main_arg7) (ix2 k e)) (Rows.col o h j)

theorem N_eq : cfg0.N = 288 := by decide

/-- The row of the array that a point's row `r` is. -/
def row (t : Fin cfg0.N) (r : Fin 512) : Fin 36864 := ⟨512 * (t.val / 4) + r.val, by have := lt_of_lt_of_eq t.isLt N_eq; omega⟩
/-- The column of a group that a point's column `j` is. -/
def lane (t : Fin cfg0.N) (j : Fin 1024) : Fin 4096 := ⟨1024 * (t.val % 4) + j.val, by omega⟩
/-- The row of the norm's parameters that a point reads. -/
def mods (t : Fin cfg0.N) : Fin 9 := ⟨if t.val / 4 % 9 = 0 then 8 else t.val / 36, by have := lt_of_lt_of_eq t.isLt N_eq; split <;> omega⟩

theorem block0 (t : Fin cfg0.N) (r : Fin 512) (k : Fin 2048) : iblk m c 0 t (ix2 r k) = V m c main_v7 (ix2 (row t r) k) := by blk_ext [iblk, index t, row]
theorem block1 (t : Fin cfg0.N) (k : Fin 2048) : iblk m c 1 t (ix2 0 k) = V m c main_v8 (ix2 0 k) := by blk_ext [iblk, index t]
theorem block2 (t : Fin cfg0.N) (k : Fin 2048) : iblk m c 2 t (ix3 0 0 k) = V m c main_v9 (ix3 (mods t) 0 k) := by blk_ext [iblk, index t, mods]
theorem block3 (t : Fin cfg0.N) (k : Fin 2048) : iblk m c 3 t (ix3 0 0 k) = V m c main_v10 (ix3 (mods t) 0 k) := by blk_ext [iblk, index t, mods]
theorem block4 (t : Fin cfg0.N) (k : Fin 2048) (j : Fin 1024) : iblk m c 4 t (ix2 k j) = V m c main_v6 (ix2 k (Rows.col 0 (by decide) (lane t j))) := by
  blk_ext [iblk, index t, Rows.col, lane]
theorem block5 (t : Fin cfg0.N) (k : Fin 2048) (j : Fin 1024) : iblk m c 5 t (ix2 k j) = V m c main_v6 (ix2 k (Rows.col 4096 (by decide) (lane t j))) := by
  blk_ext [iblk, index t, Rows.col, lane]

/-- A point's row of the norm's parameters is that of all its rows. -/
theorem param_eq (t : Fin cfg0.N) (r : Fin 512) (k : Fin 2048) (a : Fin 8 → Fin 2048 → EReal) (z : Fin 2048 → EReal) :
    (if h : (mods t).val < 8 then a ⟨(mods t).val, h⟩ k else z k) = Wide.param a z (Wide.seq (row t r)) (Wide.tok (row t r)) k := by
  have ht := lt_of_lt_of_eq t.isLt N_eq
  unfold Wide.param
  by_cases h0 : t.val / 4 % 9 = 0
  · have e : (mods t).val = 8 := if_pos h0
    rw [dif_neg (by omega), if_pos (by show (512 * (t.val / 4) + r.val) % 4608 < 512; omega)]
  · have e : (mods t).val = t.val / 36 := if_neg h0
    rw [dif_pos (by omega), if_neg (by show ¬(512 * (t.val / 4) + r.val) % 4608 < 512; omega)]
    exact congrArg (fun b => a b k) (Fin.ext (by show (mods t).val = (512 * (t.val / 4) + r.val) / 4608; omega))

/-- A point's results, from the rows it keeps. -/
theorem outs_eq (t : Fin cfg0.N) :
    (outsAt0 m c t.val t.isLt).1 = k0_pay2 (outsAt0 m c t.val t.isLt).2.2 (iblk m c 4 t)
    ∧ (outsAt0 m c t.val t.isLt).2.1 = k0_pay3 (outsAt0 m c t.val t.isLt).2.2 (iblk m c 5 t) := by
  by_cases h0 : t.val % 4 = 0
  · rw [outsAt0_A m c t h0]
    dsimp only
    rw [out6_A, out7_A, u_A]
    exact ⟨rfl, rfl⟩
  · rw [outsAt0_B m c t h0]
    dsimp only
    rw [out6_B, out7_B, u_B]
    exact ⟨rfl, rfl⟩

/-- At the first column tile the rows are normalised. -/
theorem kept_first (t : Fin cfg0.N) (h0 : t.val % 4 = 0) (r : Fin 512) (k : Fin 2048) : (outsAt0 m c t.val t.isLt).2.2 (ix2 r k) = input m c (row t r) k := by
  rw [outsAt0_A m c t h0]
  dsimp only
  rw [u_A, u_apply]
  exact Rows.modulated_congr (fun k => (block0 m c t r k).trans (main_v7_apply m c _ k)) (fun k => (block1 m c t k).trans (main_v8_apply m c k))
    (fun k => (block2 m c t k).trans ((main_v9_apply m c _ k).trans (param_eq t r k (fun b k => m ((c.tc : Thread nD τ).loc main_arg3) (ix2 b k)) (fun k => m ((c.tc : Thread nD τ).loc main_arg5) (ix1 k)))))
    (fun k => (block3 m c t k).trans ((main_v10_apply m c _ k).trans (param_eq t r k (fun b k => m ((c.tc : Thread nD τ).loc main_arg4) (ix2 b k)) (fun k => m ((c.tc : Thread nD τ).loc main_arg6) (ix1 k))))) k

/-- The rows a point keeps are the modulated norm of its rows of the input. -/
theorem kept (n : ℕ) : ∀ (hn : n < cfg0.N) (r : Fin 512) (k : Fin 2048), (outsAt0 m c n hn).2.2 (ix2 r k) = input m c (row ⟨n, hn⟩ r) k := by
  induction n with
  | zero => exact fun hn => kept_first m c ⟨0, hn⟩ rfl
  | succ n ih =>
    intro hn r k
    by_cases h0 : (n + 1) % 4 = 0
    · exact kept_first m c ⟨n + 1, hn⟩ h0 r k
    · rw [outsAt0_B m c ⟨n + 1, hn⟩ h0]
      dsimp only
      rw [u_B]
      refine (ih (Nat.lt_of_succ_lt hn) r k).trans (congrArg (fun r => input m c r k) (Fin.ext ?_))
      show 512 * (n / 4) + r.val = 512 * ((n + 1) / 4) + r.val
      omega

/-- A block of the product, from the weights' block. -/
theorem through_apply (t : Fin cfg0.N) (o : ℕ) (h : o + 4096 ≤ 8192) (r : Fin 512) (j : Fin 1024) (w : Fin 2048 → EReal)
    (hw : ∀ k, w k = V m c main_v6 (ix2 k (Rows.col o h (lane t j)))) :
    ∑ k : Fin 2048, (outsAt0 m c t.val t.isLt).2.2 (ix2 r k) * w k = through m c (row t r) o h (lane t j) :=
  Finset.sum_congr rfl fun k _ => congrArg₂ (· * ·) (kept m c t.val t.isLt r k) ((hw k).trans (main_v6_apply m c k _))

/-- The first result's array after the run. -/
theorem array6 : (dats m 0 c).arrAt 6 cfg0.N = fun i => through m c (i 0) 0 (by decide) (i 1) := by
  refine (dats m 0 c).arrAt_eq_of_covers 6 _ (by decide +kernel) fun t hf y => ?_
  blk_simp [after0_6]
  obtain ⟨r, j, rfl⟩ : ∃ (r : Fin 512) (j : Fin 1024), y = ix2 r j := ⟨y 0, y 1, (ix2_eta y).symm⟩
  have e0 : (win0_6.blk t).view.emb (ix2 r j) 0 = row t r := Fin.ext (by blk_simp [index t, row]; exact congrArg (· + r.val) (Nat.mul_comm _ _))
  have e1 : (win0_6.blk t).view.emb (ix2 r j) 1 = lane t j := Fin.ext (by blk_simp [index t, lane]; exact congrArg (· + j.val) (Nat.mul_comm _ _))
  rw [e0, e1, (outs_eq m c t).1, pay2_apply]
  exact through_apply m c t 0 (by decide) r j _ fun k => block4 m c t k j

/-- The second result's array after the run. -/
theorem array7 : (dats m 0 c).arrAt 7 cfg0.N = fun i => through m c (i 0) 4096 (by decide) (i 1) * Rows.sigmoid (through m c (i 0) 4096 (by decide) (i 1)) := by
  refine (dats m 0 c).arrAt_eq_of_covers 7 _ (by decide +kernel) fun t hf y => ?_
  blk_simp [after0_7]
  obtain ⟨r, j, rfl⟩ : ∃ (r : Fin 512) (j : Fin 1024), y = ix2 r j := ⟨y 0, y 1, (ix2_eta y).symm⟩
  have e0 : (win0_7.blk t).view.emb (ix2 r j) 0 = row t r := Fin.ext (by blk_simp [index t, row]; exact congrArg (· + r.val) (Nat.mul_comm _ _))
  have e1 : (win0_7.blk t).view.emb (ix2 r j) 1 = lane t j := Fin.ext (by blk_simp [index t, lane]; exact congrArg (· + j.val) (Nat.mul_comm _ _))
  rw [e0, e1, (outs_eq m c t).2, pay3_apply]
  exact congrArg (fun a => a * Rows.sigmoid a) (through_apply m c t 4096 (by decide) r j _ fun k => block5 m c t k j)

/-- The run ends with both arrays and leaves the arguments. -/
theorem run (ρ : Dev nD → PrngReg) : θ_run defs (onTc (τ := τ) (main (F := Ideal))) ⟨m, fun _ => 0, ρ⟩ fun r => ∀ c : Dev nD,
      r.2.mem ((c.tc : Thread nD τ).loc main_v11_0) = (dats m 0 c).arrAt 6 cfg0.N
      ∧ r.2.mem ((c.tc : Thread nD τ).loc main_v11_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    have k : ∀ b (hb : b ∈ Pipeline.restRefs sig spec0), r.2.mem ((c.tc : Thread nD τ).loc b) = V m c b := (h c).2
    ⟨(h c).1 6, (h c).1 7,
      (k main_arg0 (Pipeline.mem_restRefs_of main_arg0 (by decide) (by decide))).trans (V_main_arg0 m c),
      (k main_arg1 (Pipeline.mem_restRefs_of main_arg1 (by decide) (by decide))).trans (V_main_arg1 m c),
      (k main_arg2 (Pipeline.mem_restRefs_of main_arg2 (by decide) (by decide))).trans (V_main_arg2 m c),
      (k main_arg3 (Pipeline.mem_restRefs_of main_arg3 (by decide) (by decide))).trans (V_main_arg3 m c),
      (k main_arg4 (Pipeline.mem_restRefs_of main_arg4 (by decide) (by decide))).trans (V_main_arg4 m c),
      (k main_arg5 (Pipeline.mem_restRefs_of main_arg5 (by decide) (by decide))).trans (V_main_arg5 m c),
      (k main_arg6 (Pipeline.mem_restRefs_of main_arg6 (by decide) (by decide))).trans (V_main_arg6 m c),
      (k main_arg7 (Pipeline.mem_restRefs_of main_arg7 (by decide) (by decide))).trans (V_main_arg7 m c)⟩)
    (run_main m ρ)

end

end Cert.Kernel6Ideal.In

namespace Cert.Reference6Ideal.In
open Cert.Reference6Ideal Cert.Reference6Ideal.Gen

/-- The context with rows of zeros in front. -/
def ctx (x : FVec Ideal S8x256x2048 .f32) : FVec Ideal S8x512x2048 .f32 :=
  pad S8x512x2048 ![0, 256, 0] ![0, 0, 0] ![0, 0, 0] x (sitofp .f32 (constantI S_ 32 0#32)) pads_S8x256x2048_S8x512x2048_000_25600_000 h_S_

theorem ctx_apply (x) (b : Fin 8) (s : Fin 512) (k : Fin 2048) : ctx x (ix3 b s k) = if h : s.val < 256 then 0 else x (ix3 b ⟨s.val - 256, by omega⟩ k) := by
  pointwise [ctx]
  by_cases h : s.val < 256
  · rw [dif_pos h, dif_neg (by omega)]
    show (((0#32 : BitVec 32).toInt : ℝ) : EReal) = 0
    simp
  · rw [dif_neg h, dif_pos (by omega)]

/-- The normalisation of the context's rows. -/
def norm (x : FVec Ideal S8x512x2048 .f32) (g : FVec Ideal S2048 .f32) : FVec Ideal S8x512x2048 .f32 :=
  mulf (mulf x (broadcastInDim S8x512x2048 ![0, 1, 2] bcast_S8x512x1_S8x512x2048_0_1_2 (Host.rsqrt (addf (Host.divf (broadcastInDim S8x512x1 ![0, 1] bcast_S8x512_S8x512x1_0_1 (Host.reduceAdd (mulf x x) (constant S_ .f32 0x00000000#32) reducesTo_S8x512x2048_S8x512_d2 h_S_)) (broadcastInDim S8x512x1 ![] bcast_S_S8x512x1 (constant S_ .f32 0x45000000#32))) (broadcastInDim S8x512x1 ![] bcast_S_S8x512x1 (constant S_ .f32 0x358637BD#32)))))) (broadcastInDim S8x512x2048 ![0, 1, 2] bcast_S1x1x2048_S8x512x2048_0_1_2 (broadcastInDim S1x1x2048 ![2] bcast_S2048_S1x1x2048_2 g))

theorem norm_apply (x g) (b : Fin 8) (s : Fin 512) (j : Fin 2048) : norm x g (ix3 b s j) = Rows.normed (fun j => x (ix3 b s j)) (fun j => g (ix1 j)) j := by
  pointwise [norm, Rows.normed]
  rfl

/-- The modulated norm of the context's rows. -/
def first (x : FVec Ideal S8x512x2048 .f32) (g sh sc : FVec Ideal S2048 .f32) : FVec Ideal S8x512x2048 .f32 :=
  addf (mulf (norm x g) (broadcastInDim S8x512x2048 ![0, 1, 2] bcast_S1x1x2048_S8x512x2048_0_1_2 (broadcastInDim S1x1x2048 ![2] bcast_S2048_S1x1x2048_2 (addf (broadcastInDim S2048 ![] bcast_S_S2048 (constant S_ .f32 0x3F800000#32)) sc)))) (broadcastInDim S8x512x2048 ![0, 1, 2] bcast_S1x1x2048_S8x512x2048_0_1_2 (broadcastInDim S1x1x2048 ![2] bcast_S2048_S1x1x2048_2 sh))

theorem first_apply (x g sh sc) (b : Fin 8) (s : Fin 512) (k : Fin 2048) : first x g sh sc (ix3 b s k)
    = Rows.modulated (fun k => x (ix3 b s k)) (fun k => g (ix1 k)) (fun k => sh (ix1 k)) (fun k => sc (ix1 k)) k := by
  rw [Rows.modulated, ← norm_apply]
  pointwise [first]

/-- The two products with the weights. -/
def product (x : FVec Ideal S8x512x2048 .f32) (w : FVec Ideal S2048x8192 .f32) : FVec Ideal S8x512x8192 .f32 :=
  Host.dotGeneral dot_S8x512x2048_S2048x8192_S8x512x8192_2_0_01_1_n_n none x w
def product' (x : FVec Ideal S8x4096x2048 .f32) (w : FVec Ideal S2048x8192 .f32) : FVec Ideal S8x4096x8192 .f32 :=
  Host.dotGeneral dot_S8x4096x2048_S2048x8192_S8x4096x8192_2_0_01_1_n_n none x w

theorem product_apply (x w) (b : Fin 8) (s : Fin 512) (e : Fin 8192) : product x w (ix3 b s e) = Rows.through (fun k => x (ix3 b s k)) (fun k e => w (ix2 k e)) e := by
  pointwise [product, Rows.through]
theorem product'_apply (x w) (b : Fin 8) (s : Fin 4096) (e : Fin 8192) : product' x w (ix3 b s e) = Rows.through (fun k => x (ix3 b s k)) (fun k e => w (ix2 k e)) e := by
  pointwise [product', Rows.through]

/-- A group of columns of both products, one after the other. -/
def group (o : ℕ) (hp : S8x512x8192.Slices ![0, 0, o] S8x512x4096) (hq : S8x4096x8192.Slices ![0, 0, o] S8x4096x4096) (p : FVec Ideal S8x512x8192 .f32) (q : FVec Ideal S8x4096x8192 .f32) : FVec Ideal S8x4608x4096 .f32 :=
  concatenate S8x4608x4096 1 [⟨S8x512x4096, extractStridedSlice S8x512x4096 ![0, 0, o] p hp⟩, ⟨S8x4096x4096, extractStridedSlice S8x4096x4096 ![0, 0, o] q hq⟩] concatenates_S8x512x4096_S8x4096x4096_S8x4608x4096_d1

theorem group_apply (o : ℕ) (ho : o + 4096 ≤ 8192) (hp hq p q) (b : Fin 8) (s : Fin 4608) (j : Fin 4096) : group o hp hq p q (ix3 b s j)
    = if h : s.val < 512 then p (ix3 b ⟨s.val, h⟩ (Rows.col o ho j)) else q (ix3 b ⟨s.val - 512, by omega⟩ (Rows.col o ho j)) := by
  pointwise [group, Rows.col]

/-- The logistic function of an array. -/
def sigmoid (x : FVec Ideal S8x4608x4096 .f32) : FVec Ideal S8x4608x4096 .f32 :=
  Host.divf (broadcastInDim S8x4608x4096 ![] bcast_S_S8x4608x4096 (constant S_ .f32 0x3F800000#32)) (addf (broadcastInDim S8x4608x4096 ![] bcast_S_S8x4608x4096 (constant S_ .f32 0x3F800000#32)) (Host.exp (Host.negf x)))

theorem sigmoid_apply (x) (i : S8x4608x4096.Idx) : sigmoid x i = Rows.sigmoid (x i) := by pointwise [sigmoid, Rows.sigmoid]

/-- The tokens flattened into rows. -/
def rows (x : FVec Ideal S8x4608x4096 .f32) : FVec Ideal S36864x4096 .bf16 := truncf .bf16 (shapeCast S36864x4096 x shapeCasts_S8x4608x4096_S36864x4096) bitsLt_bf16_f32

theorem rows_apply (x) (r : Fin 36864) (j : Fin 4096) : rows x (ix2 r j) = x (ix3 (Wide.seq r) (Wide.tok r) j) := by
  pointwise [rows, Wide.seq, Wide.tok]

section
variable (o : ℕ) (ho : o + 4096 ≤ 8192) (hp : S8x512x8192.Slices ![0, 0, o] S8x512x4096) (hq : S8x4096x8192.Slices ![0, 0, o] S8x4096x4096)
  (x : FVec Ideal S8x256x2048 .f32) (y : FVec Ideal S8x4096x2048 .f32) (g : FVec Ideal S2048 .f32) (sh sc : FVec Ideal S8x2048 .f32) (zh zc : FVec Ideal S2048 .f32)
  (w : FVec Ideal S2048x8192 .f32)

/-- A group of columns of the reference, at every token. -/
def whole : FVec Ideal S8x4608x4096 .f32 := group o hp hq (product (first (ctx x) g zh zc) w) (product' (Cert.Reference2Ideal.In.input y g sh sc) w)

theorem whole_apply (b : Fin 8) (s : Fin 4608) (j : Fin 4096) : whole o hp hq x y g sh sc zh zc w (ix3 b s j)
    = Rows.through (Wide.input (fun b s k => x (ix3 b s k)) (fun b s k => y (ix3 b s k)) (fun k => g (ix1 k)) (fun b k => sh (ix2 b k)) (fun b k => sc (ix2 b k))
        (fun k => zh (ix1 k)) (fun k => zc (ix1 k)) b s) (fun k e => w (ix2 k e)) (Rows.col o ho j) := by
  unfold whole
  rw [group_apply o ho]
  by_cases h : s.val < 512
  · rw [dif_pos h, product_apply]
    refine congrArg (fun u => Rows.through u _ _) (funext fun k => (first_apply _ _ _ _ _ _ k).trans (Rows.modulated_congr (fun k => ?_) (fun _ => rfl)
      (fun k => (if_pos h).symm) (fun k => (if_pos h).symm) k))
    rw [ctx_apply]
    unfold Wide.tokens
    by_cases h' : s.val < 256
    · rw [dif_pos h', dif_pos h']
    · rw [dif_neg h', dif_neg h', dif_pos (by omega)]
  · rw [dif_neg h, product'_apply]
    refine congrArg (fun u => Rows.through u _ _) (funext fun k => (Cert.Reference2Ideal.In.input_apply _ _ _ _ _ _ k).trans (Rows.modulated_congr (fun k => ?_) (fun _ => rfl)
      (fun k => (if_neg h).symm) (fun k => (if_neg h).symm) k))
    unfold Wide.tokens
    rw [dif_neg (by omega), dif_neg (by omega)]
    exact congrArg (fun s => y (ix3 b s k)) (Fin.ext (by show s.val - 512 = s.val - 256 - 256; omega))

/-- The first result, at an index. -/
theorem plain_apply (r : Fin 36864) (j : Fin 4096) : rows (whole o hp hq x y g sh sc zh zc w) (ix2 r j)
    = Rows.through (Wide.input (fun b s k => x (ix3 b s k)) (fun b s k => y (ix3 b s k)) (fun k => g (ix1 k)) (fun b k => sh (ix2 b k)) (fun b k => sc (ix2 b k))
        (fun k => zh (ix1 k)) (fun k => zc (ix1 k)) (Wide.seq r) (Wide.tok r)) (fun k e => w (ix2 k e)) (Rows.col o ho j) :=
  (rows_apply _ r j).trans (whole_apply o ho hp hq x y g sh sc zh zc w _ _ j)

/-- The second result, at an index. -/
theorem silu_apply (r : Fin 36864) (j : Fin 4096) : rows (mulf (whole o hp hq x y g sh sc zh zc w) (sigmoid (whole o hp hq x y g sh sc zh zc w))) (ix2 r j)
    = (fun a => a * Rows.sigmoid a) (Rows.through (Wide.input (fun b s k => x (ix3 b s k)) (fun b s k => y (ix3 b s k)) (fun k => g (ix1 k)) (fun b k => sh (ix2 b k)) (fun b k => sc (ix2 b k))
        (fun k => zh (ix1 k)) (fun k => zc (ix1 k)) (Wide.seq r) (Wide.tok r)) (fun k e => w (ix2 k e)) (Rows.col o ho j)) := by
  rw [← whole_apply o ho hp hq x y g sh sc zh zc w]
  refine (rows_apply _ r j).trans ?_
  show _ = _ * _
  rw [← sigmoid_apply]
  rfl

end

end Cert.Reference6Ideal.In
end
-- ==== Proof.Out7.lean ====
module

public import proofs.«01_k».proof.Proof.Gen.Kernel7Ideal.Value
public import proofs.«01_k».proof.Proof.Gen.Reference7Ideal.Run
public import Idealize.ShloMosaic.Lib.StableHlo.RunRead
public import Idealize.ShloMosaic.Lib.Tactic
public import Idealize.ShloMosaic.Lib.Pipeline.ValueKit
public import Idealize.ShloMosaic.Lib.Pipeline.ValueKit.Acc
public import Idealize.ShloMosaic.Lib.Pointwise
public import proofs.«01_k».proof.Proof.Out5

@[expose] public section

set_option maxRecDepth 16384

noncomputable section

open Idealize.ShloMosaic Idealize.ShloMosaic.TcCoe Idealize.SL.Sem

namespace Cert.Heads

/-- Lane `e` of head `h`. -/
def lane (h : Fin 8) (e : Fin 512) : Fin 4096 := ⟨h.val * 512 + e.val, by omega⟩
/-- The head of a lane, and the lane within it. -/
def head (j : Fin 4096) : Fin 8 := ⟨j.val / 512, by omega⟩
def within (j : Fin 4096) : Fin 512 := ⟨j.val % 512, Nat.mod_lt _ (by decide)⟩
theorem lane_head (j : Fin 4096) : lane (head j) (within j) = j := Fin.ext (Nat.div_add_mod' j.val 512)

/-- The layer norm of a row of 512 entries. -/
def mean (x : Fin 512 → EReal) : EReal := Ideal.div (∑ e, x e) (Ideal.ofBits .f32 0x44000000#32)
def normed (x : Fin 512 → EReal) (g : Fin 512 → EReal) (e : Fin 512) : EReal :=
  (x e - mean x) * Ideal.rsqrt (mean (fun e => (x e - mean x) * (x e - mean x)) + Ideal.ofBits .f32 0x358637BD#32) * g e

/-- One head of a row: normed, gated and with the skip added. -/
def mixed (a b o g s x z : Fin 512 → EReal) (e : Fin 512) : EReal :=
  (o e * normed (fun e => a e + b e) g e + s e * x e) * z e

theorem mixed_congr {a a' b b' o o' g g' s s' x x' z z' : Fin 512 → EReal} (ha : ∀ e, a e = a' e) (hb : ∀ e, b e = b' e) (ho : ∀ e, o e = o' e) (hg : ∀ e, g e = g' e)
    (hs : ∀ e, s e = s' e) (hx : ∀ e, x e = x' e) (hz : ∀ e, z e = z' e) (e : Fin 512) : mixed a b o g s x z e = mixed a' b' o' g' s' x' z' e := by
  rw [funext ha, funext hb, funext ho, funext hg, funext hs, funext hx, funext hz]

/-- A latent token's place among all tokens, and among all tokens with the tokens of zeros before them. -/
def late (t : Fin 4096) : Fin 4352 := ⟨256 + t.val, by omega⟩
def later (t : Fin 4096) : Fin 4608 := ⟨256 + (256 + t.val), by omega⟩

/-- The latent tokens' rows after the heads. -/
def row (h : Fin 2 → Fin 8 → Fin 4352 → Fin 4096 → EReal) (o x : Fin 8 → Fin 4352 → Fin 4096 → EReal) (z : Fin 8 → Fin 4608 → Fin 4096 → EReal) (g s : Fin 4096 → EReal)
    (b : Fin 8) (t : Fin 4096) (k : Fin 4096) : EReal :=
  mixed (fun e => h 0 b (late t) (lane (head k) e)) (fun e => h 1 b (late t) (lane (head k) e)) (fun e => o b (late t) (lane (head k) e)) (fun e => g (lane (head k) e))
    (fun e => s (lane (head k) e)) (fun e => x b (late t) (lane (head k) e)) (fun e => z b (later t) (lane (head k) e)) (within k)

end Cert.Heads

namespace Cert.Kernel7Ideal.Out

open Cert.Kernel7Ideal Cert.Kernel7Ideal.Gen

section Terms
variable {F : FTy → Type} [FloatOps F]

abbrev rH (h : Fin 8) : Rect S1x1x256x4096 := Rect.unit ![0, 0, 0, 512 * h.val] ![1, 1, 256, 512] (by revert h; decide)
abbrev rT (h : Fin 8) : Rect S1x256x4096 := Rect.unit ![0, 0, 512 * h.val] ![1, 256, 512] (by revert h; decide)
abbrev rG (h : Fin 8) : Rect S1x4096 := Rect.unit ![0, 512 * h.val] ![1, 512] (by revert h; decide)
abbrev rY (h : Fin 8) : Rect S256x4096 := Rect.unit ![0, 512 * h.val] ![256, 512] (by revert h; decide)

/-- What one head stores, from its blocks. -/
def yH (a b : Vec F S1x1x256x512 .bf16) (o x z : Vec F S1x256x512 .bf16) (g s : Vec F S1x512 .f32) : FVec F S256x512 .bf16 :=
  k0_pay6 (k0_pay3 a b g o) (k0_pay4 s) (k0_pay5 x) z

variable (x0 x1 : Vec F S1x1x256x4096 .bf16) (x2 x3 x4 : Vec F S1x256x4096 .bf16) (x5 x6 : Vec F S1x4096 .f32)

def yP (h : Fin 8) : FVec F S256x512 .bf16 :=
  yH (View.ld x0 (rH h)) (View.ld x1 (rH h)) (View.ld x2 (rT h)) (View.ld x3 (rT h)) (View.ld x4 (rT h)) (View.ld x5 (rG h)) (View.ld x6 (rG h))

/-- The stores of the eight heads, last first. -/
abbrev heads {s : Shape} {e : EltTy} (r : Fin 8 → Rect s) (p : ∀ h, (r h).shape.Idx → Elt F e) : List (View.Piece (Elt F) s e) :=
  [⟨r 7, p 7⟩, ⟨r 6, p 6⟩, ⟨r 5, p 5⟩, ⟨r 4, p 4⟩, ⟨r 3, p 3⟩, ⟨r 2, p 2⟩, ⟨r 1, p 1⟩, ⟨r 0, p 0⟩]

/-- The scratch after the eight heads. -/
def yAll : Vec F S256x4096 .bf16 := View.canon (Val := Elt F) (heads (e := .bf16) rY (yP x0 x1 x2 x3 x4 x5 x6))

theorem rY_disjoint (g h : Fin 8) (hg : g ≠ h) : Disjoint (rY h).set (rY g).set :=
  Rect.unit_disjoint 1 (show 512 * h.val + 512 ≤ 512 * g.val ∨ 512 * g.val + 512 ≤ 512 * h.val by omega)

theorem rY_emb (h : Fin 8) (r : Fin 256) (e : Fin 512) : (rY h).emb (ix2 r e) = ix2 r (Heads.lane h e) := by
  funext a; match a with
  | ⟨0, _⟩ => exact Fin.ext (show 0 + 1 * r.val = r.val by omega)
  | ⟨1, _⟩ => exact Fin.ext (show 512 * h.val + 1 * e.val = h.val * 512 + e.val by omega)
theorem rG_emb (h : Fin 8) (e : Fin 512) : (rG h).emb (ix2 0 e) = ix2 0 (Heads.lane h e) := by
  funext a; match a with
  | ⟨0, _⟩ => rfl
  | ⟨1, _⟩ => exact Fin.ext (show 512 * h.val + 1 * e.val = h.val * 512 + e.val by omega)
theorem rT_emb (h : Fin 8) (r : Fin 256) (e : Fin 512) : (rT h).emb (ix3 0 r e) = ix3 0 r (Heads.lane h e) := by
  funext a; match a with
  | ⟨0, _⟩ => rfl
  | ⟨1, _⟩ => exact Fin.ext (show 0 + 1 * r.val = r.val by omega)
  | ⟨2, _⟩ => exact Fin.ext (show 512 * h.val + 1 * e.val = h.val * 512 + e.val by omega)
theorem rH_emb (h : Fin 8) (r : Fin 256) (e : Fin 512) : (rH h).emb (ix4 0 0 r e) = ix4 0 0 r (Heads.lane h e) := by
  funext a; match a with
  | ⟨0, _⟩ => rfl
  | ⟨1, _⟩ => rfl
  | ⟨2, _⟩ => exact Fin.ext (show 0 + 1 * r.val = r.val by omega)
  | ⟨3, _⟩ => exact Fin.ext (show 512 * h.val + 1 * e.val = h.val * 512 + e.val by omega)

/-- Every entry of the scratch is some head's. -/
theorem rY_covers (y : S256x4096.Idx) : ∃ h : Fin 8, y ∈ (rY h).set := by
  obtain ⟨r, j, rfl⟩ : ∃ (r : Fin 256) (j : Fin 4096), y = ix2 r j := ⟨y 0, y 1, (ix2_eta y).symm⟩
  refine ⟨Heads.head j, ?_⟩
  have e := rY_emb (Heads.head j) r (Heads.within j)
  rw [Heads.lane_head] at e
  rw [← e]
  exact (rY (Heads.head j)).toLoadRect.idx_mem (ix2 r (Heads.within j))

theorem mem_heads {s : Shape} {e : EltTy} (r : Fin 8 → Rect s) (p : ∀ h, (r h).shape.Idx → Elt F e) (h : Fin 8) : (⟨r h, p h⟩ : View.Piece (Elt F) s e) ∈ heads r p :=
  (List.mem_map.mpr ⟨h, by revert h; decide, rfl⟩ : _ ∈ List.map (fun h => (⟨r h, p h⟩ : View.Piece (Elt F) s e)) [7, 6, 5, 4, 3, 2, 1, 0])

theorem heads_covers (p : ∀ h : Fin 8, (rY h).shape.Idx → Elt F .bf16) (y : S256x4096.Idx) : ∃ q ∈ heads (e := .bf16) rY p, y ∈ q.1.set :=
  let ⟨h, hh⟩ := rY_covers y
  ⟨_, mem_heads (e := .bf16) rY p h, hh⟩

theorem yAll_apply (h : Fin 8) (r : Fin 256) (e : Fin 512) : yAll x0 x1 x2 x3 x4 x5 x6 (ix2 r (Heads.lane h e)) = yP x0 x1 x2 x3 x4 x5 x6 h (ix2 r e) := by
  have skip : ∀ (g : Fin 8) (w) (L : List (View.Piece (Elt F) S256x4096 .bf16)), g ≠ h →
      View.canon (⟨rY g, w⟩ :: L) ((rY h).emb (ix2 r e)) = View.canon L ((rY h).emb (ix2 r e)) := fun g w L hg =>
    View.canon_cons_of_not_mem _ _ (Finset.disjoint_left.mp (rY_disjoint g h hg) ((rY h).toLoadRect.idx_mem (ix2 r e)))
  rw [← rY_emb]
  unfold yAll
  match h with
  | 0 => rw [skip 7 _ _ (by decide), skip 6 _ _ (by decide), skip 5 _ _ (by decide), skip 4 _ _ (by decide), skip 3 _ _ (by decide), skip 2 _ _ (by decide), skip 1 _ _ (by decide), View.canon_cons_emb]
  | 1 => rw [skip 7 _ _ (by decide), skip 6 _ _ (by decide), skip 5 _ _ (by decide), skip 4 _ _ (by decide), skip 3 _ _ (by decide), skip 2 _ _ (by decide), View.canon_cons_emb]
  | 2 => rw [skip 7 _ _ (by decide), skip 6 _ _ (by decide), skip 5 _ _ (by decide), skip 4 _ _ (by decide), skip 3 _ _ (by decide), View.canon_cons_emb]
  | 3 => rw [skip 7 _ _ (by decide), skip 6 _ _ (by decide), skip 5 _ _ (by decide), skip 4 _ _ (by decide), View.canon_cons_emb]
  | 4 => rw [skip 7 _ _ (by decide), skip 6 _ _ (by decide), skip 5 _ _ (by decide), View.canon_cons_emb]
  | 5 => rw [skip 7 _ _ (by decide), skip 6 _ _ (by decide), View.canon_cons_emb]
  | 6 => rw [skip 7 _ _ (by decide), View.canon_cons_emb]
  | 7 => rw [View.canon_cons_emb]

variable (c : Dev nD) (i : grid0.Coords) (arg1 : Memref sig .tc .vmem S1x1x256x4096 .bf16) (harg1 : arg1.IsWhole) (arg2 : Memref sig .tc .vmem S1x1x256x4096 .bf16) (harg2 : arg2.IsWhole) (arg3 : Memref sig .tc .vmem S1x256x4096 .bf16) (harg3 : arg3.IsWhole) (arg4 : Memref sig .tc .vmem S1x256x4096 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x2048 .bf16) (harg8 : arg8.IsWhole) (arg9 : Memref sig .tc .vmem S256x2048 .f32) (harg9 : arg9.IsWhole) (arg10 : Memref sig .tc .vmem S1x1x2048 .f32) (harg10 : arg10.IsWhole) (arg11 : Memref sig .tc .vmem S256x2048 .f32) (harg11 : arg11.IsWhole) (arg12 : Memref sig .tc .vmem S256x4096 .bf16) (harg12 : arg12.IsWhole)
  (x7 : Vec F S4096x2048 .bf16) (x8 : Vec F S256x2048 .f32) (x9 : Vec F S1x1x2048 .f32)

theorem out_A : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = k0_pay2 (yAll x0 x1 x2 x3 x4 x5 x6) x7 x8 x9 := by
  frame_out
  refine congrArg (fun y => k0_pay2 y x7 x8 x9) ?_
  refine (View.readCov_eq_canon_ld _ (heads (e := .bf16) rY (yP x0 x1 x2 x3 x4 x5 x6)) _ (heads_covers _)).trans ?_
  exact View.ld_unit_zero (by decide) _ _

end Terms

section
variable (a b : Vec Ideal S1x1x256x512 .bf16) (o x z : Vec Ideal S1x256x512 .bf16) (g s : Vec Ideal S1x512 .f32)

theorem pay3_apply (r : Fin 256) (e : Fin 512) : k0_pay3 (F := Ideal) a b g o (ix2 r e)
    = o (ix3 0 r e) * Heads.normed (fun e => a (ix4 0 0 r e) + b (ix4 0 0 r e)) (fun e => g (ix2 0 e)) e := by
  pointwise [k0_pay3, Heads.normed, Heads.mean]

theorem yH_apply (r : Fin 256) (e : Fin 512) : yH (F := Ideal) a b o x z g s (ix2 r e)
    = Heads.mixed (fun e => a (ix4 0 0 r e)) (fun e => b (ix4 0 0 r e)) (fun e => o (ix3 0 r e)) (fun e => g (ix2 0 e)) (fun e => s (ix2 0 e)) (fun e => x (ix3 0 r e)) (fun e => z (ix3 0 r e)) e := by
  unfold yH Heads.mixed
  rw [← pay3_apply]
  pointwise [k0_pay6, k0_pay4, k0_pay5]

end

theorem pay2_apply (y : Vec Ideal S256x4096 .bf16) (w : Vec Ideal S4096x2048 .bf16) (h : Vec Ideal S256x2048 .f32) (g : Vec Ideal S1x1x2048 .f32) (r : Fin 256) (j : Fin 2048) :
    k0_pay2 (F := Ideal) y w h g (ix2 r j) = h (ix2 r j) + g (ix3 0 0 j) * ∑ k : Fin 4096, y (ix2 r k) * w (ix2 k j) := by
  have e : k0_pay2 y w h g (ix2 r j) = h (ix2 r j) + g (ix3 0 0 j)
      * matmul (φ₁ := .bf16) (φ₂ := .bf16) dot_S256x4096_S4096x2048_S256x2048_1_0_0_1_n_n none y w (constant S256x2048 .f32 0#32) (ix2 r j) := by pointwise [k0_pay2]
  exact e.trans (congrArg (h (ix2 r j) + g (ix3 0 0 j) * ·) (Rows.matmul_apply (φ₁ := .bf16) (φ₂ := .bf16) _ rfl y w r j))

/-- The scratch, at an index. -/
theorem scratch_apply (x0 x1 : Vec Ideal S1x1x256x4096 .bf16) (x2 x3 x4 : Vec Ideal S1x256x4096 .bf16) (x5 x6 : Vec Ideal S1x4096 .f32) (r : Fin 256) (k : Fin 4096) :
    yAll (F := Ideal) x0 x1 x2 x3 x4 x5 x6 (ix2 r k) = Heads.mixed (fun e => x0 (ix4 0 0 r (Heads.lane (Heads.head k) e))) (fun e => x1 (ix4 0 0 r (Heads.lane (Heads.head k) e)))
      (fun e => x2 (ix3 0 r (Heads.lane (Heads.head k) e))) (fun e => x5 (ix2 0 (Heads.lane (Heads.head k) e))) (fun e => x6 (ix2 0 (Heads.lane (Heads.head k) e)))
      (fun e => x3 (ix3 0 r (Heads.lane (Heads.head k) e))) (fun e => x4 (ix3 0 r (Heads.lane (Heads.head k) e))) (Heads.within k) := by
  have e := (yAll_apply x0 x1 x2 x3 x4 x5 x6 (Heads.head k) r (Heads.within k)).trans (yH_apply _ _ _ _ _ _ _ r _)
  rw [Heads.lane_head] at e
  simp only [View.ld] at e
  simp only [← rH_emb, ← rT_emb, ← rG_emb]
  exact e

theorem index : ∀ t : Fin grid0.N, win0_0.index t = ![0, t.val / 16, 1 + t.val % 16, 0] ∧ win0_1.index t = ![1, t.val / 16, 1 + t.val % 16, 0]
    ∧ win0_2.index t = ![t.val / 16, 1 + t.val % 16, 0] ∧ win0_3.index t = ![t.val / 16, 1 + t.val % 16, 0] ∧ win0_4.index t = ![t.val / 16, 2 + t.val % 16, 0]
    ∧ win0_5.index t = ![0, 0] ∧ win0_6.index t = ![0, 0] ∧ win0_7.index t = ![0, 0] ∧ win0_8.index t = ![t.val, 0] ∧ win0_9.index t = ![t.val / 16, 0, 0]
    ∧ win0_10.index t = ![t.val, 0] := by decide +kernel

section
variable (m : (ℓ : Loc nD τ sig) → Buf (Elt Ideal) ℓ) (c : Dev nD)

/-! ## The arguments as the call reads them -/

theorem main_v0_apply (d : Fin 2) (b : Fin 8) (t : Fin 4352) (k : Fin 4096) : V m c main_v0 (ix4 d b t k) = m ((c.tc : Thread nD τ).loc main_arg0) (ix4 d b t k) := by
  unfold_abbrev_sides; after_reads_simp; pointwise
theorem main_v1_apply (b : Fin 8) (t : Fin 4352) (k : Fin 4096) : V m c main_v1 (ix3 b t k) = m ((c.tc : Thread nD τ).loc main_arg1) (ix3 b t k) := by
  unfold_abbrev_sides; after_reads_simp; pointwise
theorem main_v2_apply (b : Fin 8) (t : Fin 4352) (k : Fin 4096) : V m c main_v2 (ix3 b t k) = m ((c.tc : Thread nD τ).loc main_arg2) (ix3 b t k) := by
  unfold_abbrev_sides; after_reads_simp; pointwise
theorem main_v3_apply (b : Fin 8) (t : Fin 4608) (k : Fin 4096) : V m c main_v3 (ix3 b t k) = m ((c.tc : Thread nD τ).loc main_arg3) (ix3 b t k) := by
  unfold_abbrev_sides; after_reads_simp; pointwise
theorem main_v4_apply (k : Fin 4096) (j : Fin 2048) : V m c main_v4 (ix2 k j) = m ((c.tc : Thread nD τ).loc main_arg6) (ix2 k j) := by
  unfold_abbrev_sides; after_reads_simp; pointwise
theorem main_v5_apply (k : Fin 4096) : V m c main_v5 (ix2 0 k) = m ((c.tc : Thread nD τ).loc main_arg4) (ix1 k) := by
  unfold_abbrev_sides; after_reads_simp; pointwise
theorem main_v6_apply (k : Fin 4096) : V m c main_v6 (ix2 0 k) = m ((c.tc : Thread nD τ).loc main_arg5) (ix1 k) := by
  unfold_abbrev_sides; after_reads_simp; pointwise
theorem main_v7_apply (r : Fin 32768) (j : Fin 2048) : V m c main_v7 (ix2 r j) = m ((c.tc : Thread nD τ).loc main_arg7) (ix3 (Rows.seq r) (Rows.tok r) j) := by
  unfold_abbrev_sides; after_reads_simp; pointwise [Rows.seq, Rows.tok]
theorem main_v8_apply (b : Fin 8) (j : Fin 2048) : V m c main_v8 (ix3 b 0 j) = m ((c.tc : Thread nD τ).loc main_arg8) (ix2 b j) := by
  unfold_abbrev_sides; after_reads_simp; pointwise

theorem N_eq : cfg0.N = 128 := by decide

/-- The sequence, the row among the results, and the places among the tokens that a point's row `r` is. -/
def seq (t : Fin cfg0.N) : Fin 8 := ⟨t.val / 16, by have := lt_of_lt_of_eq t.isLt N_eq; omega⟩
def rowAt (t : Fin cfg0.N) (r : Fin 256) : Fin 32768 := ⟨t.val * 256 + r.val, by have := lt_of_lt_of_eq t.isLt N_eq; omega⟩
def late (t : Fin cfg0.N) (r : Fin 256) : Fin 4352 := ⟨(1 + t.val % 16) * 256 + r.val, by omega⟩
def later (t : Fin cfg0.N) (r : Fin 256) : Fin 4608 := ⟨(2 + t.val % 16) * 256 + r.val, by omega⟩

theorem seq_eq (t : Fin cfg0.N) (r : Fin 256) : seq t = Rows.seq (rowAt t r) := Fin.ext (by
  show t.val / 16 = (t.val * 256 + r.val) / 4096; omega)
theorem late_eq (t : Fin cfg0.N) (r : Fin 256) : late t r = Heads.late (Rows.tok (rowAt t r)) := Fin.ext (by
  show (1 + t.val % 16) * 256 + r.val = 256 + (t.val * 256 + r.val) % 4096; omega)
theorem later_eq (t : Fin cfg0.N) (r : Fin 256) : later t r = Heads.later (Rows.tok (rowAt t r)) := Fin.ext (by
  show (2 + t.val % 16) * 256 + r.val = 256 + (256 + (t.val * 256 + r.val) % 4096); omega)

/-! ## The blocks a point reads -/

theorem block0 (t : Fin cfg0.N) (r : Fin 256) (k : Fin 4096) : iblk m c 0 t (ix4 0 0 r k) = m ((c.tc : Thread nD τ).loc main_arg0) (ix4 0 (seq t) (late t r) k) :=
  Eq.trans (by blk_ext [iblk, index t, seq, late]) (main_v0_apply m c 0 (seq t) (late t r) k)
theorem block1 (t : Fin cfg0.N) (r : Fin 256) (k : Fin 4096) : iblk m c 1 t (ix4 0 0 r k) = m ((c.tc : Thread nD τ).loc main_arg0) (ix4 1 (seq t) (late t r) k) :=
  Eq.trans (by blk_ext [iblk, index t, seq, late]) (main_v0_apply m c 1 (seq t) (late t r) k)
theorem block2 (t : Fin cfg0.N) (r : Fin 256) (k : Fin 4096) : iblk m c 2 t (ix3 0 r k) = m ((c.tc : Thread nD τ).loc main_arg1) (ix3 (seq t) (late t r) k) :=
  Eq.trans (by blk_ext [iblk, index t, seq, late]) (main_v1_apply m c (seq t) (late t r) k)
theorem block3 (t : Fin cfg0.N) (r : Fin 256) (k : Fin 4096) : iblk m c 3 t (ix3 0 r k) = m ((c.tc : Thread nD τ).loc main_arg2) (ix3 (seq t) (late t r) k) :=
  Eq.trans (by blk_ext [iblk, index t, seq, late]) (main_v2_apply m c (seq t) (late t r) k)
theorem block4 (t : Fin cfg0.N) (r : Fin 256) (k : Fin 4096) : iblk m c 4 t (ix3 0 r k) = m ((c.tc : Thread nD τ).loc main_arg3) (ix3 (seq t) (later t r) k) :=
  Eq.trans (by blk_ext [iblk, index t, seq, later]) (main_v3_apply m c (seq t) (later t r) k)
theorem block5 (t : Fin cfg0.N) (k : Fin 4096) : iblk m c 5 t (ix2 0 k) = m ((c.tc : Thread nD τ).loc main_arg4) (ix1 k) := Eq.trans (by blk_ext [iblk, index t]) (main_v5_apply m c k)
theorem block6 (t : Fin cfg0.N) (k : Fin 4096) : iblk m c 6 t (ix2 0 k) = m ((c.tc : Thread nD τ).loc main_arg5) (ix1 k) := Eq.trans (by blk_ext [iblk, index t]) (main_v6_apply m c k)
theorem block7 (t : Fin cfg0.N) (k : Fin 4096) (j : Fin 2048) : iblk m c 7 t (ix2 k j) = m ((c.tc : Thread nD τ).loc main_arg6) (ix2 k j) := Eq.trans (by blk_ext [iblk, index t]) (main_v4_apply m c k j)
theorem block8 (t : Fin cfg0.N) (r : Fin 256) (j : Fin 2048) : iblk m c 8 t (ix2 r j) = m ((c.tc : Thread nD τ).loc main_arg7) (ix3 (Rows.seq (rowAt t r)) (Rows.tok (rowAt t r)) j) :=
  Eq.trans (by blk_ext [iblk, index t, rowAt]) (main_v7_apply m c (rowAt t r) j)
theorem block9 (t : Fin cfg0.N) (j : Fin 2048) : iblk m c 9 t (ix3 0 0 j) = m ((c.tc : Thread nD τ).loc main_arg8) (ix2 (seq t) j) :=
  Eq.trans (by blk_ext [iblk, index t, seq]) (main_v8_apply m c (seq t) j)

/-- The rows after the heads, from the arguments. -/
abbrev rows : Fin 8 → Fin 4096 → Fin 4096 → EReal :=
  Heads.row (fun d b t k => m ((c.tc : Thread nD τ).loc main_arg0) (ix4 d b t k)) (fun b t k => m ((c.tc : Thread nD τ).loc main_arg1) (ix3 b t k)) (fun b t k => m ((c.tc : Thread nD τ).loc main_arg2) (ix3 b t k))
      (fun b t k => m ((c.tc : Thread nD τ).loc main_arg3) (ix3 b t k)) (fun k => m ((c.tc : Thread nD τ).loc main_arg4) (ix1 k)) (fun k => m ((c.tc : Thread nD τ).loc main_arg5) (ix1 k))

/-- A point's scratch. -/
theorem scratch_eq (t : Fin cfg0.N) (r : Fin 256) (k : Fin 4096) :
    yAll (F := Ideal) (iblk m c 0 t) (iblk m c 1 t) (iblk m c 2 t) (iblk m c 3 t) (iblk m c 4 t) (iblk m c 5 t) (iblk m c 6 t) (ix2 r k)
      = rows m c (Rows.seq (rowAt t r)) (Rows.tok (rowAt t r)) k := by
  refine (scratch_apply _ _ _ _ _ _ _ r k).trans ?_
  unfold rows Heads.row
  rw [← seq_eq, ← late_eq, ← later_eq]
  exact Heads.mixed_congr (fun e => block0 m c t r _) (fun e => block1 m c t r _) (fun e => block2 m c t r _) (fun e => block5 m c t _) (fun e => block6 m c t _)
    (fun e => block3 m c t r _) (fun e => block4 m c t r _) _

/-- What a point writes. -/
theorem outs_eq (t : Fin cfg0.N) (r : Fin 256) (j : Fin 2048) : outsAt0 m c t (ix2 r j) = Rows.gated (rows m c) (fun k j => m ((c.tc : Thread nD τ).loc main_arg6) (ix2 k j)) (fun b s j => m ((c.tc : Thread nD τ).loc main_arg7) (ix3 b s j))
      (fun b j => m ((c.tc : Thread nD τ).loc main_arg8) (ix2 b j)) (Rows.seq (rowAt t r)) (Rows.tok (rowAt t r)) j := by
  unfold outsAt0
  rw [out_A, pay2_apply]
  exact congrArg₂ (· + ·) (block8 m c t r j) (congrArg₂ (· * ·) ((block9 m c t j).trans (by rw [seq_eq t r]))
    (Finset.sum_congr rfl fun k _ => congrArg₂ (· * ·) (scratch_eq m c t r k) (block7 m c t k j)))

/-- The result array after the run. -/
theorem array : (dats m 0 c).arrAt 10 cfg0.N = fun i => Rows.gated (rows m c) (fun k j => m ((c.tc : Thread nD τ).loc main_arg6) (ix2 k j)) (fun b s j => m ((c.tc : Thread nD τ).loc main_arg7) (ix3 b s j)) (fun b j => m ((c.tc : Thread nD τ).loc main_arg8) (ix2 b j))
      (Rows.seq (i 0)) (Rows.tok (i 0)) (i 1) := by
  refine (dats m 0 c).arrAt_eq_of_covers 10 _ (by decide +kernel) fun t hf y => ?_
  blk_simp [after0_10]
  obtain ⟨r, j, rfl⟩ : ∃ (r : Fin 256) (j : Fin 2048), y = ix2 r j := ⟨y 0, y 1, (ix2_eta y).symm⟩
  have e0 : (win0_10.blk t).view.emb (ix2 r j) 0 = rowAt t r := Fin.ext (by blk_simp [index t, rowAt])
  have e1 : (win0_10.blk t).view.emb (ix2 r j) 1 = j := Fin.ext (by blk_simp [index t])
  rw [e0, e1]
  exact outs_eq m c t r j

end
end Cert.Kernel7Ideal.Out

namespace Cert.Reference7Ideal.Out
open Cert.Reference7Ideal Cert.Reference7Ideal.Gen

/-- The sum of both directions. -/
def both (h : FVec Ideal S2x8x4352x4096 .f32) : FVec Ideal S8x4352x4096 .f32 :=
  addf (shapeCast _ (extractStridedSlice S1x8x4352x4096 ![0, 0, 0, 0] h slices_S2x8x4352x4096_S1x8x4352x4096_0_0_0_0) shapeCasts_S1x8x4352x4096_S8x4352x4096)
    (shapeCast _ (extractStridedSlice S1x8x4352x4096 ![1, 0, 0, 0] h slices_S2x8x4352x4096_S1x8x4352x4096_1_0_0_0) shapeCasts_S1x8x4352x4096_S8x4352x4096)

theorem both_apply (h) (b : Fin 8) (t : Fin 4352) (k : Fin 4096) : both h (ix3 b t k) = h (ix4 0 b t k) + h (ix4 1 b t k) := by
  pointwise [both]

/-- The lanes split into heads. -/
def split (x : FVec Ideal S8x4352x4096 .f32) : FVec Ideal S8x8x4352x512 .f32 :=
  transpose S8x8x4352x512 [0, 2, 1, 3] (shapeCast _ x shapeCasts_S8x4352x4096_S8x4352x8x512) transposes_S8x4352x8x512_S8x8x4352x512_0_2_1_3

theorem split_apply (x) (b h : Fin 8) (t : Fin 4352) (e : Fin 512) : split x (ix4 b h t e) = x (ix3 b t (Heads.lane h e)) := by
  pointwise [split, Heads.lane]

/-- The mean over the lanes of a head. -/
def mean (x : FVec Ideal S8x8x4352x512 .f32) : FVec Ideal S8x8x4352x1 .f32 :=
  Host.divf (broadcastInDim S8x8x4352x1 ![0, 1, 2] bcast_S8x8x4352_S8x8x4352x1_0_1_2 (Host.reduceAdd x (constant S_ .f32 0x00000000#32) reducesTo_S8x8x4352x512_S8x8x4352_d3 h_S_))
    (broadcastInDim S8x8x4352x1 ![] bcast_S_S8x8x4352x1 (constant S_ .f32 0x44000000#32))

theorem mean_apply (x) (b h : Fin 8) (t : Fin 4352) : mean x (ix4 b h t 0) = Heads.mean fun e => x (ix4 b h t e) := by
  pointwise [mean, Heads.mean]

def centred (x : FVec Ideal S8x8x4352x512 .f32) : FVec Ideal S8x8x4352x512 .f32 :=
  subf x (broadcastInDim S8x8x4352x512 ![0, 1, 2, 3] bcast_S8x8x4352x1_S8x8x4352x512_0_1_2_3 (mean x))

theorem centred_apply (x) (b h : Fin 8) (t : Fin 4352) (e : Fin 512) : centred x (ix4 b h t e) = x (ix4 b h t e) - Heads.mean fun e => x (ix4 b h t e) := by
  rw [← mean_apply]
  pointwise [centred]

/-- The layer norm of each head. -/
def norm (x : FVec Ideal S8x8x4352x512 .f32) (g : FVec Ideal S4096 .f32) : FVec Ideal S8x8x4352x512 .f32 :=
  mulf (mulf (centred x) (broadcastInDim S8x8x4352x512 ![0, 1, 2, 3] bcast_S8x8x4352x1_S8x8x4352x512_0_1_2_3
    (Host.rsqrt (addf (mean (mulf (centred x) (centred x))) (broadcastInDim S8x8x4352x1 ![] bcast_S_S8x8x4352x1 (constant S_ .f32 0x358637BD#32))))))
    (broadcastInDim S8x8x4352x512 ![0, 1, 2, 3] bcast_S1x8x1x512_S8x8x4352x512_0_1_2_3 (broadcastInDim S1x8x1x512 ![1, 2, 3] bcast_S8x1x512_S1x8x1x512_1_2_3 (shapeCast _ g shapeCasts_S4096_S8x1x512)))

theorem norm_apply (x g) (b h : Fin 8) (t : Fin 4352) (e : Fin 512) : norm x g (ix4 b h t e)
    = Heads.normed (fun e => x (ix4 b h t e)) (fun e => g (ix1 (Heads.lane h e))) e := by
  have e2 : (Heads.mean fun e => (x (ix4 b h t e) - Heads.mean fun e => x (ix4 b h t e)) * (x (ix4 b h t e) - Heads.mean fun e => x (ix4 b h t e))) = mean (mulf (centred x) (centred x)) (ix4 b h t 0) := by
    rw [mean_apply]
    exact congrArg Heads.mean (funext fun e => by rw [← centred_apply]; rfl)
  unfold Heads.normed
  rw [e2, ← centred_apply]
  pointwise [norm, Heads.lane]

/-- The heads put together again. -/
def merge (y : FVec Ideal S8x8x4352x512 .f32) : FVec Ideal S8x4352x4096 .f32 :=
  shapeCast _ (transpose S8x4352x8x512 [0, 2, 1, 3] y transposes_S8x8x4352x512_S8x4352x8x512_0_2_1_3) shapeCasts_S8x4352x8x512_S8x4352x4096

theorem merge_apply (y) (b : Fin 8) (t : Fin 4352) (k : Fin 4096) : merge y (ix3 b t k) = y (ix4 b (Heads.head k) t (Heads.within k)) := by
  pointwise [merge, Heads.head, Heads.within]

section
variable (h : FVec Ideal S2x8x4352x4096 .f32) (o x : FVec Ideal S8x4352x4096 .f32) (z : FVec Ideal S8x4608x4096 .f32) (g s : FVec Ideal S4096 .f32)

/-- The rows after the heads. -/
def mixed (y : FVec Ideal S8x4352x4096 .f32) : FVec Ideal S8x4096x4096 .f32 :=
  extractStridedSlice S8x4096x4096 ![0, 256, 0] (mulf (addf (mulf o y) (mulf (broadcastInDim S8x4352x4096 ![0, 1, 2] bcast_S1x1x4096_S8x4352x4096_0_1_2 (broadcastInDim S1x1x4096 ![2] bcast_S4096_S1x1x4096_2 s)) x))
    (extractStridedSlice S8x4352x4096 ![0, 256, 0] z slices_S8x4608x4096_S8x4352x4096_0_256_0)) slices_S8x4352x4096_S8x4096x4096_0_256_0

theorem mixed_apply (y) (b : Fin 8) (t : Fin 4096) (k : Fin 4096) : mixed o x z s y (ix3 b t k)
    = (o (ix3 b (Heads.late t) k) * y (ix3 b (Heads.late t) k) + s (ix1 k) * x (ix3 b (Heads.late t) k)) * z (ix3 b (Heads.later t) k) := by
  pointwise [mixed, Heads.late, Heads.later]

/-- The latent tokens' rows after the heads, at an index. -/
theorem row_apply (b : Fin 8) (t : Fin 4096) (k : Fin 4096) : mixed o x z s (merge (norm (split (both h)) g)) (ix3 b t k)
    = Heads.row (fun d b t k => h (ix4 d b t k)) (fun b t k => o (ix3 b t k)) (fun b t k => x (ix3 b t k)) (fun b t k => z (ix3 b t k)) (fun k => g (ix1 k)) (fun k => s (ix1 k)) b t k := by
  rw [mixed_apply, merge_apply, norm_apply]
  unfold Heads.row Heads.mixed
  simp only [split_apply, both_apply, Heads.lane_head]

end

/-- The reference's result, at an index. -/
theorem result_apply (h : FVec Ideal S2x8x4352x4096 .f32) (o x : FVec Ideal S8x4352x4096 .f32) (z : FVec Ideal S8x4608x4096 .f32) (g s : FVec Ideal S4096 .f32)
    (w : FVec Ideal S4096x2048 .f32) (l : FVec Ideal S8x4096x2048 .f32) (a : FVec Ideal S8x2048 .f32) (r : Fin 32768) (j : Fin 2048) :
    (shapeCast _ (Cert.Reference5Ideal.Out.x (mixed o x z s (merge (norm (split (both h)) g))) w l a) shapeCasts_S8x4096x2048_S32768x2048 : FVec Ideal S32768x2048 .f32) (ix2 r j)
    = Rows.gated (Heads.row (fun d b t k => h (ix4 d b t k)) (fun b t k => o (ix3 b t k)) (fun b t k => x (ix3 b t k)) (fun b t k => z (ix3 b t k)) (fun k => g (ix1 k)) (fun k => s (ix1 k)))
      (fun k j => w (ix2 k j)) (fun b s j => l (ix3 b s j)) (fun b j => a (ix2 b j)) (Rows.seq r) (Rows.tok r) j :=
  (Cert.Reference5Ideal.Out.result_apply _ w l a r j).trans (congrArg (fun y => Rows.gated y _ _ _ _ _ j) (funext fun b => funext fun t => funext fun k => row_apply h o x z g s b t k))

end Cert.Reference7Ideal.Out
end
-- ==== Proof.Recurrence.lean ====
/-
  The stabilised mLSTM recurrence over the real numbers, read token by token, and what a chunk of any length makes of it.

  `M n` is the running stabiliser after `n` tokens, `W n i` the weight token `i` then has, `C n` and `N n` the carried
  matrix and normaliser, `out p` the result at token `p`.  A program that works through the tokens a chunk at a time
  holds `C`, `N`, `M` at the chunk's first token and forms, within the chunk, the sums of `num_chunk` and `den_chunk`;
  `C_chunk`, `N_chunk` and `M_chunk_last` say that it then holds them at the next chunk's first token.  The chunk's
  length and the order its rows stand in (`σ`) are free, so that two programs of unlike chunks meet in `out`.
-/
module

public import Idealize.ShloMosaic.PureOps.Ideal

@[expose] public section

noncomputable section

open Idealize.ShloMosaic

namespace Cert.Mlstm

/-- One head of one sequence, in the order it is scanned: queries (scaled), keys, values, log input and log forget gates. -/
structure Tokens where
  q : ℕ → Fin 512 → ℝ
  k : ℕ → Fin 512 → ℝ
  v : ℕ → Fin 512 → ℝ
  li : ℕ → ℝ
  lf : ℕ → ℝ

/-- The stabiliser before the first token, `-1e30` as both programs spell it. -/
def mInit : ℝ := (Ideal.ofBits .f32 0xF149F2CA#32).toReal

variable (s : Tokens)

/-- The sum of the first `n` log forget gates. -/
def P (n : ℕ) : ℝ := ∑ i ∈ Finset.range n, s.lf i

/-- The running stabiliser after `n` tokens. -/
def M : ℕ → ℝ
  | 0 => mInit
  | n + 1 => max (M n + s.lf n) (s.li n)

/-- The weight of token `i` after `n` tokens. -/
def W (n i : ℕ) : ℝ := Real.exp (P s n - P s (i + 1) + s.li i - M s n)

/-- The carried matrix after `n` tokens. -/
def C (n : ℕ) (d e : Fin 512) : ℝ := ∑ i ∈ Finset.range n, W s n i * (s.k i d * s.v i e)

/-- The carried normaliser after `n` tokens. -/
def N (n : ℕ) (d : Fin 512) : ℝ := ∑ i ∈ Finset.range n, W s n i * s.k i d

/-- Query `p` against key `i`. -/
def qk (p i : ℕ) : ℝ := ∑ d, s.q p d * s.k i d

def num (p : ℕ) (e : Fin 512) : ℝ := ∑ i ∈ Finset.range (p + 1), W s (p + 1) i * (qk s p i * s.v i e)

def den (p : ℕ) : ℝ := ∑ i ∈ Finset.range (p + 1), W s (p + 1) i * qk s p i

/-- The result at token `p`. -/
def out (p : ℕ) (e : Fin 512) : ℝ := num s p e / max |den s p| (Real.exp (-M s (p + 1)))

theorem P_succ (n : ℕ) : P s (n + 1) = P s n + s.lf n := Finset.sum_range_succ _ _

theorem M_ge (a n : ℕ) (h : a ≤ n) : P s n - P s a + M s a ≤ M s n := by
  induction n, h using Nat.le_induction with
  | base => simp
  | succ n h ih => rw [P_succ]; exact le_trans (by linarith) (le_max_left _ _)

theorem M_ge_li (i n : ℕ) (h : i < n) : P s n - P s (i + 1) + s.li i ≤ M s n :=
  le_trans (by have := le_max_right (M s i + s.lf i) (s.li i); change s.li i ≤ M s (i + 1) at this; linarith) (M_ge s (i + 1) n h)

theorem M_attained (a n : ℕ) (h : a ≤ n) :
    M s n = P s n - P s a + M s a ∨ ∃ i, a ≤ i ∧ i < n ∧ M s n = P s n - P s (i + 1) + s.li i := by
  induction n, h using Nat.le_induction with
  | base => exact .inl (by simp)
  | succ n h ih =>
    change max (M s n + s.lf n) (s.li n) = _ ∨ ∃ i, _ ∧ _ ∧ max (M s n + s.lf n) (s.li n) = _
    rcases le_total (M s n + s.lf n) (s.li n) with hl | hl
    · exact .inr ⟨n, h, Nat.lt_succ_self n, by rw [max_eq_right hl]; ring⟩
    · rw [max_eq_left hl, P_succ]
      rcases ih with ih | ⟨i, h1, h2, ih⟩
      · exact .inl (by rw [ih]; ring)
      · exact .inr ⟨i, h1, by omega, by rw [ih]; ring⟩

/-- The larger of `b` and a fold of maxima from `-∞`, where the bound `x` is met. -/
theorem max_fold {L : ℕ} (f : Fin L → EReal) (x b : ℝ) (hb : b ≤ x) (hf : ∀ r, f r ≤ x) (h : x = b ∨ ∃ r, f r = x) :
    max (b : EReal) (Finset.univ.fold max ⊥ f) = x := by
  apply le_antisymm
  · refine max_le (EReal.coe_le_coe_iff.mpr hb) ?_
    rw [Finset.fold_max_le]
    exact ⟨bot_le, fun r _ => hf r⟩
  · rcases h with h | ⟨r, h⟩
    · rw [h]; exact le_max_left _ _
    · refine le_max_of_le_right ?_
      rw [Finset.le_fold_max]
      exact .inr ⟨r, Finset.mem_univ r, h.ge⟩

section Chunk

variable {L : ℕ} (σ : Equiv.Perm (Fin L)) (a : ℕ)

/-- The place in the scan of row `r` of the chunk that begins at `a`. -/
def pos (r : Fin L) : ℕ := a + (σ r).val

theorem sum_all (f : ℕ → ℝ) : ∑ r, f (pos σ a r) = ∑ i ∈ Finset.range L, f (a + i) := by
  rw [Finset.sum_range]; exact Equiv.sum_comp σ fun i => f (a + i.val)

theorem sum_upto (f : ℕ → ℝ) (r : Fin L) :
    (∑ t, if σ t ≤ σ r then f (pos σ a t) else 0) = ∑ i ∈ Finset.range ((σ r).val + 1), f (a + i) := by
  have h := Equiv.sum_comp σ fun i => if i ≤ σ r then f (a + i.val) else 0
  refine h.trans ?_
  rw [← Finset.sum_filter]
  refine Finset.sum_bij (fun i _ => i.val) (fun i hi => ?_) (fun i _ j _ h => Fin.ext h) (fun i hi => ?_) fun i _ => rfl
  · have := (Finset.mem_filter.mp hi).2
    exact Finset.mem_range.mpr (Nat.lt_succ_of_le this)
  · have hi := Finset.mem_range.mp hi
    exact ⟨⟨i, by have := (σ r).isLt; omega⟩, Finset.mem_filter.mpr ⟨Finset.mem_univ _, Nat.le_of_lt_succ hi⟩, rfl⟩

theorem P_upto (r : Fin L) : (∑ t, if σ t ≤ σ r then s.lf (pos σ a t) else 0) = P s (pos σ a r + 1) - P s a := by
  rw [sum_upto σ a s.lf, show pos σ a r + 1 = a + ((σ r).val + 1) from by unfold pos; omega]
  exact (sub_eq_of_eq_add' (Finset.sum_range_add _ a _)).symm

theorem P_all : (∑ t, s.lf (pos σ a t)) = P s (a + L) - P s a := by
  rw [sum_all σ a s.lf]
  exact (sub_eq_of_eq_add' (Finset.sum_range_add _ a _)).symm

theorem M_chunk (r : Fin L) :
    max ((P s (pos σ a r + 1) - P s a + M s a : ℝ) : EReal)
      (Finset.univ.fold max ⊥ fun t => if σ t ≤ σ r then ((P s (pos σ a r + 1) - P s (pos σ a t + 1) + s.li (pos σ a t) : ℝ) : EReal) else ⊥)
      = (M s (pos σ a r + 1) : ℝ) := by
  refine max_fold _ _ _ (M_ge s a _ (by unfold pos; omega)) (fun t => ?_) ?_
  · split
    · rename_i h
      exact EReal.coe_le_coe_iff.mpr (M_ge_li s _ _ (by have : (σ t).val ≤ (σ r).val := h; unfold pos; omega))
    · exact bot_le
  · rcases M_attained s a (pos σ a r + 1) (by unfold pos; omega) with h | ⟨i, h1, h2, h⟩
    · exact .inl h
    · refine .inr ⟨σ.symm ⟨i - a, by have := (σ r).isLt; unfold pos at h2; omega⟩, ?_⟩
      have hp : pos σ a (σ.symm ⟨i - a, by have := (σ r).isLt; unfold pos at h2; omega⟩) = i := by
        unfold pos; rw [Equiv.apply_symm_apply]; dsimp only; omega
      rw [hp, if_pos, h]
      rw [Equiv.apply_symm_apply]
      show i - a ≤ (σ r).val
      unfold pos at h2; omega

theorem M_chunk_last :
    max ((P s (a + L) - P s a + M s a : ℝ) : EReal)
      (Finset.univ.fold max ⊥ fun t => ((P s (a + L) - P s (pos σ a t + 1) + s.li (pos σ a t) : ℝ) : EReal))
      = (M s (a + L) : ℝ) := by
  refine max_fold _ _ _ (M_ge s a _ (by omega)) (fun t => ?_) ?_
  · exact EReal.coe_le_coe_iff.mpr (M_ge_li s _ _ (by have := (σ t).isLt; unfold pos; omega))
  · rcases M_attained s a (a + L) (by omega) with h | ⟨i, h1, h2, h⟩
    · exact .inl h
    · refine .inr ⟨σ.symm ⟨i - a, by omega⟩, ?_⟩
      have hp : pos σ a (σ.symm ⟨i - a, by omega⟩) = i := by
        unfold pos; rw [Equiv.apply_symm_apply]; dsimp only; omega
      rw [hp, h]

/-- What the carried sums become `t` tokens later: decayed, and the new tokens added. -/
theorem sum_split (g : ℕ → ℝ) (t : ℕ) :
    Real.exp (P s (a + t) - P s a + M s a - M s (a + t)) * (∑ i ∈ Finset.range a, W s a i * g i)
      + ∑ i ∈ Finset.range t, W s (a + t) (a + i) * g (a + i) = ∑ i ∈ Finset.range (a + t), W s (a + t) i * g i := by
  rw [Finset.sum_range_add, Finset.mul_sum]
  refine congrArg (· + _) (Finset.sum_congr rfl fun i _ => ?_)
  rw [← mul_assoc]
  unfold W
  rw [← Real.exp_add]
  congr 2; ring

theorem C_chunk (d e : Fin 512) :
    Real.exp (P s (a + L) - P s a + M s a - M s (a + L)) * C s a d e
      + ∑ t, s.k (pos σ a t) d * W s (a + L) (pos σ a t) * s.v (pos σ a t) e = C s (a + L) d e := by
  unfold C
  rw [← sum_split s a _ L, ← sum_all σ a fun i => W s (a + L) i * (s.k i d * s.v i e)]
  refine congrArg₂ (· + ·) rfl (Finset.sum_congr rfl fun t _ => ?_)
  ring

theorem N_chunk (d : Fin 512) :
    Real.exp (P s (a + L) - P s a + M s a - M s (a + L)) * N s a d
      + ∑ t, W s (a + L) (pos σ a t) * s.k (pos σ a t) d = N s (a + L) d := by
  unfold N
  rw [← sum_split s a _ L, ← sum_all σ a fun i => W s (a + L) i * s.k i d]

/-- The chunk's own weights, zero after the row. -/
def D (r t : Fin L) : ℝ := if σ t ≤ σ r then W s (pos σ a r + 1) (pos σ a t) else 0

theorem sum_D (g : ℕ → ℝ) (r : Fin L) :
    ∑ t, D s σ a r t * g (pos σ a t)
      = ∑ i ∈ Finset.range ((σ r).val + 1), W s (a + ((σ r).val + 1)) (a + i) * g (a + i) := by
  rw [← sum_upto σ a (fun i => W s (a + ((σ r).val + 1)) i * g i)]
  refine Finset.sum_congr rfl fun t _ => ?_
  unfold D
  rw [ite_mul, zero_mul, show pos σ a r + 1 = a + ((σ r).val + 1) from by unfold pos; omega]

theorem den_chunk (r : Fin L) :
    Real.exp (P s (pos σ a r + 1) - P s a + M s a - M s (pos σ a r + 1)) * (∑ d, s.q (pos σ a r) d * N s a d)
      + ∑ t, qk s (pos σ a r) (pos σ a t) * D s σ a r t = den s (pos σ a r) := by
  have h1 : (∑ d, s.q (pos σ a r) d * N s a d) = ∑ i ∈ Finset.range a, W s a i * qk s (pos σ a r) i := by
    unfold N qk
    simp only [Finset.mul_sum]
    rw [Finset.sum_comm]
    exact Finset.sum_congr rfl fun i _ => Finset.sum_congr rfl fun d _ => by ring
  have h2 : (∑ t, qk s (pos σ a r) (pos σ a t) * D s σ a r t)
      = ∑ i ∈ Finset.range ((σ r).val + 1), W s (a + ((σ r).val + 1)) (a + i) * qk s (pos σ a r) (a + i) := by
    rw [← sum_D s σ a (fun i => qk s (pos σ a r) i)]
    exact Finset.sum_congr rfl fun t _ => mul_comm _ _
  rw [h1, h2, show P s (pos σ a r + 1) = P s (a + ((σ r).val + 1)) from by unfold pos; rfl,
    show M s (pos σ a r + 1) = M s (a + ((σ r).val + 1)) from by unfold pos; rfl, sum_split s a _ ((σ r).val + 1)]
  unfold den; rfl

theorem num_chunk (r : Fin L) (e : Fin 512) :
    Real.exp (P s (pos σ a r + 1) - P s a + M s a - M s (pos σ a r + 1)) * (∑ d, s.q (pos σ a r) d * C s a d e)
      + ∑ t, qk s (pos σ a r) (pos σ a t) * D s σ a r t * s.v (pos σ a t) e = num s (pos σ a r) e := by
  have h1 : (∑ d, s.q (pos σ a r) d * C s a d e)
      = ∑ i ∈ Finset.range a, W s a i * (qk s (pos σ a r) i * s.v i e) := by
    unfold C qk
    simp only [Finset.mul_sum, Finset.sum_mul]
    rw [Finset.sum_comm]
    exact Finset.sum_congr rfl fun i _ => Finset.sum_congr rfl fun d _ => by ring
  have h2 : (∑ t, qk s (pos σ a r) (pos σ a t) * D s σ a r t * s.v (pos σ a t) e)
      = ∑ i ∈ Finset.range ((σ r).val + 1),
          W s (a + ((σ r).val + 1)) (a + i) * (qk s (pos σ a r) (a + i) * s.v (a + i) e) := by
    rw [← sum_D s σ a (fun i => qk s (pos σ a r) i * s.v i e)]
    exact Finset.sum_congr rfl fun t _ => by ring
  rw [h1, h2, show P s (pos σ a r + 1) = P s (a + ((σ r).val + 1)) from by unfold pos; rfl,
    show M s (pos σ a r + 1) = M s (a + ((σ r).val + 1)) from by unfold pos; rfl, sum_split s a _ ((σ r).val + 1)]
  unfold num; rfl

end Chunk

/-! ## The extended reals' operations at real numbers -/

theorem coe_sum {ι : Type} (S : Finset ι) (f : ι → ℝ) : (∑ i ∈ S, (f i : EReal)) = ((∑ i ∈ S, f i : ℝ) : EReal) := by
  classical
  induction S using Finset.induction_on with
  | empty => simp
  | insert i S hi ih => rw [Finset.sum_insert hi, Finset.sum_insert hi, ih, EReal.coe_add]

theorem coe_max (x y : ℝ) : max (x : EReal) (y : EReal) = ((max x y : ℝ) : EReal) := (EReal.coe_strictMono.monotone.map_max).symm

theorem coe_abs (x : ℝ) : max (x : EReal) (-(x : EReal)) = ((|x| : ℝ) : EReal) := by
  rw [← EReal.coe_neg, coe_max]; rfl

theorem coe_div (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem coe_ite (p : Prop) [Decidable p] (x y : ℝ) : (if p then (x : EReal) else (y : EReal)) = ((if p then x else y : ℝ) : EReal) := by
  split <;> rfl

/-- The exponential of a masked entry less a real number. -/
theorem exp_masked (p : Prop) [Decidable p] (x y : ℝ) :
    Ideal.exp ((if p then (x : EReal) else ⊥) - (y : EReal)) = ((if p then Real.exp (x - y) else 0 : ℝ) : EReal) := by
  split
  · rw [← EReal.coe_sub]; rfl
  · rw [EReal.bot_sub]; rfl

theorem coe_mInit : Ideal.ofBits .f32 0xF149F2CA#32 = (mInit : EReal) := by
  unfold mInit
  have h : ∃ x : ℝ, Ideal.ofBits .f32 0xF149F2CA#32 = x :=
    ⟨_, by unfold Ideal.ofBits Ideal.ieee; dsimp only; rw [if_neg (by decide), if_neg (by decide)]⟩
  obtain ⟨x, h⟩ := h
  rw [h, EReal.toReal_coe]

theorem ofBits_bot : Ideal.ofBits .f32 0xFF800000#32 = ⊥ := by
  unfold Ideal.ofBits Ideal.ieee; dsimp only
  rw [if_pos (by decide), if_pos (by decide), if_pos (by decide)]

end Cert.Mlstm
-- ==== Proof.Head.lean ====
module

public import proofs.«01_k».proof.Proof.Recurrence
public import proofs.«01_k».proof.Proof.Gen.KernelIdeal.Skeleton
public import Idealize.ShloMosaic.Lib.Pointwise

@[expose] public section

set_option maxRecDepth 16384

noncomputable section

open Idealize.ShloMosaic Idealize.ShloMosaic.TcCoe

namespace Cert.KernelIdeal.Head

open Cert.KernelIdeal Cert.KernelIdeal.Gen

section Terms
variable {F : FTy → Type} [FloatOps F]

/-- The row and column counters a gate is picked out with. -/
abbrev subs : IVec S32x256 32 := iota .tc S32x256 32 [0] iota_S32x256_d0_w32
abbrev lanes : IVec S256x32 32 := iota .tc S256x32 32 [1] iota_S256x32_d1_w32

/-- The log forget gates of a chunk as a column, picked out of the gate columns by their number. -/
def lfCol (w : BitVec 32) (x4 : Vec F S1x256x32 .f32) : FVec F S256x1 .f32 :=
  shapeCast S256x1 (multiReduction .add [1] S256 (select (cmpi .eq lanes (broadcast S256x32 w)) (k0_pay8 x4)
    (broadcast S256x32 (Scalar.ofBits .f32 0x00000000#32))) 0x00000000#32 reduces_S256x32_S256 (.inl rfl) rfl) shapeCasts_S256_S256x1

/-- A head's log input gates among zeros. -/
def liSel (w : BitVec 32) (x5 : Vec F S1x32x256 .f32) : FVec F S32x256 .f32 :=
  select (cmpi .eq subs (broadcast S32x256 w)) (k0_pay9 x5) (broadcast S32x256 (Scalar.ofBits .f32 0x00000000#32))

variable (wi wf : BitVec 32) (v17 v19 : IVec S256x256 1) (x4 : Vec F S1x256x32 .f32) (x5 : Vec F S1x32x256 .f32)
  (m : Vec F S1x1x1 .f32) (q k : Vec F S1x256x512 .bf16) (kt : Vec F S1x512x256 .bf16) (v : Vec F S1x256x512 .bf16) (c : Vec F S1x512x512 .f32)
  (cb : Vec F S1x512x512 .bf16) (n : Vec F S1x8x512 .f32)

/-- A head's results for a chunk, from its blocks and the carried buffers. -/
def oH : FVec F S1x1x256x512 .bf16 :=
  k0_pay29 (k0_pay23 (k0_pay9 x5) subs v17 v19 wf (lfCol wf x4) (liSel wi x5) m)
    (k0_pay24 (k0_pay9 x5) subs v17 v19 wf (lfCol wf x4) (liSel wi x5) m)
    (k0_pay25 (k0_pay9 x5) subs v17 v19 wf (lfCol wf x4) (liSel wi x5) m) (k0_pay26 q) kt v cb n

/-- The carried matrix, its copy, the normaliser and the stabiliser a head leaves for the next chunk. -/
def cH : FVec F S1x512x512 .f32 :=
  k0_pay36 (k0_pay15 (liSel wi x5)) (k0_pay18 v19 (lfCol wf x4)) (k0_pay19 (k0_pay9 x5) subs wf) (k0_pay20 m) (k0_pay27 kt) (k0_pay28 v) c
def cbH : FVec F S1x512x512 .bf16 :=
  k0_pay37 (k0_pay15 (liSel wi x5)) (k0_pay18 v19 (lfCol wf x4)) (k0_pay19 (k0_pay9 x5) subs wf) (k0_pay20 m) (k0_pay27 kt) (k0_pay28 v) c
def nH : FVec F S1x8x512 .f32 :=
  k0_pay39 (k0_pay32 (k0_pay15 (liSel wi x5)) (k0_pay18 v19 (lfCol wf x4)) (k0_pay19 (k0_pay9 x5) subs wf) (k0_pay20 m))
    (k0_pay38 (k0_pay15 (liSel wi x5)) (k0_pay18 v19 (lfCol wf x4)) (k0_pay19 (k0_pay9 x5) subs wf) (k0_pay20 m) k) n
def mH : FVec F S1x1x1 .f32 :=
  k0_pay40 (k0_pay31 (k0_pay15 (liSel wi x5)) (k0_pay18 v19 (lfCol wf x4)) (k0_pay19 (k0_pay9 x5) subs wf) (k0_pay20 m))

end Terms

/-! ## A head's results at an index -/

section Values

open Cert.Mlstm

theorem sel {α : Type} (p : Prop) [Decidable p] (x y : α) : Scalar.select (if p then 1#1 else 0#1) x y = if p then x else y := by
  split <;> rfl

/-- A sum of the entries whose number is `w` is the one entry of that number. -/
theorem pick (w : BitVec 32) (j : Fin 32) (hw : w = BitVec.ofNat 32 j.val) (f : Fin 32 → EReal) :
    ∑ x : Fin 32, Scalar.select (IntOp.cmpi .eq (BitVec.ofNat 32 x.val) w) (f x) 0 = f j := by
  have hc : ∀ x : Fin 32, IntOp.cmpi .eq (BitVec.ofNat 32 x.val) w = if x = j then 1#1 else 0#1 := by
    subst hw; revert j; decide +kernel
  simp only [hc, sel]
  rw [Finset.sum_ite_eq' Finset.univ j f, if_pos (Finset.mem_univ j)]

/-- What a chunk's blocks and the carried buffers hold at one head: the tokens from `a` on in the order `σ`. -/
structure Holds (T : Tokens) (a : ℕ) (σ : Equiv.Perm (Fin 256)) (wi wf : BitVec 32) (v17 v19 : IVec S256x256 1)
    (x4 : Vec Ideal S1x256x32 .f32) (x5 : Vec Ideal S1x32x256 .f32) (m : Vec Ideal S1x1x1 .f32) : Prop where
  gates : ∃ jI jF : Fin 32, wi = BitVec.ofNat 32 jI.val ∧ wf = BitVec.ofNat 32 jF.val
    ∧ (∀ r, x5 (ix3 0 jI r) = (T.li (pos σ a r) : ℝ)) ∧ (∀ r, x5 (ix3 0 jF r) = (T.lf (pos σ a r) : ℝ))
    ∧ ∀ r, x4 (ix3 0 r jF) = (T.lf (pos σ a r) : ℝ)
  causal : ∀ r t, v17 (ix2 r t) = if σ t ≤ σ r then 1#1 else 0#1
  anti : ∀ r t, v19 (ix2 r t) = if σ r ≤ σ t then 1#1 else 0#1
  stab : m (ix3 0 0 0) = (M T a : ℝ)

variable {T : Tokens} {a : ℕ} {σ : Equiv.Perm (Fin 256)} {wi wf : BitVec 32} {v17 v19 : IVec S256x256 1}
  {x4 : Vec Ideal S1x256x32 .f32} {x5 : Vec Ideal S1x32x256 .f32} {m : Vec Ideal S1x1x1 .f32}
  (H : Holds T a σ wi wf v17 v19 x4 x5 m)
include H

theorem lfCol_apply (r : Fin 256) : lfCol wf x4 (ix2 r 0) = (T.lf (pos σ a r) : ℝ) := by
  obtain ⟨jI, jF, hI, hF, h1, h2, h3⟩ := H.gates
  pointwise [lfCol, k0_pay8]
  rw [pick wf jF hF (fun x => x4 (ix3 0 r x)), h3]

theorem liRow_apply (r : Fin 256) : k0_pay15 (liSel wi x5) (ix2 0 r) = (T.li (pos σ a r) : ℝ) := by
  obtain ⟨jI, jF, hI, hF, h1, h2, h3⟩ := H.gates
  pointwise [k0_pay15, liSel, k0_pay9]
  rw [pick wi jI hI (fun x => x5 (ix3 0 x r)), h1]

theorem lfRow_apply (r : Fin 256) : k0_pay16 (k0_pay9 x5) subs wf (ix2 0 r) = (T.lf (pos σ a r) : ℝ) := by
  obtain ⟨jI, jF, hI, hF, h1, h2, h3⟩ := H.gates
  pointwise [k0_pay16, k0_pay9]
  rw [pick wf jF hF (fun x => x5 (ix3 0 x r)), h2]

theorem bCol_apply (r : Fin 256) :
    k0_pay17 (k0_pay9 x5) subs v17 wf (ix2 r 0) = ((P T (pos σ a r + 1) - P T a : ℝ) : EReal) := by
  pointwise [k0_pay17]
  simp only [H.causal, sel, lfRow_apply H]
  rw [← P_upto T σ a r, ← coe_sum]
  exact Finset.sum_congr rfl fun t _ => by split <;> rfl

theorem bRow_apply (r : Fin 256) :
    k0_pay18 v19 (lfCol wf x4) (ix2 0 r) = ((P T (pos σ a r + 1) - P T a : ℝ) : EReal) := by
  pointwise [k0_pay18]
  simp only [H.anti, sel, lfCol_apply H]
  rw [← P_upto T σ a r, ← coe_sum]
  exact Finset.sum_congr rfl fun t _ => by split <;> rfl

theorem total_apply : k0_pay19 (k0_pay9 x5) subs wf (ix2 0 0) = ((P T (a + 256) - P T a : ℝ) : EReal) := by
  pointwise [k0_pay19]
  simp only [lfRow_apply H]
  rw [← P_all T σ a, ← coe_sum]

theorem m_apply : k0_pay20 m (ix2 0 0) = (M T a : ℝ) := by
  pointwise [k0_pay20]
  exact H.stab

theorem logD_apply (r t : Fin 256) : k0_pay21 (k0_pay9 x5) subs v17 v19 wf (lfCol wf x4) (liSel wi x5) (ix2 r t)
    = if σ t ≤ σ r then ((P T (pos σ a r + 1) - P T (pos σ a t + 1) + T.li (pos σ a t) : ℝ) : EReal) else ⊥ := by
  pointwise [k0_pay21]
  rw [H.causal, sel, bCol_apply H, bRow_apply H, liRow_apply H, ofBits_bot, ← EReal.coe_sub, ← EReal.coe_add]
  congr 2; ring

theorem logInter_apply (r : Fin 256) : k0_pay22 (k0_pay9 x5) subs v17 wf m (ix2 r 0)
    = ((P T (pos σ a r + 1) - P T a + M T a : ℝ) : EReal) := by
  pointwise [k0_pay22]
  rw [bCol_apply H, m_apply H, ← EReal.coe_add]

theorem stab_apply (r : Fin 256) : k0_pay23 (k0_pay9 x5) subs v17 v19 wf (lfCol wf x4) (liSel wi x5) m (ix2 r 0)
    = (M T (pos σ a r + 1) : ℝ) := by
  pointwise [k0_pay23]
  simp only [logInter_apply H, logD_apply H, ofBits_bot]
  exact M_chunk T σ a r

theorem dmat_apply (r t : Fin 256) : k0_pay24 (k0_pay9 x5) subs v17 v19 wf (lfCol wf x4) (liSel wi x5) m (ix2 r t)
    = (D T σ a r t : ℝ) := by
  pointwise [k0_pay24]
  rw [logD_apply H, stab_apply H, exp_masked]
  rfl

theorem a_apply (r : Fin 256) : k0_pay25 (k0_pay9 x5) subs v17 v19 wf (lfCol wf x4) (liSel wi x5) m (ix2 r 0)
    = (Real.exp (P T (pos σ a r + 1) - P T a + M T a - M T (pos σ a r + 1)) : ℝ) := by
  pointwise [k0_pay25]
  rw [logInter_apply H, stab_apply H, ← EReal.coe_sub]
  rfl

theorem logW_apply (t : Fin 256) :
    k0_pay30 (k0_pay15 (liSel wi x5)) (k0_pay18 v19 (lfCol wf x4)) (k0_pay19 (k0_pay9 x5) subs wf) (ix2 0 t)
      = ((P T (a + 256) - P T (pos σ a t + 1) + T.li (pos σ a t) : ℝ) : EReal) := by
  pointwise [k0_pay30]
  rw [total_apply H, bRow_apply H, liRow_apply H, ← EReal.coe_sub, ← EReal.coe_add]
  congr 1; ring

theorem mNew_apply :
    k0_pay31 (k0_pay15 (liSel wi x5)) (k0_pay18 v19 (lfCol wf x4)) (k0_pay19 (k0_pay9 x5) subs wf) (k0_pay20 m) (ix2 0 0)
      = (M T (a + 256) : ℝ) := by
  pointwise [k0_pay31]
  simp only [total_apply H, m_apply H, logW_apply H, ofBits_bot, ← EReal.coe_add]
  exact M_chunk_last T σ a

theorem decay_apply :
    k0_pay32 (k0_pay15 (liSel wi x5)) (k0_pay18 v19 (lfCol wf x4)) (k0_pay19 (k0_pay9 x5) subs wf) (k0_pay20 m) (ix2 0 0)
      = (Real.exp (P T (a + 256) - P T a + M T a - M T (a + 256)) : ℝ) := by
  pointwise [k0_pay32]
  rw [total_apply H, m_apply H, mNew_apply H, ← EReal.coe_add, ← EReal.coe_sub]
  rfl

theorem w_apply (t : Fin 256) :
    k0_pay33 (k0_pay15 (liSel wi x5)) (k0_pay18 v19 (lfCol wf x4)) (k0_pay19 (k0_pay9 x5) subs wf) (k0_pay20 m) (ix2 0 t)
      = (W T (a + 256) (pos σ a t) : ℝ) := by
  pointwise [k0_pay33]
  rw [logW_apply H, mNew_apply H, ← EReal.coe_sub]
  rfl

/-- The stabiliser a chunk leaves. -/
theorem mH_apply : mH wi wf v19 x4 x5 m (ix3 0 0 0) = (M T (a + 256) : ℝ) := by
  pointwise [mH, k0_pay40]
  exact mNew_apply H

/-- The matrix a chunk leaves. -/
theorem cH_apply {kt : Vec Ideal S1x512x256 .bf16} {v : Vec Ideal S1x256x512 .bf16} {c : Vec Ideal S1x512x512 .f32}
    (hk : ∀ d r, kt (ix3 0 d r) = (T.k (pos σ a r) d : ℝ)) (hv : ∀ r e, v (ix3 0 r e) = (T.v (pos σ a r) e : ℝ))
    (hc : ∀ d e, c (ix3 0 d e) = (C T a d e : ℝ)) (d e : Fin 512) :
    cH wi wf v19 x4 x5 m kt v c (ix3 0 d e) = (C T (a + 256) d e : ℝ) := by
  pointwise [cH, k0_pay36, k0_pay35, k0_pay34, k0_pay27, k0_pay28]
  simp only [decay_apply H, w_apply H, hk, hv, hc, ← EReal.coe_mul, coe_sum, ← EReal.coe_add]
  rw [C_chunk T σ a d e]

theorem cbH_apply {kt : Vec Ideal S1x512x256 .bf16} {v : Vec Ideal S1x256x512 .bf16} {c : Vec Ideal S1x512x512 .f32}
    (hk : ∀ d r, kt (ix3 0 d r) = (T.k (pos σ a r) d : ℝ)) (hv : ∀ r e, v (ix3 0 r e) = (T.v (pos σ a r) e : ℝ))
    (hc : ∀ d e, c (ix3 0 d e) = (C T a d e : ℝ)) (d e : Fin 512) :
    cbH wi wf v19 x4 x5 m kt v c (ix3 0 d e) = (C T (a + 256) d e : ℝ) := by
  pointwise [cbH, k0_pay37, k0_pay35, k0_pay34, k0_pay27, k0_pay28]
  simp only [decay_apply H, w_apply H, hk, hv, hc, ← EReal.coe_mul, coe_sum, ← EReal.coe_add]
  rw [C_chunk T σ a d e]

/-- The normaliser a chunk leaves, in each of the eight rows it is kept in. -/
theorem nH_apply {k : Vec Ideal S1x256x512 .bf16} {n : Vec Ideal S1x8x512 .f32}
    (hk : ∀ r d, k (ix3 0 r d) = (T.k (pos σ a r) d : ℝ)) (hn : ∀ u d, n (ix3 0 u d) = (N T a d : ℝ)) (u : Fin 8) (d : Fin 512) :
    nH wi wf v19 x4 x5 m k n (ix3 0 u d) = (N T (a + 256) d : ℝ) := by
  have hu := u.isLt
  have h8 : ¬ 8 + u.val < 8 := by omega
  pointwise [nH, k0_pay39, k0_pay38, k0_pay34]
  simp only [decay_apply H, w_apply H, hk, hn, hu, h8, ↓reduceIte, ↓reduceDIte, ← EReal.coe_sub, sub_self, ← EReal.coe_mul,
    zero_mul, coe_sum, Finset.sum_const_zero, ← EReal.coe_add, add_zero]
  rw [N_chunk T σ a d]

/-- The chunk's results. -/
theorem oH_apply {q v : Vec Ideal S1x256x512 .bf16} {kt : Vec Ideal S1x512x256 .bf16} {cb : Vec Ideal S1x512x512 .bf16}
    {n : Vec Ideal S1x8x512 .f32} (hq : ∀ r d, q (ix3 0 r d) = (T.q (pos σ a r) d : ℝ))
    (hk : ∀ d r, kt (ix3 0 d r) = (T.k (pos σ a r) d : ℝ)) (hv : ∀ r e, v (ix3 0 r e) = (T.v (pos σ a r) e : ℝ))
    (hc : ∀ d e, cb (ix3 0 d e) = (C T a d e : ℝ)) (hn : ∀ u d, n (ix3 0 u d) = (N T a d : ℝ)) (r : Fin 256) (e : Fin 512) :
    oH wi wf v17 v19 x4 x5 m q kt v cb n (ix4 0 0 r e) = (out T (pos σ a r) e : ℝ) := by
  pointwise [oH, k0_pay29, k0_pay26, k0_pay27, k0_pay28]
  simp only [a_apply H, dmat_apply H, stab_apply H, hq, hk, hv, hc, hn, ← EReal.coe_sub, sub_self, ← EReal.coe_mul,
    mul_zero, coe_sum, Finset.sum_const_zero, ← EReal.coe_add, add_zero]
  have hd := den_chunk T σ a r
  have hnum := num_chunk T σ a r e
  unfold qk at hd hnum
  rw [hd, hnum]
  rw [show (FloatOps.absf (F := Ideal) (φ := .f32) ((den T (pos σ a r) : ℝ) : EReal)) = ((|den T (pos σ a r)| : ℝ) : EReal) from coe_abs _,
    ← EReal.coe_zero, ← EReal.coe_sub, zero_sub, Ideal.exp_coe, coe_max,
    coe_div _ _ (ne_of_gt (lt_max_of_lt_right (Real.exp_pos _)))]
  rfl

end Values

end Cert.KernelIdeal.Head
-- ==== Proof.Body.lean ====
module

public import proofs.«01_k».proof.Proof.Gen.KernelIdeal.Frame
public import proofs.«01_k».proof.Proof.Head
public import Idealize.ShloMosaic.Lib.Tactic
public import Idealize.ShloMosaic.Lib.Pipeline.ValueKit.Acc

@[expose] public section

set_option maxRecDepth 16384

noncomputable section

open Idealize.ShloMosaic Idealize.ShloMosaic.TcCoe Idealize.SL.Sem

namespace Cert.KernelIdeal.Body

open Cert.KernelIdeal Cert.KernelIdeal.Gen Head

section Terms
variable {F : FTy → Type} [FloatOps F]

/-! ## The blocks of one head -/

abbrev rQ (h : Fin 4) : Rect S1x256x2048 := Rect.unit ![0, 0, 512 * h.val] ![1, 256, 512] (by revert h; decide)
abbrev rK (h : Fin 4) : Rect S1x2048x256 := Rect.unit ![0, 512 * h.val, 0] ![1, 512, 256] (by revert h; decide)
abbrev rC (h : Fin 4) : Rect S4x512x512 := Rect.unit ![h.val, 0, 0] ![1, 512, 512] (by revert h; decide)
abbrev rN (h : Fin 4) : Rect S4x8x512 := Rect.unit ![h.val, 0, 0] ![1, 8, 512] (by revert h; decide)
abbrev rM (h : Fin 4) : Rect S4x1x1 := Rect.unit ![h.val, 0, 0] ![1, 1, 1] (by revert h; decide)
abbrev rO (h : Fin 4) : Rect S1x1x256x2048 := Rect.unit ![0, 0, 0, 512 * h.val] ![1, 1, 256, 512] (by revert h; decide)

/-- The numbers of a head's input and forget gates. -/
def wI (i : grid0.Coords) (h : Fin 4) : BitVec 32 :=
  Scalar.addi (Scalar.muli (BitVec.ofNat 32 (i 0).val) 16#32) (Scalar.addi (Scalar.muli (BitVec.ofNat 32 (i 2).val) 4#32) (BitVec.ofNat 32 h.val))
def wF (i : grid0.Coords) (h : Fin 4) : BitVec 32 := Scalar.addi (wI i h) 8#32

variable (i : grid0.Coords) (x0 x1 : Vec F S1x256x2048 .bf16) (x2 : Vec F S1x2048x256 .bf16) (x3 : Vec F S1x256x2048 .bf16)
  (x4 : Vec F S1x256x32 .f32) (x5 : Vec F S1x32x256 .f32) (s0 : Vec F S4x512x512 .f32) (s1 : Vec F S4x512x512 .bf16)
  (s2 : Vec F S4x8x512 .f32) (s3 : Vec F S4x1x1 .f32) (h : Fin 4)

/-- What a chunk's step stores for one head, from the chunk's blocks and the carried buffers. -/
def oP : FVec F S1x1x256x512 .bf16 :=
  oH (wI i h) (wF i h) (k0_pay11 i) (k0_pay12 i) x4 x5 (View.ld s3 (rM h)) (View.ld x0 (rQ h)) (View.ld x2 (rK h)) (View.ld x3 (rQ h))
    (View.ld s1 (rC h)) (View.ld s2 (rN h))
def cP : FVec F S1x512x512 .f32 :=
  cH (wI i h) (wF i h) (k0_pay12 i) x4 x5 (View.ld s3 (rM h)) (View.ld x2 (rK h)) (View.ld x3 (rQ h)) (View.ld s0 (rC h))
def cbP : FVec F S1x512x512 .bf16 :=
  cbH (wI i h) (wF i h) (k0_pay12 i) x4 x5 (View.ld s3 (rM h)) (View.ld x2 (rK h)) (View.ld x3 (rQ h)) (View.ld s0 (rC h))
def nP : FVec F S1x8x512 .f32 :=
  nH (wI i h) (wF i h) (k0_pay12 i) x4 x5 (View.ld s3 (rM h)) (View.ld x1 (rQ h)) (View.ld s2 (rN h))
def mP : FVec F S1x1x1 .f32 := mH (wI i h) (wF i h) (k0_pay12 i) x4 x5 (View.ld s3 (rM h))

end Terms

section Loads
variable {F : FTy → Type} [FloatOps F]

/-- A read of rows a store did not touch passes over it. -/
theorem readCov_skip {s : Shape} {e : EltTy} {κ : Kind} {sp : Space} (v : View sig κ sp s e)
    {off size : Fin s.rank → Nat} {inb} {w} {off' size' : Fin s.rank → Nat} {inb'} (L : List (View.Piece (Elt F) s e))
    (h : ∃ a, off a + size a ≤ off' a ∨ off' a + size' a ≤ off a) :
    v.readCov ((⟨Rect.unit off size inb, w⟩ : View.Piece (Elt F) s e) :: L) (Rect.unit off' size' inb').toLoadRect
      = v.readCov L (Rect.unit off' size' inb').toLoadRect := by
  obtain ⟨a, h⟩ := h
  exact View.readCov_cons_of_disjoint v ⟨Rect.unit off size inb, w⟩ L _ (Rect.unit_disjoint (inb := inb) (inb' := inb') a h)

/-- A read after a store of the whole buffer is a read of the stored values. -/
theorem readCov_reset {s : Shape} {e : EltTy} {κ : Kind} {sp : Space} (v : View sig κ sp s e)
    {off : Fin s.rank → Nat} {inb : ∀ a, off a + s.size a ≤ s.size a} {w : s.Idx → Elt F e} (r : Rect s) (h : ∀ a, off a = 0) :
    v.readCov [(⟨Rect.unit off (no_index s.size) inb, w⟩ : View.Piece (Elt F) s e)] r.toLoadRect = View.ld w r := by
  have hm : ∀ y : s.Idx, y ∈ (Rect.unit off s.size inb).set := fun y => Rect.mem_set_unit.mpr fun a => by rw [h a]; exact ⟨Nat.zero_le _, by have := (y a).isLt; omega⟩
  rw [View.readCov_eq_canon_ld _ _ _ fun y => ⟨_, List.mem_cons_self, hm y⟩, View.canon_cons_unit_lit _ _ _ h]

end Loads

section Bodies
variable {F : FTy → Type} [FloatOps F]

/-- The stores of the four heads, last first, after the stores `L`. -/
abbrev heads {s : Shape} {e : EltTy} (r : Fin 4 → Rect s) (p : ∀ h, (r h).shape.Idx → Elt F e) (L : List (View.Piece (Elt F) s e)) :
    List (View.Piece (Elt F) s e) := ⟨r 3, p 3⟩ :: ⟨r 2, p 2⟩ :: ⟨r 1, p 1⟩ :: ⟨r 0, p 0⟩ :: L

variable (c : Dev nD) (i : grid0.Coords) (arg4 : Memref sig .tc .vmem S1x256x2048 .bf16) (harg4 : arg4.IsWhole) (arg5 : Memref sig .tc .vmem S1x256x2048 .bf16) (harg5 : arg5.IsWhole) (arg6 : Memref sig .tc .vmem S1x2048x256 .bf16) (harg6 : arg6.IsWhole) (arg7 : Memref sig .tc .vmem S1x256x2048 .bf16) (harg7 : arg7.IsWhole) (arg8 : Memref sig .tc .vmem S1x256x32 .f32) (harg8 : arg8.IsWhole) (arg9 : Memref sig .tc .vmem S1x32x256 .f32) (harg9 : arg9.IsWhole) (arg10 : Memref sig .tc .vmem S1x1x256x2048 .bf16) (harg10 : arg10.IsWhole) (arg11 : Memref sig .tc .vmem S4x512x512 .f32) (harg11 : arg11.IsWhole) (arg12 : Memref sig .tc .vmem S4x512x512 .bf16) (harg12 : arg12.IsWhole) (arg13 : Memref sig .tc .vmem S4x8x512 .f32) (harg13 : arg13.IsWhole) (arg14 : Memref sig .tc .vmem S4x1x1 .f32) (harg14 : arg14.IsWhole)
  (x0 : Vec F S1x256x2048 .bf16) (x1 : Vec F S1x256x2048 .bf16) (x2 : Vec F S1x2048x256 .bf16) (x3 : Vec F S1x256x2048 .bf16) (x4 : Vec F S1x256x32 .f32) (x5 : Vec F S1x32x256 .f32) (xs0 : Vec F S4x512x512 .f32) (xs1 : Vec F S4x512x512 .bf16) (xs2 : Vec F S4x8x512 .f32) (xs3 : Vec F S4x1x1 .f32)

theorem out_B (hc0 : ¬cond0_0 i) : out0_B_6 c i arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3
    = View.canon (heads rO (oP i x0 x2 x3 x4 x5 xs1 xs2 xs3) []) := by
  frame_out
  rfl

theorem out_A (hc0 : cond0_0 i) : out0_A_6 c i arg4 harg4 arg5 harg5 arg6 harg6 arg7 harg7 arg8 harg8 arg9 harg9 arg10 harg10 arg11 harg11 arg12 harg12 arg13 harg13 arg14 harg14 hc0 x0 x1 x2 x3 x4 x5
    = View.canon (heads rO (oP i x0 x2 x3 x4 x5 k0_pay5 k0_pay6 k0_pay7) []) := by
  frame_out
  simp (disch := decide) only [readCov_skip, readCov_reset]
  rfl

theorem c_B (hc0 : ¬cond0_0 i) : sout0_B_0 c i arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3
    = View.canon (heads rC (cP i x2 x3 x4 x5 xs0 xs3) []) := by
  frame_out
  rfl

theorem c_A (hc0 : cond0_0 i) : sout0_A_0 c i arg4 harg4 arg5 harg5 arg6 harg6 arg7 harg7 arg8 harg8 arg9 harg9 arg10 harg10 arg11 harg11 arg12 harg12 arg13 harg13 arg14 harg14 hc0 x0 x1 x2 x3 x4 x5
    = View.canon (heads rC (cP i x2 x3 x4 x5 k0_pay4 k0_pay7) [⟨Rect.unit ![0, 0, 0] S4x512x512.size inb_S4x512x512_S4x512x512_0_0_0, k0_pay4⟩]) := by
  frame_out
  simp (disch := decide) only [readCov_skip, readCov_reset]
  rfl

theorem cb_B (hc0 : ¬cond0_0 i) : sout0_B_1 c i arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3
    = View.canon (heads rC (cbP i x2 x3 x4 x5 xs0 xs3) []) := by
  frame_out
  rfl

theorem cb_A (hc0 : cond0_0 i) : sout0_A_1 c i arg4 harg4 arg5 harg5 arg6 harg6 arg7 harg7 arg8 harg8 arg9 harg9 arg10 harg10 arg11 harg11 arg12 harg12 arg13 harg13 arg14 harg14 hc0 x0 x1 x2 x3 x4 x5
    = View.canon (heads rC (cbP i x2 x3 x4 x5 k0_pay4 k0_pay7) [⟨Rect.unit ![0, 0, 0] S4x512x512.size inb_S4x512x512_S4x512x512_0_0_0, k0_pay5⟩]) := by
  frame_out
  simp (disch := decide) only [readCov_skip, readCov_reset]
  rfl

theorem n_B (hc0 : ¬cond0_0 i) : sout0_B_2 c i arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3
    = View.canon (heads rN (nP i x1 x4 x5 xs2 xs3) []) := by
  frame_out
  rfl

theorem n_A (hc0 : cond0_0 i) : sout0_A_2 c i arg4 harg4 arg5 harg5 arg6 harg6 arg7 harg7 arg8 harg8 arg9 harg9 arg10 harg10 arg11 harg11 arg12 harg12 arg13 harg13 arg14 harg14 hc0 x0 x1 x2 x3 x4 x5
    = View.canon (heads rN (nP i x1 x4 x5 k0_pay6 k0_pay7) [⟨Rect.unit ![0, 0, 0] S4x8x512.size inb_S4x8x512_S4x8x512_0_0_0, k0_pay6⟩]) := by
  frame_out
  simp (disch := decide) only [readCov_skip, readCov_reset]
  rfl

theorem m_B (hc0 : ¬cond0_0 i) : sout0_B_3 c i arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3
    = View.canon (heads rM (mP i x4 x5 xs3) []) := by
  frame_out
  rfl

theorem m_A (hc0 : cond0_0 i) : sout0_A_3 c i arg4 harg4 arg5 harg5 arg6 harg6 arg7 harg7 arg8 harg8 arg9 harg9 arg10 harg10 arg11 harg11 arg12 harg12 arg13 harg13 arg14 harg14 hc0 x0 x1 x2 x3 x4 x5
    = View.canon (heads rM (mP i x4 x5 k0_pay7) [⟨Rect.unit ![0, 0, 0] S4x1x1.size inb_S4x1x1_S4x1x1_0_0_0, k0_pay7⟩]) := by
  frame_out
  simp (disch := decide) only [readCov_skip, readCov_reset]
  rfl

end Bodies

/-! ## What the four heads' stores leave, at an index -/

section Pieces
variable {F : FTy → Type} [FloatOps F]

theorem canon_heads {s : Shape} {e : EltTy} (r : Fin 4 → Rect s) (p : ∀ h, (r h).shape.Idx → Elt F e)
    (hd : ∀ g h, g ≠ h → Disjoint (r h).set (r g).set) (L : List (View.Piece (Elt F) s e)) (h : Fin 4) (x : (r h).shape.Idx) :
    View.canon (heads r p L) ((r h).emb x) = p h x := by
  have skip : ∀ (g : Fin 4) (w) (L : List (View.Piece (Elt F) s e)), g ≠ h →
      View.canon (⟨r g, w⟩ :: L) ((r h).emb x) = View.canon L ((r h).emb x) := fun g w L hg =>
    View.canon_cons_of_not_mem _ _ (Finset.disjoint_left.mp (hd g h hg) ((r h).toLoadRect.idx_mem x))
  match h with
  | 0 => rw [skip 3 _ _ (by decide), skip 2 _ _ (by decide), skip 1 _ _ (by decide), View.canon_cons_emb]
  | 1 => rw [skip 3 _ _ (by decide), skip 2 _ _ (by decide), View.canon_cons_emb]
  | 2 => rw [skip 3 _ _ (by decide), View.canon_cons_emb]
  | 3 => rw [View.canon_cons_emb]

/-- Lane `e` of head `h`. -/
def lane (h : Fin 4) (e : Fin 512) : Fin 2048 := ⟨512 * h.val + e.val, by omega⟩

theorem rQ_emb (h : Fin 4) (r : Fin 256) (e : Fin 512) : (rQ h).emb (ix3 0 r e) = ix3 0 r (lane h e) := by
  funext a; match a with
  | ⟨0, _⟩ => rfl
  | ⟨1, _⟩ => exact Fin.ext (show 0 + 1 * r.val = r.val by omega)
  | ⟨2, _⟩ => exact Fin.ext (show 512 * h.val + 1 * e.val = 512 * h.val + e.val by omega)
theorem rK_emb (h : Fin 4) (r : Fin 256) (e : Fin 512) : (rK h).emb (ix3 0 e r) = ix3 0 (lane h e) r := by
  funext a; match a with
  | ⟨0, _⟩ => rfl
  | ⟨1, _⟩ => exact Fin.ext (show 512 * h.val + 1 * e.val = 512 * h.val + e.val by omega)
  | ⟨2, _⟩ => exact Fin.ext (show 0 + 1 * r.val = r.val by omega)
theorem rO_emb (h : Fin 4) (r : Fin 256) (e : Fin 512) : (rO h).emb (ix4 0 0 r e) = ix4 0 0 r (lane h e) := by
  funext a; match a with
  | ⟨0, _⟩ => rfl
  | ⟨1, _⟩ => rfl
  | ⟨2, _⟩ => exact Fin.ext (show 0 + 1 * r.val = r.val by omega)
  | ⟨3, _⟩ => exact Fin.ext (show 512 * h.val + 1 * e.val = 512 * h.val + e.val by omega)
theorem rC_emb (h : Fin 4) (x y : Fin 512) : (rC h).emb (ix3 0 x y) = ix3 h x y := by
  funext a; match a with
  | ⟨0, _⟩ => rfl
  | ⟨1, _⟩ => exact Fin.ext (show 0 + 1 * x.val = x.val by omega)
  | ⟨2, _⟩ => exact Fin.ext (show 0 + 1 * y.val = y.val by omega)
theorem rN_emb (h : Fin 4) (x : Fin 8) (y : Fin 512) : (rN h).emb (ix3 0 x y) = ix3 h x y := by
  funext a; match a with
  | ⟨0, _⟩ => rfl
  | ⟨1, _⟩ => exact Fin.ext (show 0 + 1 * x.val = x.val by omega)
  | ⟨2, _⟩ => exact Fin.ext (show 0 + 1 * y.val = y.val by omega)
theorem rM_emb (h : Fin 4) : (rM h).emb (ix3 0 0 0) = ix3 h 0 0 := by
  funext a; match a with | ⟨0, _⟩ => rfl | ⟨1, _⟩ => rfl | ⟨2, _⟩ => rfl

theorem rO_disjoint (g h : Fin 4) (hg : g ≠ h) : Disjoint (rO h).set (rO g).set :=
  Rect.unit_disjoint 3 (show 512 * h.val + 512 ≤ 512 * g.val ∨ 512 * g.val + 512 ≤ 512 * h.val by omega)
theorem rC_disjoint (g h : Fin 4) (hg : g ≠ h) : Disjoint (rC h).set (rC g).set :=
  Rect.unit_disjoint 0 (show h.val + 1 ≤ g.val ∨ g.val + 1 ≤ h.val by omega)
theorem rN_disjoint (g h : Fin 4) (hg : g ≠ h) : Disjoint (rN h).set (rN g).set :=
  Rect.unit_disjoint 0 (show h.val + 1 ≤ g.val ∨ g.val + 1 ≤ h.val by omega)
theorem rM_disjoint (g h : Fin 4) (hg : g ≠ h) : Disjoint (rM h).set (rM g).set :=
  Rect.unit_disjoint 0 (show h.val + 1 ≤ g.val ∨ g.val + 1 ≤ h.val by omega)

theorem canon_O {e : EltTy} (p : Fin 4 → Vec F S1x1x256x512 e) (L) (h : Fin 4) (r : Fin 256) (x : Fin 512) :
    View.canon (Val := Elt F) (heads (e := e) rO p L) (ix4 0 0 r (lane h x)) = p h (ix4 0 0 r x) := by
  rw [← rO_emb]; exact canon_heads rO p rO_disjoint L h _
theorem canon_C {e : EltTy} (p : Fin 4 → Vec F S1x512x512 e) (L) (h : Fin 4) (x y : Fin 512) :
    View.canon (Val := Elt F) (heads (e := e) rC p L) (ix3 h x y) = p h (ix3 0 x y) := by
  rw [← rC_emb]; exact canon_heads rC p rC_disjoint L h _
theorem canon_N {e : EltTy} (p : Fin 4 → Vec F S1x8x512 e) (L) (h : Fin 4) (x : Fin 8) (y : Fin 512) :
    View.canon (Val := Elt F) (heads (e := e) rN p L) (ix3 h x y) = p h (ix3 0 x y) := by
  rw [← rN_emb]; exact canon_heads rN p rN_disjoint L h _
theorem canon_M {e : EltTy} (p : Fin 4 → Vec F S1x1x1 e) (L) (h : Fin 4) :
    View.canon (Val := Elt F) (heads (e := e) rM p L) (ix3 h 0 0) = p h (ix3 0 0 0) := by
  rw [← rM_emb]; exact canon_heads rM p rM_disjoint L h _

variable (i : grid0.Coords) (x0 x1 : Vec F S1x256x2048 .bf16) (x2 : Vec F S1x2048x256 .bf16) (x3 : Vec F S1x256x2048 .bf16)
  (x4 : Vec F S1x256x32 .f32) (x5 : Vec F S1x32x256 .f32) (s0 : Vec F S4x512x512 .f32) (s1 : Vec F S4x512x512 .bf16)
  (s2 : Vec F S4x8x512 .f32) (s3 : Vec F S4x1x1 .f32)

/-- The output block and the carried buffers after the four heads' stores. -/
def oAll : Vec F S1x1x256x2048 .bf16 := View.canon (heads rO (oP i x0 x2 x3 x4 x5 s1 s2 s3) [])
def cAll (L : List (View.Piece (Elt F) S4x512x512 .f32)) : Vec F S4x512x512 .f32 := View.canon (heads rC (cP i x2 x3 x4 x5 s0 s3) L)
def cbAll (L : List (View.Piece (Elt F) S4x512x512 .bf16)) : Vec F S4x512x512 .bf16 := View.canon (heads rC (cbP i x2 x3 x4 x5 s0 s3) L)
def nAll (L : List (View.Piece (Elt F) S4x8x512 .f32)) : Vec F S4x8x512 .f32 := View.canon (heads rN (nP i x1 x4 x5 s2 s3) L)
def mAll (L : List (View.Piece (Elt F) S4x1x1 .f32)) : Vec F S4x1x1 .f32 := View.canon (heads rM (mP i x4 x5 s3) L)

theorem oAll_apply (h : Fin 4) (r : Fin 256) (e : Fin 512) :
    oAll i x0 x2 x3 x4 x5 s1 s2 s3 (ix4 0 0 r (lane h e)) = oP i x0 x2 x3 x4 x5 s1 s2 s3 h (ix4 0 0 r e) := canon_O _ [] h r e
theorem cAll_apply (L) (h : Fin 4) (d e : Fin 512) :
    cAll i x2 x3 x4 x5 s0 s3 L (ix3 h d e) = cP i x2 x3 x4 x5 s0 s3 h (ix3 0 d e) := canon_C _ L h d e
theorem cbAll_apply (L) (h : Fin 4) (d e : Fin 512) :
    cbAll i x2 x3 x4 x5 s0 s3 L (ix3 h d e) = cbP i x2 x3 x4 x5 s0 s3 h (ix3 0 d e) := canon_C _ L h d e
theorem nAll_apply (L) (h : Fin 4) (u : Fin 8) (d : Fin 512) :
    nAll i x1 x4 x5 s2 s3 L (ix3 h u d) = nP i x1 x4 x5 s2 s3 h (ix3 0 u d) := canon_N _ L h u d
theorem mAll_apply (L) (h : Fin 4) :
    mAll i x4 x5 s3 L (ix3 h 0 0) = mP i x4 x5 s3 h (ix3 0 0 0) := canon_M _ L h

end Pieces

/-! ## A chunk's step of one direction, batch and head group -/

section Values
open Cert.Mlstm

/-- The blocks of a chunk hold the tokens from `a` on in the order `σ`, for each of the four heads. -/
structure Blocks (i : grid0.Coords) (T : Fin 4 → Tokens) (a : ℕ) (σ : Equiv.Perm (Fin 256))
    (x0 x1 : Vec Ideal S1x256x2048 .bf16) (x2 : Vec Ideal S1x2048x256 .bf16) (x3 : Vec Ideal S1x256x2048 .bf16)
    (x4 : Vec Ideal S1x256x32 .f32) (x5 : Vec Ideal S1x32x256 .f32) : Prop where
  q : ∀ h r d, x0 (ix3 0 r (lane h d)) = ((T h).q (pos σ a r) d : ℝ)
  k : ∀ h r d, x1 (ix3 0 r (lane h d)) = ((T h).k (pos σ a r) d : ℝ)
  kt : ∀ h r d, x2 (ix3 0 (lane h d) r) = ((T h).k (pos σ a r) d : ℝ)
  v : ∀ h r d, x3 (ix3 0 r (lane h d)) = ((T h).v (pos σ a r) d : ℝ)
  gates : ∀ h, ∃ jI jF : Fin 32, wI i h = BitVec.ofNat 32 jI.val ∧ wF i h = BitVec.ofNat 32 jF.val
    ∧ (∀ r, x5 (ix3 0 jI r) = ((T h).li (pos σ a r) : ℝ)) ∧ (∀ r, x5 (ix3 0 jF r) = ((T h).lf (pos σ a r) : ℝ))
    ∧ ∀ r, x4 (ix3 0 r jF) = ((T h).lf (pos σ a r) : ℝ)
  causal : ∀ r t, k0_pay11 i (ix2 r t) = if σ t ≤ σ r then 1#1 else 0#1
  anti : ∀ r t, k0_pay12 i (ix2 r t) = if σ r ≤ σ t then 1#1 else 0#1

/-- The carried buffers hold the state after the first `a` tokens of each head. -/
structure State (T : Fin 4 → Tokens) (a : ℕ) (s0 : Vec Ideal S4x512x512 .f32) (s1 : Vec Ideal S4x512x512 .bf16)
    (s2 : Vec Ideal S4x8x512 .f32) (s3 : Vec Ideal S4x1x1 .f32) : Prop where
  c : ∀ h d e, s0 (ix3 h d e) = (C (T h) a d e : ℝ)
  cb : ∀ h d e, s1 (ix3 h d e) = (C (T h) a d e : ℝ)
  n : ∀ h u d, s2 (ix3 h u d) = (N (T h) a d : ℝ)
  m : ∀ h, s3 (ix3 h 0 0) = (M (T h) a : ℝ)

theorem state_reset (T : Fin 4 → Tokens) : State T 0 (k0_pay4 (F := Ideal)) (k0_pay5 (F := Ideal)) (k0_pay6 (F := Ideal)) (k0_pay7 (F := Ideal)) where
  c h d e := by pointwise [k0_pay4]; simp [C]
  cb h d e := by pointwise [k0_pay5]; simp [C]
  n h u d := by pointwise [k0_pay6]; simp [N]
  m h := by pointwise [k0_pay7]; rw [coe_mInit]; rfl

variable {i : grid0.Coords} {T : Fin 4 → Tokens} {a : ℕ} {σ : Equiv.Perm (Fin 256)}
  {x0 x1 : Vec Ideal S1x256x2048 .bf16} {x2 : Vec Ideal S1x2048x256 .bf16} {x3 : Vec Ideal S1x256x2048 .bf16}
  {x4 : Vec Ideal S1x256x32 .f32} {x5 : Vec Ideal S1x32x256 .f32} (B : Blocks i T a σ x0 x1 x2 x3 x4 x5)
  {s0 : Vec Ideal S4x512x512 .f32} {s1 : Vec Ideal S4x512x512 .bf16} {s2 : Vec Ideal S4x8x512 .f32} {s3 : Vec Ideal S4x1x1 .f32}
  (S : State T a s0 s1 s2 s3)
include B S

theorem holds (h : Fin 4) : Holds (T h) a σ (wI i h) (wF i h) (k0_pay11 i) (k0_pay12 i) x4 x5 (View.ld s3 (rM h)) where
  gates := B.gates h
  causal := B.causal
  anti := B.anti
  stab := (congrArg s3 (rM_emb h)).trans (S.m h)

theorem oP_apply (h : Fin 4) (r : Fin 256) (e : Fin 512) :
    oP i x0 x2 x3 x4 x5 s1 s2 s3 h (ix4 0 0 r e) = (out (T h) (pos σ a r) e : ℝ) :=
  oH_apply (holds B S h) (fun r d => (congrArg x0 (rQ_emb h r d)).trans (B.q h r d)) (fun d r => (congrArg x2 (rK_emb h r d)).trans (B.kt h r d))
    (fun r d => (congrArg x3 (rQ_emb h r d)).trans (B.v h r d)) (fun d e => (congrArg s1 (rC_emb h d e)).trans (S.cb h d e))
    (fun u d => (congrArg s2 (rN_emb h u d)).trans (S.n h u d)) r e

theorem cP_apply (h : Fin 4) (d e : Fin 512) : cP i x2 x3 x4 x5 s0 s3 h (ix3 0 d e) = (C (T h) (a + 256) d e : ℝ) :=
  cH_apply (holds B S h) (fun d r => (congrArg x2 (rK_emb h r d)).trans (B.kt h r d))
    (fun r d => (congrArg x3 (rQ_emb h r d)).trans (B.v h r d)) (fun d e => (congrArg s0 (rC_emb h d e)).trans (S.c h d e)) d e

theorem cbP_apply (h : Fin 4) (d e : Fin 512) : cbP i x2 x3 x4 x5 s0 s3 h (ix3 0 d e) = (C (T h) (a + 256) d e : ℝ) :=
  cbH_apply (holds B S h) (fun d r => (congrArg x2 (rK_emb h r d)).trans (B.kt h r d))
    (fun r d => (congrArg x3 (rQ_emb h r d)).trans (B.v h r d)) (fun d e => (congrArg s0 (rC_emb h d e)).trans (S.c h d e)) d e

theorem nP_apply (h : Fin 4) (u : Fin 8) (d : Fin 512) : nP i x1 x4 x5 s2 s3 h (ix3 0 u d) = (N (T h) (a + 256) d : ℝ) :=
  nH_apply (holds B S h) (fun r d => (congrArg x1 (rQ_emb h r d)).trans (B.k h r d))
    (fun u d => (congrArg s2 (rN_emb h u d)).trans (S.n h u d)) u d

theorem mP_apply (h : Fin 4) : mP i x4 x5 s3 h (ix3 0 0 0) = (M (T h) (a + 256) : ℝ) := mH_apply (holds B S h)

/-- What the four heads' stores leave in the carried buffers is the state after the chunk, whatever was stored before them. -/
theorem state_step (L0 L1 L2 L3) :
    State T (a + 256)
      (cAll i x2 x3 x4 x5 s0 s3 L0) (cbAll i x2 x3 x4 x5 s0 s3 L1) (nAll i x1 x4 x5 s2 s3 L2) (mAll i x4 x5 s3 L3) where
  c h d e := (cAll_apply ..).trans (cP_apply B S h d e)
  cb h d e := (cbAll_apply ..).trans (cbP_apply B S h d e)
  n h u d := (nAll_apply ..).trans (nP_apply B S h u d)
  m h := (mAll_apply ..).trans (mP_apply B S h)

/-- The output block of the chunk. -/
theorem out_step (h : Fin 4) (r : Fin 256) (e : Fin 512) :
    oAll i x0 x2 x3 x4 x5 s1 s2 s3 (ix4 0 0 r (lane h e)) = (out (T h) (pos σ a r) e : ℝ) :=
  (oAll_apply ..).trans (oP_apply B S h r e)

end Values

end Cert.KernelIdeal.Body
-- ==== Proof.Tokens.lean ====
module

public import proofs.«01_k».proof.Proof.Recurrence
public import Idealize.ShloMosaic.Lib.Pointwise

@[expose] public section

noncomputable section

open Idealize.ShloMosaic

namespace Cert.Mlstm

/-- The factor of the queries: the format's value next to the reciprocal square root of the head width. -/
def qScale : ℝ := (Ideal.ofBits .f32 0x3D3504F3#32).toReal

theorem coe_qScale : Ideal.ofBits .f32 0x3D3504F3#32 = (qScale : EReal) := by
  unfold qScale
  have h : ∃ x : ℝ, Ideal.ofBits .f32 0x3D3504F3#32 = x :=
    ⟨_, by unfold Ideal.ofBits Ideal.ieee; dsimp only; rw [if_neg (by decide), if_neg (by decide)]⟩
  obtain ⟨x, h⟩ := h
  rw [h, EReal.toReal_coe]

/-- The logarithm of the logistic function. -/
def logSigmoid (x : ℝ) : ℝ := min x 0 - Real.log (1 + Real.exp (-|x|))

/-- The token at position `p` of direction `d`: the second direction reads the first 256 tokens and the others each from
    the last to the first. -/
def tok (d p : ℕ) : Fin 4352 := ⟨(if d = 0 then p else if p < 256 then 255 - p else 4607 - p) % 4352, Nat.mod_lt _ (by decide)⟩

/-- Reading a direction's order twice is reading the tokens in order. -/
theorem tok_tok (d : ℕ) (t : Fin 4352) : tok d (tok d t.val).val = t := by
  have := t.isLt
  apply Fin.ext
  simp only [tok]
  split_ifs <;> omega

def headLane (h : Fin 8) (e : Fin 512) : Fin 4096 := ⟨512 * h.val + e.val, by omega⟩
def gateLane (d : Fin 2) (g : Fin 2) (h : Fin 8) : Fin 32 := ⟨16 * d.val + 8 * g.val + h.val, by omega⟩

/-- The queries, keys, values and gates as arrays of reals. -/
structure Arrays where
  q : Fin 8 → Fin 4352 → Fin 4096 → ℝ
  k : Fin 8 → Fin 4352 → Fin 4096 → ℝ
  v : Fin 8 → Fin 4352 → Fin 4096 → ℝ
  g : Fin 8 → Fin 4352 → Fin 32 → ℝ

/-- One sequence of the recurrence: a direction, a batch entry and a head. -/
def seq (A : Arrays) (d : Fin 2) (b h : Fin 8) : Tokens where
  q p e := A.q b (tok d p) (headLane h e) * qScale
  k p e := A.k b (tok d p) (headLane h e)
  v p e := A.v b (tok d p) (headLane h e)
  li p := A.g b (tok d p) (gateLane d 0 h)
  lf p := logSigmoid (A.g b (tok d p) (gateLane d 1 h))

/-- The result: each token's output of each sequence. -/
def result (A : Arrays) (d : Fin 2) (b : Fin 8) (t : Fin 4352) (j : Fin 4096) : ℝ :=
  out (seq A d b ⟨j.val / 512, by omega⟩) (tok d t) ⟨j.val % 512, Nat.mod_lt _ (by decide)⟩

theorem result_headLane (A : Arrays) (d : Fin 2) (b : Fin 8) (t : Fin 4352) (h : Fin 8) (e : Fin 512) :
    result A d b t (headLane h e) = out (seq A d b h) (tok d t) e := by
  have h1 : (⟨(headLane h e).val / 512, by omega⟩ : Fin 8) = h := Fin.ext (by simp only [headLane]; omega)
  have h2 : (⟨(headLane h e).val % 512, Nat.mod_lt _ (by decide)⟩ : Fin 512) = e := Fin.ext (by simp only [headLane]; omega)
  unfold result; rw [h1, h2]

end Cert.Mlstm
-- ==== Proof.Fold.lean ====
module

public import proofs.«01_k».proof.Proof.Gen.KernelIdeal.Value
public import proofs.«01_k».proof.Proof.Body
public import proofs.«01_k».proof.Proof.Tokens
public import Idealize.ShloMosaic.Lib.StableHlo.RunRead
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.KernelIdeal.Fold

open Cert.KernelIdeal Cert.KernelIdeal.Gen Head Body Cert.Mlstm

/-! ## The grid: direction, batch entry, head group, chunk -/

theorem N_eq : grid0.N = 544 := N_0

/-- The order of a chunk's rows: the second direction reads them from the last to the first. -/
def order (d : ℕ) : Equiv.Perm (Fin 256) := if d = 0 then Equiv.refl _ else Fin.revPerm

/-- The chunk of the arrays a position in the grid's order of chunks reads. -/
def chunkOf (d c : ℕ) : ℕ := if d = 0 then c else if c = 0 then 0 else 17 - c

theorem coords_val : ∀ t : Fin grid0.N, (grid0.coords t 0).val = t.val / 272 ∧ (grid0.coords t 1).val = t.val / 34 % 8
    ∧ (grid0.coords t 2).val = t.val / 17 % 2 ∧ (grid0.coords t 3).val = t.val % 17 := by decide +kernel

theorem index_q : ∀ t : Fin grid0.N, win0_0.index t = ![t.val / 34 % 8, chunkOf (t.val / 272) (t.val % 17), t.val / 17 % 2]
    ∧ win0_1.index t = ![t.val / 34 % 8, chunkOf (t.val / 272) (t.val % 17), t.val / 17 % 2]
    ∧ win0_2.index t = ![t.val / 34 % 8, t.val / 17 % 2, chunkOf (t.val / 272) (t.val % 17)]
    ∧ win0_3.index t = ![t.val / 34 % 8, chunkOf (t.val / 272) (t.val % 17), t.val / 17 % 2] := by decide +kernel
theorem index_g : ∀ t : Fin grid0.N, win0_4.index t = ![t.val / 34 % 8, chunkOf (t.val / 272) (t.val % 17), 0]
    ∧ win0_5.index t = ![t.val / 34 % 8, 0, chunkOf (t.val / 272) (t.val % 17)]
    ∧ win0_6.index t = ![t.val / 272, t.val / 34 % 8, chunkOf (t.val / 272) (t.val % 17), t.val / 17 % 2] := by decide +kernel

theorem word_shift : ∀ s : Fin 512, IntOp.cmpi CmpIPredicate.sge (IntOp.subi (BitVec.ofNat 32 s.val) 256#32) 0#32
    = (if 256 ≤ s.val then 1#1 else 0#1) ∧ IntOp.cmpi CmpIPredicate.sle (IntOp.subi (BitVec.ofNat 32 s.val) 256#32) 0#32
    = (if s.val ≤ 256 then 1#1 else 0#1) := by decide +kernel

theorem word_sub (r t : Fin 256) : IntOp.subi (BitVec.ofNat 32 r.val) (BitVec.ofNat 32 t.val)
    = IntOp.subi (BitVec.ofNat 32 (r.val + 256 - t.val)) 256#32 := by
  have hr := r.isLt
  have ht := t.isLt
  show BitVec.ofNat 32 _ - BitVec.ofNat 32 _ = BitVec.ofNat 32 _ - _
  apply BitVec.eq_of_toNat_eq
  simp only [BitVec.toNat_sub, BitVec.toNat_ofNat]
  omega

theorem sge_sub (r t : Fin 256) : IntOp.cmpi CmpIPredicate.sge (IntOp.subi (BitVec.ofNat 32 r.val) (BitVec.ofNat 32 t.val)) 0#32
    = if t.val ≤ r.val then 1#1 else 0#1 := by
  have h : r.val + 256 - t.val < 512 := by omega
  rw [word_sub, (word_shift ⟨r.val + 256 - t.val, h⟩).1]
  exact if_congr (by show 256 ≤ r.val + 256 - t.val ↔ _; omega) rfl rfl

theorem sle_sub (r t : Fin 256) : IntOp.cmpi CmpIPredicate.sle (IntOp.subi (BitVec.ofNat 32 r.val) (BitVec.ofNat 32 t.val)) 0#32
    = if r.val ≤ t.val then 1#1 else 0#1 := by
  have h : r.val + 256 - t.val < 512 := by omega
  rw [word_sub, (word_shift ⟨r.val + 256 - t.val, h⟩).2]
  exact if_congr (by show r.val + 256 - t.val ≤ 256 ↔ _; omega) rfl rfl

/-- The sign of a direction times a difference of rows. -/
theorem muli_sign (d : Fin 2) (x y : BitVec 32) :
    IntOp.muli (IntOp.subi x y) (Scalar.subi 1#32 (Scalar.muli 2#32 (BitVec.ofNat 32 d.val)))
      = if d.val = 0 then IntOp.subi x y else IntOp.subi y x := by
  match d with
  | 0 => exact BitVec.mul_one (x - y)
  | 1 =>
    show (x - y) * (-1#32) = y - x
    rw [BitVec.mul_neg, BitVec.mul_one, BitVec.neg_sub, BitVec.add_comm, BitVec.sub_eq_add_neg]

theorem order_le (d : Fin 2) (r t : Fin 256) : order d.val t ≤ order d.val r ↔ if d.val = 0 then t.val ≤ r.val else r.val ≤ t.val := by
  unfold order
  match d with
  | 0 => exact Iff.rfl
  | 1 => exact Fin.rev_le_rev

theorem causal (i : grid0.Coords) (r t : Fin 256) :
    k0_pay11 i (ix2 r t) = if order (i 0).val t ≤ order (i 0).val r then 1#1 else 0#1 := by
  pointwise [k0_pay11, k0_pay10]
  have h := order_le (i 0) r t
  rw [show IntOp.muli (IntOp.subi (BitVec.ofNat 32 ↑r) (BitVec.ofNat 32 ↑t)) (Scalar.subi (1#32) (Scalar.muli (2#32) (BitVec.ofNat 32 ↑(i 0)))) = _ from muli_sign (i 0) _ _]
  by_cases h0 : (i 0).val = 0
  · rw [if_pos h0] at h ⊢; rw [sge_sub]; exact if_congr h.symm rfl rfl
  · rw [if_neg h0] at h ⊢; rw [sge_sub]; exact if_congr h.symm rfl rfl

theorem anti (i : grid0.Coords) (r t : Fin 256) :
    k0_pay12 i (ix2 r t) = if order (i 0).val r ≤ order (i 0).val t then 1#1 else 0#1 := by
  pointwise [k0_pay12, k0_pay10]
  have h := order_le (i 0) t r
  rw [show IntOp.muli (IntOp.subi (BitVec.ofNat 32 ↑r) (BitVec.ofNat 32 ↑t)) (Scalar.subi (1#32) (Scalar.muli (2#32) (BitVec.ofNat 32 ↑(i 0)))) = _ from muli_sign (i 0) _ _]
  by_cases h0 : (i 0).val = 0
  · rw [if_pos h0] at h ⊢; rw [sle_sub]; exact if_congr h.symm rfl rfl
  · rw [if_neg h0] at h ⊢; rw [sle_sub]; exact if_congr h.symm rfl rfl

/-! ## The arrays the kernel reads -/

/-- The printed floor division, remainder and comparison of a column number. -/
def signW (x : BitVec 32) : BitVec 32 := if x = 0 then 0 else if x.msb = true then -1 else 1
def divW (x : BitVec 32) : BitVec 32 :=
  Scalar.select (IntOp.andi (IntOp.cmpi CmpIPredicate.ne (signW x) (signW 8#32)) (IntOp.cmpi CmpIPredicate.ne (IntOp.remsi ArithUnit.host x 8#32) 0#32))
    (IntOp.subi (IntOp.divsi ArithUnit.host x 8#32) 1#32) (IntOp.divsi ArithUnit.host x 8#32)
def twoW : BitVec 32 := Scalar.select (IntOp.cmpi CmpIPredicate.eq 2#32 0#32) 1#32 2#32
def modW (x : BitVec 32) : BitVec 32 :=
  Scalar.select (IntOp.andi (IntOp.cmpi CmpIPredicate.ne (IntOp.cmpi CmpIPredicate.slt (IntOp.remsi ArithUnit.host x twoW) 0#32) (IntOp.cmpi CmpIPredicate.slt twoW 0#32))
    (IntOp.cmpi CmpIPredicate.ne (IntOp.remsi ArithUnit.host x twoW) 0#32)) (IntOp.addi (IntOp.remsi ArithUnit.host x twoW) twoW) (IntOp.remsi ArithUnit.host x twoW)
theorem column_word : ∀ j : Fin 32, IntOp.cmpi CmpIPredicate.eq (modW (divW (BitVec.ofNat 32 j.val))) 1#32
    = if j.val / 8 % 2 = 1 then 1#1 else 0#1 := by decide +kernel

section
variable (m : (ℓ : Loc nD τ sig) → Buf (Elt Ideal) ℓ) (c : Dev nD)
/-- The columns of the gates that are turned into log forget gates: the second 8 of each 16. -/
theorem V9_apply (b : Fin 8) (t : Fin 4352) (j : Fin 32) :
    V m c main_v9 (ix3 b t j) = if j.val / 8 % 2 = 1 then 1#1 else 0#1 := by
  unfold_abbrev_sides
  after_reads_simp
  simp only [StableHlo.TRef.ofBuf_toBuf, id]
  simp only [StableHlo.TRef.of, StableHlo.TRef.ofBuf, StableHlo.TRef.toBuf, cast_eq]
  pointwise
  exact column_word j

theorem V2_apply (b : Fin 8) (t : Fin 4352) (j : Fin 4096) (x : ℝ) (h : m (c.tc.loc main_arg0) (ix3 b t j) = (x : EReal)) :
    V m c main_v2 (ix3 b t j) = ((x * qScale : ℝ) : EReal) := by
  unfold_abbrev_sides
  after_reads_simp
  pointwise
  rw [coe_qScale, EReal.coe_mul, ← h]
theorem V3_apply (b : Fin 8) (t : Fin 4352) (j : Fin 4096) : V m c main_v3 (ix3 b t j) = m (c.tc.loc main_arg1) (ix3 b t j) := by
  unfold_abbrev_sides
  after_reads_simp
  pointwise
theorem V18_apply (b : Fin 8) (t : Fin 4352) (j : Fin 4096) : V m c main_v18 (ix3 b j t) = m (c.tc.loc main_arg1) (ix3 b t j) := by
  unfold_abbrev_sides
  after_reads_simp
  pointwise
theorem V4_apply (b : Fin 8) (t : Fin 4352) (j : Fin 4096) : V m c main_v4 (ix3 b t j) = m (c.tc.loc main_arg2) (ix3 b t j) := by
  unfold_abbrev_sides
  after_reads_simp
  pointwise
theorem V17_apply (b : Fin 8) (t : Fin 4352) (j : Fin 32) : V m c main_v17 (ix3 b t j)
    = Scalar.select (V m c main_v9 (ix3 b t j)) (V m c main_v16 (ix3 b t j)) (m (c.tc.loc main_arg3) (ix3 b t j)) := by
  unfold_abbrev_sides
  after_reads_simp
  rfl
theorem V19_eq (b : Fin 8) (t : Fin 4352) (j : Fin 32) : V m c main_v19 (ix3 b j t) = V m c main_v17 (ix3 b t j) := by
  unfold_abbrev_sides
  after_reads_simp
  pointwise
theorem V16_apply (b : Fin 8) (t : Fin 4352) (j : Fin 32) (x : ℝ) (h : m (c.tc.loc main_arg3) (ix3 b t j) = (x : EReal)) :
    V m c main_v16 (ix3 b t j) = ((logSigmoid x : ℝ) : EReal) := by
  unfold_abbrev_sides
  after_reads_simp
  pointwise
  rw [show m (c, Proc.tc.devRef main_arg3) (ix3 b t j) = (x : EReal) from h,
    show (FloatOps.absf (F := Ideal) (φ := .f32) (x : EReal)) = ((|x| : ℝ) : EReal) from coe_abs _, ← EReal.coe_zero, ← EReal.coe_neg,
    Ideal.exp_coe, show Ideal.log1p ((Real.exp (-|x|) : ℝ) : EReal) = Ideal.log (1 + ((Real.exp (-|x|) : ℝ) : EReal)) from rfl,
    ← EReal.coe_one, ← EReal.coe_add, Ideal.log_coe]
  have hp : ¬ 1 + Real.exp (-|x|) ≤ 0 := not_le.mpr (by positivity)
  rw [if_neg hp, logSigmoid, EReal.coe_sub]
  exact congrArg (· - _) (EReal.coe_strictMono.monotone.map_min).symm

/-! ## A point's blocks -/

/-- The batch entry, the tokens and the lanes of a point's blocks. -/
def batchAt (t : ℕ) : Fin 8 := ⟨t / 34 % 8, Nat.mod_lt _ (by decide)⟩
def tokenAt (t : ℕ) (r : Fin 256) : Fin 4352 := ⟨(256 * chunkOf (t / 272) (t % 17) + r.val) % 4352, Nat.mod_lt _ (by decide)⟩
def laneAt (t : ℕ) (j : Fin 2048) : Fin 4096 := ⟨2048 * (t / 17 % 2) + j.val, by omega⟩

theorem chunk_lt (t : ℕ) (r : Fin 256) : 256 * chunkOf (t / 272) (t % 17) + r.val < 4352 := by
  unfold chunkOf; split_ifs <;> omega

variable (t : Fin cfg0.N)

theorem iblk0_apply (r : Fin 256) (j : Fin 2048) : iblk m c 0 t (ix3 0 r j) = V m c main_v2 (ix3 (batchAt t.val) (tokenAt t.val r) (laneAt t.val j)) := by
  have h := chunk_lt t.val r
  blk_ext [iblk, index_q t, batchAt, tokenAt, laneAt, Nat.mod_eq_of_lt h]
theorem iblk1_apply (r : Fin 256) (j : Fin 2048) : iblk m c 1 t (ix3 0 r j) = V m c main_v3 (ix3 (batchAt t.val) (tokenAt t.val r) (laneAt t.val j)) := by
  have h := chunk_lt t.val r
  blk_ext [iblk, index_q t, batchAt, tokenAt, laneAt, Nat.mod_eq_of_lt h]
theorem iblk2_apply (r : Fin 256) (j : Fin 2048) : iblk m c 2 t (ix3 0 j r) = V m c main_v18 (ix3 (batchAt t.val) (laneAt t.val j) (tokenAt t.val r)) := by
  have h := chunk_lt t.val r
  blk_ext [iblk, index_q t, batchAt, tokenAt, laneAt, Nat.mod_eq_of_lt h]
theorem iblk3_apply (r : Fin 256) (j : Fin 2048) : iblk m c 3 t (ix3 0 r j) = V m c main_v4 (ix3 (batchAt t.val) (tokenAt t.val r) (laneAt t.val j)) := by
  have h := chunk_lt t.val r
  blk_ext [iblk, index_q t, batchAt, tokenAt, laneAt, Nat.mod_eq_of_lt h]
theorem iblk4_apply (r : Fin 256) (j : Fin 32) : iblk m c 4 t (ix3 0 r j) = V m c main_v17 (ix3 (batchAt t.val) (tokenAt t.val r) j) := by
  have h := chunk_lt t.val r
  blk_ext [iblk, index_g t, batchAt, tokenAt, Nat.mod_eq_of_lt h]
theorem iblk5_apply (r : Fin 256) (j : Fin 32) : iblk m c 5 t (ix3 0 j r) = V m c main_v19 (ix3 (batchAt t.val) j (tokenAt t.val r)) := by
  have h := chunk_lt t.val r
  blk_ext [iblk, index_g t, batchAt, tokenAt, Nat.mod_eq_of_lt h]

/-- The arguments' elements are the reals of `A`. -/
structure Reads (A : Arrays) : Prop where
  q : ∀ b t j, m (c.tc.loc main_arg0) (ix3 b t j) = (A.q b t j : EReal)
  k : ∀ b t j, m (c.tc.loc main_arg1) (ix3 b t j) = (A.k b t j : EReal)
  v : ∀ b t j, m (c.tc.loc main_arg2) (ix3 b t j) = (A.v b t j : EReal)
  g : ∀ b t j, m (c.tc.loc main_arg3) (ix3 b t j) = (A.g b t j : EReal)

variable {A : Arrays} (hA : Reads m c A)

/-- The direction and the heads of a point. -/
def dirAt (t : ℕ) : Fin 2 := ⟨t / 272 % 2, Nat.mod_lt _ (by decide)⟩
def headAt (t : ℕ) (h : Fin 4) : Fin 8 := ⟨4 * (t / 17 % 2) + h.val, by omega⟩

/-- The four sequences a point works on. -/
def seqAt (A : Arrays) (t : ℕ) (h : Fin 4) : Tokens := seq A (dirAt t) (batchAt t) (headAt t h)

theorem laneAt_lane (t : ℕ) (h : Fin 4) (d : Fin 512) : laneAt t (lane h d) = headLane (headAt t h) d :=
  Fin.ext (by simp only [laneAt, lane, headLane, headAt]; omega)

theorem order_val (d : ℕ) (r : Fin 256) : (order d r).val = if d = 0 then r.val else 255 - r.val := by
  unfold order
  split_ifs
  · rfl
  · simp only [Fin.revPerm_apply, Fin.val_rev]; omega

theorem tokenAt_eq (t : ℕ) (ht : t < 544) (r : Fin 256) : tokenAt t r = tok (dirAt t) (pos (order (t / 272)) (256 * (t % 17)) r) := by
  have hr := r.isLt
  have hd : t / 272 % 2 = t / 272 := Nat.mod_eq_of_lt (by omega)
  apply Fin.ext
  simp only [tokenAt, tok, pos, dirAt, order_val, chunkOf, hd]
  split_ifs <;> omega

/-- A token's position in its direction's order. -/
theorem tok_pos (t : ℕ) (ht : t < 544) (r : Fin 256) :
    (tok (dirAt t) (tok (dirAt t) (pos (order (t / 272)) (256 * (t % 17)) r)).val).val = pos (order (t / 272)) (256 * (t % 17)) r := by
  have hp : pos (order (t / 272)) (256 * (t % 17)) r < 4352 := by
    have := (order (t / 272) r).isLt
    unfold pos; omega
  exact congrArg Fin.val (tok_tok _ ⟨_, hp⟩)

theorem gate_word : ∀ (d g : Fin 2) (h : Fin 4) (j : Fin 2),
    Scalar.addi (Scalar.addi (Scalar.muli (BitVec.ofNat 32 d.val) 16#32) (Scalar.addi (Scalar.muli (BitVec.ofNat 32 g.val) 4#32) (BitVec.ofNat 32 h.val)))
      (BitVec.ofNat 32 (8 * j.val)) = BitVec.ofNat 32 (16 * d.val + 8 * j.val + (4 * g.val + h.val)) := by decide +kernel

theorem wI_eq (h : Fin 4) : wI (grid0.coords t) h = BitVec.ofNat 32 (gateLane (dirAt t.val) 0 (headAt t.val h)).val := by
  obtain ⟨h0, h1, h2, h3⟩ := coords_val t
  have ht : t.val < 544 := lt_of_lt_of_eq t.isLt N_eq
  have e := gate_word (grid0.coords t 0) (grid0.coords t 2) h 0
  unfold wI
  rw [show (BitVec.ofNat 32 (8 * (0 : Fin 2).val)) = 0#32 from rfl, show ∀ x : BitVec 32, Scalar.addi x 0#32 = x from BitVec.add_zero] at e
  rw [e]
  congr 1

theorem wF_eq (h : Fin 4) : wF (grid0.coords t) h = BitVec.ofNat 32 (gateLane (dirAt t.val) 1 (headAt t.val h)).val := by
  obtain ⟨h0, h1, h2, h3⟩ := coords_val t
  have ht : t.val < 544 := lt_of_lt_of_eq t.isLt N_eq
  unfold wF wI
  refine (gate_word (grid0.coords t 0) (grid0.coords t 2) h 1).trans ?_
  congr 1

include hA

theorem V17_li (b : Fin 8) (t : Fin 4352) (d : Fin 2) (h : Fin 8) : V m c main_v17 (ix3 b t (gateLane d 0 h)) = (A.g b t (gateLane d 0 h) : EReal) := by
  have hn : ¬ (gateLane d 0 h).val / 8 % 2 = 1 := by simp only [gateLane]; show ¬ (16 * d.val + 8 * 0 + h.val) / 8 % 2 = 1; omega
  rw [V17_apply, V9_apply, if_neg hn]
  exact hA.g b t _

theorem V17_lf (b : Fin 8) (t : Fin 4352) (d : Fin 2) (h : Fin 8) :
    V m c main_v17 (ix3 b t (gateLane d 1 h)) = (logSigmoid (A.g b t (gateLane d 1 h)) : EReal) := by
  have hn : (gateLane d 1 h).val / 8 % 2 = 1 := by simp only [gateLane]; show (16 * d.val + 8 * 1 + h.val) / 8 % 2 = 1; omega
  rw [V17_apply, V9_apply, if_pos hn]
  exact V16_apply m c b t _ _ (hA.g b t _)

theorem blocks : Blocks (grid0.coords t) (seqAt A t.val) (256 * (t.val % 17)) (order (t.val / 272))
    (iblk m c 0 t) (iblk m c 1 t) (iblk m c 2 t) (iblk m c 3 t) (iblk m c 4 t) (iblk m c 5 t) where
  q h r d := by
    rw [iblk0_apply, V2_apply m c _ _ _ _ (hA.q _ _ _), laneAt_lane, tokenAt_eq _ (lt_of_lt_of_eq t.isLt N_eq)]; rfl
  k h r d := by
    rw [iblk1_apply, V3_apply, hA.k, laneAt_lane, tokenAt_eq _ (lt_of_lt_of_eq t.isLt N_eq)]; rfl
  kt h r d := by
    rw [iblk2_apply, V18_apply, hA.k, laneAt_lane, tokenAt_eq _ (lt_of_lt_of_eq t.isLt N_eq)]; rfl
  v h r d := by
    rw [iblk3_apply, V4_apply, hA.v, laneAt_lane, tokenAt_eq _ (lt_of_lt_of_eq t.isLt N_eq)]; rfl
  gates h := by
    refine ⟨gateLane (dirAt t.val) 0 (headAt t.val h), gateLane (dirAt t.val) 1 (headAt t.val h), wI_eq t h, wF_eq t h, fun r => ?_, fun r => ?_, fun r => ?_⟩
    · rw [iblk5_apply, V19_eq, V17_li m c hA, tokenAt_eq _ (lt_of_lt_of_eq t.isLt N_eq)]; rfl
    · rw [iblk5_apply, V19_eq, V17_lf m c hA, tokenAt_eq _ (lt_of_lt_of_eq t.isLt N_eq)]; rfl
    · rw [iblk4_apply, V17_lf m c hA, tokenAt_eq _ (lt_of_lt_of_eq t.isLt N_eq)]; rfl
  causal r s := by rw [causal, (coords_val t).1]
  anti r s := by rw [anti, (coords_val t).1]

/-! ## The points in order -/

omit hA in
theorem seqAt_pred (A : Arrays) (n : ℕ) (h : ¬ n % 17 = 0) : seqAt A (n - 1) = seqAt A n := by
  funext h
  unfold seqAt
  rw [show dirAt (n - 1) = dirAt n from Fin.ext (by simp only [dirAt]; omega),
    show batchAt (n - 1) = batchAt n from Fin.ext (by simp only [batchAt]; omega),
    show headAt (n - 1) h = headAt n h from Fin.ext (by simp only [headAt]; omega)]

/-- After each point the carried buffers hold the state after the point's chunk. -/
theorem state : ∀ (n : ℕ) (hn : n < cfg0.N), State (seqAt A n) (256 * (n % 17) + 256)
    (outsAt0 m c n hn).2.1 (outsAt0 m c n hn).2.2.1 (outsAt0 m c n hn).2.2.2.1 (outsAt0 m c n hn).2.2.2.2 := by
  intro n
  induction n with
  | zero =>
    intro hn
    have B := blocks m c ⟨0, hn⟩ hA
    rw [outsAt0_A m c ⟨0, hn⟩ rfl]
    dsimp only
    rw [c_A, cb_A, n_A, m_A]
    exact state_step B (state_reset _) _ _ _ _
  | succ n ih =>
    intro hn
    have B := blocks m c ⟨n + 1, hn⟩ hA
    by_cases h0 : (n + 1) % 17 = 0
    · rw [outsAt0_A m c ⟨n + 1, hn⟩ h0]
      dsimp only
      rw [c_A, cb_A, n_A, m_A]
      have S := state_reset (seqAt A (n + 1))
      rw [show 256 * ((⟨n + 1, hn⟩ : Fin cfg0.N).val % 17) = 0 from by show 256 * ((n + 1) % 17) = 0; rw [h0]] at B
      rw [h0]
      exact state_step B S _ _ _ _
    · have S := ih (Nat.lt_of_succ_lt hn)
      rw [outsAt0_B m c ⟨n + 1, hn⟩ h0]
      dsimp only
      rw [c_B, cb_B, n_B, m_B]
      rw [show seqAt A n = seqAt A (n + 1) from seqAt_pred A (n + 1) h0, show 256 * (n % 17) + 256 = 256 * ((n + 1) % 17) from by omega] at S
      exact state_step B S _ _ _ _

/-- A point's output block. -/
theorem out_apply (h : Fin 4) (r : Fin 256) (e : Fin 512) :
    (outsAt0 m c t.val t.isLt).1 (ix4 0 0 r (lane h e)) = (out (seqAt A t.val h) (pos (order (t.val / 272)) (256 * (t.val % 17)) r) e : EReal) := by
  have B := blocks m c t hA
  by_cases h0 : t.val % 17 = 0
  · rw [outsAt0_A m c t h0]
    dsimp only
    rw [out_A]
    rw [show 256 * (t.val % 17) = 0 from by rw [h0]] at B ⊢
    exact out_step B (state_reset _) h r e
  · have S := state m c hA (t.val - 1) (Nat.lt_of_le_of_lt (Nat.sub_le _ _) t.isLt)
    rw [seqAt_pred A t.val h0, show 256 * ((t.val - 1) % 17) + 256 = 256 * (t.val % 17) from by omega] at S
    rw [outsAt0_B m c t h0]
    dsimp only
    rw [out_B]
    exact out_step B S h r e

/-- The result array after the run. -/
theorem array : (dats m 0 c).arrAt 6 cfg0.N = fun i => ((result A (i 0) (i 1) (i 2) (i 3) : ℝ) : EReal) := by
  refine (dats m 0 c).arrAt_eq_of_covers 6 _ (by decide +kernel) fun t hf y => ?_
  blk_simp [after0_6]
  obtain ⟨r, h, e, rfl⟩ : ∃ (r : Fin 256) (h : Fin 4) (e : Fin 512), y = ix4 0 0 r (lane h e) := by
    have h3 := (y 3).isLt
    refine ⟨y 2, ⟨(y 3).val / 512, Nat.div_lt_of_lt_mul h3⟩, ⟨(y 3).val % 512, Nat.mod_lt _ (by decide)⟩, ?_⟩
    funext a; match a with
    | ⟨0, _⟩ => exact Fin.ext (Nat.lt_one_iff.mp (y 0).isLt)
    | ⟨1, _⟩ => exact Fin.ext (Nat.lt_one_iff.mp (y 1).isLt)
    | ⟨2, _⟩ => rfl
    | ⟨3, _⟩ => exact Fin.ext (Nat.div_add_mod (y 3).val 512).symm
  have hN : t.val < 544 := lt_of_lt_of_eq t.isLt N_eq
  have hd : t.val / 272 < 2 := by omega
  have hc := chunk_lt t.val r
  have e0 : (win0_6.blk t).view.emb (ix4 0 0 r (lane h e)) 0 = dirAt t.val := Fin.ext (by
    blk_simp [index_g t, dirAt, Nat.mod_eq_of_lt hd]; rfl)
  have e1 : (win0_6.blk t).view.emb (ix4 0 0 r (lane h e)) 1 = batchAt t.val := Fin.ext (by
    blk_simp [index_g t, batchAt]; rfl)
  have e2 : (win0_6.blk t).view.emb (ix4 0 0 r (lane h e)) 2 = tokenAt t.val r := Fin.ext (by
    blk_simp [index_g t, tokenAt, Nat.mod_eq_of_lt hc]; exact congrArg (· + r.val) (Nat.mul_comm _ _))
  have e3 : (win0_6.blk t).view.emb (ix4 0 0 r (lane h e)) 3 = headLane (headAt t.val h) e := Fin.ext (by
    rw [← laneAt_lane]; blk_simp [index_g t, laneAt]; exact congrArg (· + (lane h e).val) (Nat.mul_comm _ _))
  rw [e0, e1, e2, e3, result_headLane, out_apply m c t hA, tokenAt_eq _ hN, tok_pos _ hN]
  rfl

end

end Cert.KernelIdeal.Fold
-- ==== Proof.Trip.lean ====
module

public import proofs.«01_k».proof.Proof.Head
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.ShloMosaic.StableHlo

namespace Cert.ReferenceIdeal.Trip

open Cert.ReferenceIdeal Cert.ReferenceIdeal.Gen Cert.ReferenceIdeal.Value Cert.Mlstm
open Cert.KernelIdeal.Head (sel)

/-! ## A running sum along the last axis, written as a sum over windows -/

theorem foldl_add {n : ℕ} (g : Fin n → EReal) : ∀ v : EReal, (List.finRange n).foldl (fun r i => r + g i) v = v + ∑ i, g i := by
  intro v
  rw [← List.sum_ofFn, List.ofFn_eq_map]
  generalize List.finRange n = l
  induction l generalizing v with
  | nil => simp
  | cons a l ih => rw [List.foldl_cons, ih, List.map_cons, List.sum_cons, add_assoc]

/-- A window of 64 that ends at row `r`, with zeros before the first row, takes the rows up to `r`. -/
theorem window_sum (f : Fin 64 → EReal) (r : Fin 64) :
    (∑ w : Fin 64, if h : 63 ≤ r.val + w.val then f ⟨r.val + w.val - 63, by omega⟩ else 0) = ∑ t, if t ≤ r then f t else 0 := by
  let e : Fin 64 → Fin 64 := fun w => if h : 63 ≤ r.val + w.val then ⟨r.val + w.val - 63, by omega⟩ else ⟨r.val + w.val + 1, by omega⟩
  have he : Function.Injective e := by
    intro a b h
    have h' := congrArg Fin.val h
    simp only [e] at h'
    apply Fin.ext
    split at h' <;> split at h' <;> simp only at h' <;> omega
  rw [← Function.Bijective.sum_comp (Finite.injective_iff_bijective.mp he) fun t => if t ≤ r then f t else 0]
  refine Finset.sum_congr rfl fun w _ => ?_
  have hw := w.isLt
  simp only [e]
  split
  · rw [if_pos (by show r.val + w.val - 63 ≤ r.val; omega)]
  · rw [if_neg (by show ¬ r.val + w.val + 1 ≤ r.val; omega)]

abbrev W64 : Shape := ⟨3, ![1, 1, 64]⟩

theorem W64_numel : W64.numel = 64 := by decide

theorem W64_symm (n : Fin W64.numel) : W64.rowMajor.symm n = ix3 (0 : Fin 1) (0 : Fin 1) (n.cast W64_numel) := by
  refine W64.rowMajor.symm_apply_eq.2 (Fin.ext ?_)
  rw [Shape.rowMajor_val_three]
  show n.val = (0 * 1 + 0) * 64 + n.val
  omega

/-- The reference's running sum of a chunk's gates. -/
theorem cumsum_apply (x : FVec Ideal S16x8x64 .f32) (init : FVec Ideal S_ .f32) (hi : ∀ i, init i = 0) (s : Fin 16) (h : Fin 8) (r : Fin 64) :
    Host.reduceWindowAdd ![1, 1, 64] ![1, 1, 1] ![0, 0, 63] ![0, 0, 0] x init reduceWindows_S16x8x64_S16x8x64_w1s1p0_0_w1s1p0_0_w64s1p63_0 h_S_ (ix3 s h r)
      = ∑ t, if t ≤ r then x (ix3 s h t) else 0 := by
  rw [← window_sum (fun t => x (ix3 s h t)) r]
  unfold Host.reduceWindowAdd
  rw [Ideal.hostReduceWindowAdd_def]
  unfold Ideal.hostReduceWindowAdd Host.reduceWindow
  refine (foldl_add _ _).trans ?_
  rw [hi, zero_add]
  refine (Fintype.sum_equiv (finCongr W64_numel) _ _ fun n => ?_)
  have hw : (W64.rowMajor.symm n 0).val = 0 ∧ (W64.rowMajor.symm n 1).val = 0 ∧ (W64.rowMajor.symm n 2).val = n.val := by
    rw [W64_symm]; exact ⟨rfl, rfl, rfl⟩
  have hn : n.val < 64 := lt_of_lt_of_eq n.isLt W64_numel
  have hs := s.isLt
  have hh := h.isLt
  have hr := r.isLt
  by_cases hle : 63 ≤ r.val + n.val
  · rw [dif_pos, dif_pos (show 63 ≤ r.val + (finCongr W64_numel n).val from hle)]
    · refine congrArg x (funext fun a => Fin.ext ?_)
      match a with
      | ⟨0, _⟩ => show s.val * 1 + (W64.rowMajor.symm n 0).val - 0 = s.val; omega
      | ⟨1, _⟩ => show h.val * 1 + (W64.rowMajor.symm n 1).val - 0 = h.val; omega
      | ⟨2, _⟩ =>
        show r.val * 1 + (W64.rowMajor.symm n 2).val - 63 = r.val + n.val - 63; omega
    · intro a
      match a with
      | ⟨0, _⟩ => show 0 ≤ s.val * 1 + (W64.rowMajor.symm n 0).val ∧ s.val * 1 + (W64.rowMajor.symm n 0).val - 0 < 16; omega
      | ⟨1, _⟩ => show 0 ≤ h.val * 1 + (W64.rowMajor.symm n 1).val ∧ h.val * 1 + (W64.rowMajor.symm n 1).val - 0 < 8; omega
      | ⟨2, _⟩ => show 63 ≤ r.val * 1 + (W64.rowMajor.symm n 2).val ∧ r.val * 1 + (W64.rowMajor.symm n 2).val - 63 < 64; omega
  · rw [dif_neg, dif_neg (show ¬ 63 ≤ r.val + (finCongr W64_numel n).val from hle)]
    intro hin
    have h2 := hin 2
    change 63 ≤ r.val * 1 + (W64.rowMajor.symm n 2).val ∧ r.val * 1 + (W64.rowMajor.symm n 2).val - 63 < 64 at h2
    omega

/-! ## One trip -/

/-- The counter before trip `k`, as the loop's start word. -/
theorem start_val (k : ℕ) (hk : k < 68) : (BitVec.ofNat 32 k).toInt = k := by
  have h : (BitVec.ofNat 32 k).toNat = k := by rw [BitVec.toNat_ofNat]; omega
  rw [BitVec.toInt_eq_toNat_of_lt (by omega), h]

/-- A chunk's results from its parts. -/
theorem out_value (T : Tokens) (a : ℕ) (r : Fin 64) (e : Fin 512) {w m : EReal} {q c n : Fin 512 → EReal} {s v : Fin 64 → EReal}
    (hw : w = ((Real.exp (P T (pos (Equiv.refl _) a r + 1) - P T a + M T a - M T (pos (Equiv.refl _) a r + 1)) : ℝ) : EReal))
    (hm : m = ((M T (pos (Equiv.refl _) a r + 1) : ℝ) : EReal)) (hq : ∀ d, q d = ((T.q (pos (Equiv.refl _) a r) d : ℝ) : EReal))
    (hc : ∀ d, c d = ((C T a d e : ℝ) : EReal)) (hn : ∀ d, n d = ((N T a d : ℝ) : EReal))
    (hs : ∀ t, s t = ((qk T (pos (Equiv.refl _) a r) (pos (Equiv.refl _) a t) * D T (Equiv.refl _) a r t : ℝ) : EReal))
    (hv : ∀ t, v t = ((T.v (pos (Equiv.refl _) a t) e : ℝ) : EReal)) :
    Ideal.div (w * ∑ x, q x * c x + ∑ x, s x * v x)
        (max (FloatOps.absf (F := Ideal) (φ := .f32) (w * ∑ x, q x * n x + ∑ x, s x)) (Ideal.exp (-m)))
      = ((out T (pos (Equiv.refl _) a r) e : ℝ) : EReal) := by
  simp only [hw, hm, hq, hc, hn, hs, hv, ← EReal.coe_mul, coe_sum, ← EReal.coe_add]
  rw [den_chunk T (Equiv.refl _) a r, num_chunk T (Equiv.refl _) a r e]
  rw [show (FloatOps.absf (F := Ideal) (φ := .f32) ((den T (pos (Equiv.refl _) a r) : ℝ) : EReal))
      = ((|den T (pos (Equiv.refl _) a r)| : ℝ) : EReal) from coe_abs _,
    ← EReal.coe_neg, Ideal.exp_coe, coe_max, coe_div _ _ (ne_of_gt (lt_max_of_lt_right (Real.exp_pos _)))]
  rfl

/-- What the loop's buffers hold before trip `n`: the sequences, and the recurrence at token `64 n`. -/
structure Holds (n : ℕ) (T : Fin 16 → Fin 8 → Tokens) (V : Valuation τ sig (Elt Ideal)) : Prop where
  lt : n < 68
  ctr : ∀ i, V (Proc.devRef .tc main_v66_6) i = BitVec.ofNat 32 n
  q : ∀ (t : Fin 68) s h (r : Fin 64) d, V (Proc.devRef .tc main_v66_0) (ix5 t s h r d) = (((T s h).q (64 * t.val + r.val) d : ℝ) : EReal)
  k : ∀ (t : Fin 68) s h (r : Fin 64) d, V (Proc.devRef .tc main_v66_1) (ix5 t s h r d) = (((T s h).k (64 * t.val + r.val) d : ℝ) : EReal)
  v : ∀ (t : Fin 68) s h (r : Fin 64) d, V (Proc.devRef .tc main_v66_2) (ix5 t s h r d) = (((T s h).v (64 * t.val + r.val) d : ℝ) : EReal)
  li : ∀ (t : Fin 68) s h (r : Fin 64), V (Proc.devRef .tc main_v66_3) (ix4 t s h r) = (((T s h).li (64 * t.val + r.val) : ℝ) : EReal)
  lf : ∀ (t : Fin 68) s h (r : Fin 64), V (Proc.devRef .tc main_v66_4) (ix4 t s h r) = (((T s h).lf (64 * t.val + r.val) : ℝ) : EReal)
  mask : ∀ r t : Fin 64, V (Proc.devRef .tc main_v66_5) (ix2 r t) = if t ≤ r then 1#1 else 0#1
  mat : ∀ s h d e, V (Proc.devRef .tc main_v66_7) (ix4 s h d e) = ((C (T s h) (64 * n) d e : ℝ) : EReal)
  norm : ∀ s h d, V (Proc.devRef .tc main_v66_8) (ix3 s h d) = ((N (T s h) (64 * n) d : ℝ) : EReal)
  stab : ∀ s h, V (Proc.devRef .tc main_v66_9) (ix2 s h) = ((M (T s h) (64 * n) : ℝ) : EReal)

theorem ix4_eq {a b c d : ℕ} {i i' : Fin a} {j j' : Fin b} {k k' : Fin c} {l l' : Fin d} (hi : i.val = i'.val) (hj : j.val = j'.val)
    (hk : k.val = k'.val) (hl : l.val = l'.val) : ix4 i j k l = ix4 i' j' k' l' := by
  rw [Fin.ext hi, Fin.ext hj, Fin.ext hk, Fin.ext hl]

theorem ix5_eq {a b c d e : ℕ} {i i' : Fin a} {j j' : Fin b} {k k' : Fin c} {l l' : Fin d} {o o' : Fin e} (hi : i.val = i'.val)
    (hj : j.val = j'.val) (hk : k.val = k'.val) (hl : l.val = l'.val) (ho : o.val = o'.val) : ix5 i j k l o = ix5 i' j' k' l' o' := by
  rw [Fin.ext hi, Fin.ext hj, Fin.ext hk, Fin.ext hl, Fin.ext ho]

section
variable {n : ℕ} {T : Fin 16 → Fin 8 → Tokens} {V : Valuation τ sig (Elt Ideal)} (H : Holds n T V)
include H

/-- The loop's counter, read as a start and kept inside the array. -/
theorem start_apply (i : S_.Idx) : (min (max (BitVec.toInt (V (Proc.devRef .tc main_v66_6) i)) 0) (67 : ℕ)).toNat = n := by
  have hk := H.lt
  rw [H.ctr, start_val n hk]
  omega

theorem q_apply (s : Fin 16) (h : Fin 8) (r : Fin 64) (d : Fin 512) :
    res_main_while0b_v81 V (ix4 s h r d) = (((T s h).q (pos (Equiv.refl _) (64 * n) r) d : ℝ) : EReal) := by
  pointwise [res_main_while0b_v81, Host.dynamicSlice_apply, Host.clampedStart]
  refine (congrArg _ ?_).trans (H.q ⟨n, H.lt⟩ s h r d)
  exact ix5_eq (start_apply H _) (Nat.zero_add _) (Nat.zero_add _) (Nat.zero_add _) (Nat.zero_add _)

theorem k_apply (s : Fin 16) (h : Fin 8) (r : Fin 64) (d : Fin 512) :
    res_main_while0b_v82 V (ix4 s h r d) = (((T s h).k (pos (Equiv.refl _) (64 * n) r) d : ℝ) : EReal) := by
  pointwise [res_main_while0b_v82, Host.dynamicSlice_apply, Host.clampedStart]
  refine (congrArg _ ?_).trans (H.k ⟨n, H.lt⟩ s h r d)
  exact ix5_eq (start_apply H _) (Nat.zero_add _) (Nat.zero_add _) (Nat.zero_add _) (Nat.zero_add _)

theorem v_apply (s : Fin 16) (h : Fin 8) (r : Fin 64) (d : Fin 512) :
    res_main_while0b_v83 V (ix4 s h r d) = (((T s h).v (pos (Equiv.refl _) (64 * n) r) d : ℝ) : EReal) := by
  pointwise [res_main_while0b_v83, Host.dynamicSlice_apply, Host.clampedStart]
  refine (congrArg _ ?_).trans (H.v ⟨n, H.lt⟩ s h r d)
  exact ix5_eq (start_apply H _) (Nat.zero_add _) (Nat.zero_add _) (Nat.zero_add _) (Nat.zero_add _)

theorem li_apply (s : Fin 16) (h : Fin 8) (r : Fin 64) :
    res_main_while0b_v84 V (ix3 s h r) = (((T s h).li (pos (Equiv.refl _) (64 * n) r) : ℝ) : EReal) := by
  pointwise [res_main_while0b_v84, Host.dynamicSlice_apply, Host.clampedStart]
  refine (congrArg _ ?_).trans (H.li ⟨n, H.lt⟩ s h r)
  exact ix4_eq (start_apply H _) (Nat.zero_add _) (Nat.zero_add _) (Nat.zero_add _)

theorem b_apply (s : Fin 16) (h : Fin 8) (r : Fin 64) :
    res_main_while0b_v86 V (ix3 s h r)
      = ((P (T s h) (pos (Equiv.refl _) (64 * n) r + 1) - P (T s h) (64 * n) : ℝ) : EReal) := by
  unfold res_main_while0b_v86
  refine (cumsum_apply _ _ (fun i => by pointwise []) s h r).trans ?_
  rw [← P_upto (T s h) (Equiv.refl _) (64 * n) r, ← coe_sum]
  refine Finset.sum_congr rfl fun t _ => ?_
  have ht : shapeCast S16x8x64 (Host.dynamicSlice S1x16x8x64 (V (Proc.devRef .tc main_v66_4)) (fun k => (((![V (Proc.devRef .tc main_v66_6), constantI S_ 32 0#32, constantI S_ 32 0#32, constantI S_ 32 0#32] : Fin 4 → (⟨S_, .i32⟩ : BufTy).Contents (Elt Ideal))) k (Shape.Idx.first h_S_)).toInt) sliceFits_S68x16x8x64_S1x16x8x64) shapeCasts_S1x16x8x64_S16x8x64 (ix3 s h t)
      = (((T s h).lf (pos (Equiv.refl _) (64 * n) t) : ℝ) : EReal) := by
    pointwise [Host.dynamicSlice_apply, Host.clampedStart]
    refine (congrArg _ ?_).trans (H.lf ⟨n, H.lt⟩ s h t)
    exact ix4_eq (start_apply H _) (Nat.zero_add _) (Nat.zero_add _) (Nat.zero_add _)
  rw [ht]
  show (if t ≤ r then _ else _) = _
  rw [← EReal.coe_zero, coe_ite]
  rfl

theorem logD_apply (s : Fin 16) (h : Fin 8) (r t : Fin 64) : res_main_while0b_v95 V (ix4 s h r t)
    = if t ≤ r then ((P (T s h) (pos (Equiv.refl _) (64 * n) r + 1) - P (T s h) (pos (Equiv.refl _) (64 * n) t + 1)
        + (T s h).li (pos (Equiv.refl _) (64 * n) t) : ℝ) : EReal) else ⊥ := by
  pointwise [res_main_while0b_v95, id]
  rw [H.mask, sel, b_apply H, b_apply H, li_apply H, ofBits_bot, ← EReal.coe_sub, ← EReal.coe_add]
  congr 2; ring

theorem logInter_apply (s : Fin 16) (h : Fin 8) (r : Fin 64) : res_main_while0b_v98 V (ix3 s h r)
    = ((P (T s h) (pos (Equiv.refl _) (64 * n) r + 1) - P (T s h) (64 * n) + M (T s h) (64 * n) : ℝ) : EReal) := by
  pointwise [res_main_while0b_v98]
  rw [b_apply H, H.stab, ← EReal.coe_add]

theorem stab_apply (s : Fin 16) (h : Fin 8) (r : Fin 64) : res_main_while0b_v100 V (ix3 s h r)
    = ((M (T s h) (pos (Equiv.refl _) (64 * n) r + 1) : ℝ) : EReal) := by
  pointwise [res_main_while0b_v100]
  rw [logInter_apply H, ofBits_bot]
  refine (congrArg (max _) ((Shape.ReducesTo.fold_fiber_r4_a3 (α := EReal) reducesTo_S16x8x64x64_S16x8x64_d3 (ix3 s h r) max ⊥ (res_main_while0b_v95 V)).trans
    (Finset.fold_congr fun t _ => logD_apply H s h r t))).trans ?_
  exact M_chunk (T s h) (Equiv.refl _) (64 * n) r

theorem a_apply (s : Fin 16) (h : Fin 8) (r : Fin 64) : res_main_while0b_v106 V (ix3 s h r)
    = ((Real.exp (P (T s h) (pos (Equiv.refl _) (64 * n) r + 1) - P (T s h) (64 * n) + M (T s h) (64 * n)
        - M (T s h) (pos (Equiv.refl _) (64 * n) r + 1)) : ℝ) : EReal) := by
  pointwise [res_main_while0b_v106]
  rw [logInter_apply H, stab_apply H, ← EReal.coe_sub]
  rfl

theorem s_apply (s : Fin 16) (h : Fin 8) (r t : Fin 64) : res_main_while0b_v108 V (ix4 s h r t)
    = ((qk (T s h) (pos (Equiv.refl _) (64 * n) r) (pos (Equiv.refl _) (64 * n) t) * D (T s h) (Equiv.refl _) (64 * n) r t : ℝ) : EReal) := by
  pointwise [res_main_while0b_v108]
  rw [logD_apply H, stab_apply H, exp_masked]
  simp only [q_apply H, k_apply H, ← EReal.coe_mul, coe_sum]
  rfl

theorem total_apply (s : Fin 16) (h : Fin 8) : res_main_while0b_v127 V (ix2 s h)
    = ((P (T s h) (64 * n + 64) - P (T s h) (64 * n) : ℝ) : EReal) := by
  pointwise [res_main_while0b_v127]
  exact b_apply H s h 63

theorem logW_apply (s : Fin 16) (h : Fin 8) (t : Fin 64) : res_main_while0b_v131 V (ix3 s h t)
    = ((P (T s h) (64 * n + 64) - P (T s h) (pos (Equiv.refl _) (64 * n) t + 1) + (T s h).li (pos (Equiv.refl _) (64 * n) t) : ℝ) : EReal) := by
  pointwise [res_main_while0b_v131]
  rw [total_apply H, b_apply H, li_apply H, ← EReal.coe_sub, ← EReal.coe_add]
  congr 1; ring

theorem mNew_apply (s : Fin 16) (h : Fin 8) : res_main_while0b_v134 V (ix2 s h) = ((M (T s h) (64 * n + 64) : ℝ) : EReal) := by
  pointwise [res_main_while0b_v134]
  rw [total_apply H, H.stab, ofBits_bot, ← EReal.coe_add]
  refine (congrArg (max _) ((Shape.ReducesTo.fold_fiber_r3_a2 (α := EReal) reducesTo_S16x8x64_S16x8_d2 (ix2 s h) max ⊥ (res_main_while0b_v131 V)).trans
    (Finset.fold_congr fun t _ => logW_apply H s h t))).trans ?_
  exact M_chunk_last (T s h) (Equiv.refl _) (64 * n)

theorem decay_apply (s : Fin 16) (h : Fin 8) : res_main_while0b_v141 V (ix2 s h)
    = ((Real.exp (P (T s h) (64 * n + 64) - P (T s h) (64 * n) + M (T s h) (64 * n) - M (T s h) (64 * n + 64)) : ℝ) : EReal) := by
  pointwise [res_main_while0b_v141]
  rw [total_apply H, H.stab, mNew_apply H, ← EReal.coe_add, ← EReal.coe_sub]
  rfl

theorem kw_apply (s : Fin 16) (h : Fin 8) (t : Fin 64) (d : Fin 512) : res_main_while0b_v144 V (ix4 s h t d)
    = (((T s h).k (pos (Equiv.refl _) (64 * n) t) d * W (T s h) (64 * n + 64) (pos (Equiv.refl _) (64 * n) t) : ℝ) : EReal) := by
  pointwise [res_main_while0b_v144]
  rw [logW_apply H, mNew_apply H, k_apply H, ← EReal.coe_sub]
  rfl

/-- The matrix, the normaliser and the stabiliser a trip leaves. -/
theorem mat_step (s : Fin 16) (h : Fin 8) (d e : Fin 512) :
    step_main_v66_7 V (ix4 s h d e) = ((C (T s h) (64 * n + 64) d e : ℝ) : EReal) := by
  pointwise [step_main_v66_7, id]
  simp only [decay_apply H, kw_apply H, v_apply H, H.mat, ← EReal.coe_mul, coe_sum, ← EReal.coe_add]
  rw [C_chunk (T s h) (Equiv.refl _) (64 * n) d e]

theorem norm_step (s : Fin 16) (h : Fin 8) (d : Fin 512) :
    step_main_v66_8 V (ix3 s h d) = ((N (T s h) (64 * n + 64) d : ℝ) : EReal) := by
  pointwise [step_main_v66_8, id]
  simp only [decay_apply H, kw_apply H, H.norm, ← EReal.coe_mul, coe_sum, ← EReal.coe_add]
  rw [← N_chunk (T s h) (Equiv.refl _) (64 * n) d]
  simp only [mul_comm ((T s h).k _ d)]

theorem stab_step (s : Fin 16) (h : Fin 8) : step_main_v66_9 V (ix2 s h) = ((M (T s h) (64 * n + 64) : ℝ) : EReal) := by
  pointwise [step_main_v66_9, id]
  exact mNew_apply H s h

/-- The stack of chunks a trip leaves: the trip's chunk at its number, every other chunk as it was. -/
theorem stack_step (t : Fin 68) (s : Fin 16) (h : Fin 8) (r : Fin 64) (e : Fin 512) :
    step_main_v66_10 V (ix5 t s h r e)
      = if t.val = n then ((out (T s h) (pos (Equiv.refl _) (64 * n) r) e : ℝ) : EReal) else V (Proc.devRef .tc main_v66_10) (ix5 t s h r e) := by
  pointwise [step_main_v66_10, id, Host.dynamicUpdateSlice_apply, Host.clampedStart]
  have hs := s.isLt
  have hh := h.isLt
  have hr := r.isLt
  have he := e.isLt
  by_cases ht : t.val = n
  · refine (dif_pos ?_).trans (Eq.trans ?_ (if_pos ht).symm)
    · intro a
      match a with
      | ⟨0, _⟩ =>
        show (min (max (BitVec.toInt (V (Proc.devRef .tc main_v66_6) (Shape.Idx.first h_S_))) 0) (67 : ℕ)).toNat ≤ t.val
          ∧ t.val < (min (max (BitVec.toInt (V (Proc.devRef .tc main_v66_6) (Shape.Idx.first h_S_))) 0) (67 : ℕ)).toNat + 1
        rw [start_apply H]; omega
      | ⟨1, _⟩ => show 0 ≤ s.val ∧ s.val < 0 + 16; omega
      | ⟨2, _⟩ => show 0 ≤ h.val ∧ h.val < 0 + 8; omega
      | ⟨3, _⟩ => show 0 ≤ r.val ∧ r.val < 0 + 64; omega
      | ⟨4, _⟩ => show 0 ≤ e.val ∧ e.val < 0 + 512; omega
    · simp only [show (min (max (BitVec.toInt 0#32) 0) ((0 : ℕ) : ℤ)).toNat = 0 from by decide, Nat.sub_zero, Fin.eta]
      exact out_value (T s h) (64 * n) r e (a_apply H s h r) (stab_apply H s h r) (fun x => q_apply H s h r x) (fun x => H.mat s h x e)
        (fun x => H.norm s h x) (fun x => s_apply H s h r x) (fun x => v_apply H s h x e)
  · refine (dif_neg ?_).trans (if_neg ht).symm
    intro hin
    have h0 := hin ⟨0, by decide⟩
    change (min (max (BitVec.toInt (V (Proc.devRef .tc main_v66_6) (Shape.Idx.first h_S_))) 0) (67 : ℕ)).toNat ≤ t.val
      ∧ t.val < (min (max (BitVec.toInt (V (Proc.devRef .tc main_v66_6) (Shape.Idx.first h_S_))) 0) (67 : ℕ)).toNat + 1 at h0
    rw [start_apply H] at h0
    omega

/-- The loop's counter after a trip. -/
theorem ctr_step (i : S_.Idx) : step_main_v66_6 V i = BitVec.ofNat 32 (n + 1) := by
  pointwise [step_main_v66_6, id]
  rw [H.ctr, BitVec.ofNat_add]
  rfl

/-- What the buffers hold before the next trip. -/
theorem next (hn : n + 1 < 68) : Holds (n + 1) T (STEP V) where
  lt := hn
  ctr i := by rw [STEP_main_v66_6]; exact ctr_step H i
  q t s h r d := by rw [STEP_main_v66_0]; exact H.q t s h r d
  k t s h r d := by rw [STEP_main_v66_1]; exact H.k t s h r d
  v t s h r d := by rw [STEP_main_v66_2]; exact H.v t s h r d
  li t s h r := by rw [STEP_main_v66_3]; exact H.li t s h r
  lf t s h r := by rw [STEP_main_v66_4]; exact H.lf t s h r
  mask r t := by rw [STEP_main_v66_5]; exact H.mask r t
  mat s h d e := by rw [STEP_main_v66_7]; exact mat_step H s h d e
  norm s h d := by rw [STEP_main_v66_8]; exact norm_step H s h d
  stab s h := by rw [STEP_main_v66_9]; exact stab_step H s h

end

/-! ## All trips -/

theorem holds_iterate {T : Fin 16 → Fin 8 → Tokens} {V : Valuation τ sig (Elt Ideal)} (H : Holds 0 T V) :
    ∀ n, n < 68 → Holds n T (STEP^[n] V)
  | 0, _ => H
  | n + 1, hn => by
    rw [Function.iterate_succ_apply']
    exact next (holds_iterate H n (by omega)) hn

/-- After `n` trips the stack holds the first `n` chunks. -/
theorem stack_iterate {T : Fin 16 → Fin 8 → Tokens} {V : Valuation τ sig (Elt Ideal)} (H : Holds 0 T V) :
    ∀ n, n ≤ 68 → ∀ (t : Fin 68) (s : Fin 16) (h : Fin 8) (r : Fin 64) (e : Fin 512), t.val < n →
      STEP^[n] V (Proc.devRef .tc main_v66_10) (ix5 t s h r e) = ((out (T s h) (64 * t.val + r.val) e : ℝ) : EReal)
  | 0, _ => fun t s h r e ht => absurd ht (Nat.not_lt_zero _)
  | n + 1, hn => fun t s h r e ht => by
    rw [Function.iterate_succ_apply', STEP_main_v66_10]
    refine (stack_step (holds_iterate H n (by omega)) t s h r e).trans ?_
    split
    · rename_i h1
      rw [h1]
      rfl
    · exact stack_iterate H n (by omega) t s h r e (by omega)

end Cert.ReferenceIdeal.Trip
-- ==== Proof.Entry.lean ====
module

public import proofs.«01_k».proof.Proof.Trip
public import proofs.«01_k».proof.Proof.Tokens
public import Idealize.ShloMosaic.Lib.Tactic
public import Idealize.ShloMosaic.Lib.StableHlo.RunRead

@[expose] public section

set_option maxRecDepth 16384

noncomputable section

open Idealize.ShloMosaic Idealize.ShloMosaic.TcCoe Idealize.ShloMosaic.StableHlo

namespace Cert.ReferenceIdeal.Entry

open Cert.ReferenceIdeal Cert.ReferenceIdeal.Gen Cert.ReferenceIdeal.Value Cert.ReferenceIdeal.Trip Cert.Mlstm

/-! ## The arrangements the reference makes of its arguments -/

/-- The heads of an array of tokens. -/
def heads (x : FVec Ideal S8x4352x4096 .f32) : FVec Ideal S8x8x4352x512 .f32 :=
  transpose S8x8x4352x512 [0, 2, 1, 3] (shapeCast S8x4352x8x512 x shapeCasts_S8x4352x4096_S8x4352x8x512) transposes_S8x4352x8x512_S8x8x4352x512_0_2_1_3

theorem heads_apply (x : FVec Ideal S8x4352x4096 .f32) (b h : Fin 8) (t : Fin 4352) (e : Fin 512) :
    heads x (ix4 b h t e) = x (ix3 b t (headLane h e)) := by
  pointwise [heads]
  exact congrArg x (congrArg (ix3 b t) (Fin.ext (congrArg (· + e.val) (Nat.mul_comm _ _))))

/-- Two arrays of sequences behind one another, the second with its first 256 tokens and its others each reversed. -/
def both4 (x y : FVec Ideal S8x8x4352x512 .f32) : FVec Ideal S16x8x4352x512 .f32 :=
  concatenate S16x8x4352x512 0 [⟨S8x8x4352x512, x⟩, ⟨S8x8x4352x512, concatenate S8x8x4352x512 2
    [⟨S8x8x256x512, Host.reverse [2] (extractStridedSlice S8x8x256x512 ![0, 0, 0, 0] y slices_S8x8x4352x512_S8x8x256x512_0_0_0_0)⟩,
     ⟨S8x8x4096x512, Host.reverse [2] (extractStridedSlice S8x8x4096x512 ![0, 0, 256, 0] y slices_S8x8x4352x512_S8x8x4096x512_0_0_256_0)⟩]
    concatenates_S8x8x256x512_S8x8x4096x512_S8x8x4352x512_d2⟩] concatenates_S8x8x4352x512_S8x8x4352x512_S16x8x4352x512_d0

theorem both4_apply (x y : FVec Ideal S8x8x4352x512 .f32) (s : Fin 16) (h : Fin 8) (p : Fin 4352) (e : Fin 512) :
    both4 x y (ix4 s h p e) = if hs : s.val < 8 then x (ix4 ⟨s.val, hs⟩ h p e) else y (ix4 ⟨s.val - 8, by omega⟩ h (tok 1 p) e) := by
  pointwise [both4]
  have hp := p.isLt
  by_cases hs : s.val < 8
  · rw [dif_pos hs, dif_pos hs]
  · rw [dif_neg hs, dif_neg hs]
    by_cases h2 : p.val < 256
    · rw [dif_pos h2]
      refine congrArg y (ix4_eq rfl rfl ?_ rfl)
      show 256 - (p.val + 1) = (if (1 : ℕ) = 0 then p.val else if p.val < 256 then 255 - p.val else 4607 - p.val) % 4352
      rw [if_neg (by decide), if_pos h2]; omega
    · rw [dif_neg h2]
      refine congrArg y (ix4_eq rfl rfl ?_ rfl)
      show 256 + (4096 - (p.val - 256 + 1)) = (if (1 : ℕ) = 0 then p.val else if p.val < 256 then 255 - p.val else 4607 - p.val) % 4352
      rw [if_neg (by decide), if_neg h2]; omega

def chunks4 (x : FVec Ideal S16x8x4352x512 .f32) : FVec Ideal S68x16x8x64x512 .f32 :=
  transpose S68x16x8x64x512 [2, 0, 1, 3, 4] (shapeCast S16x8x68x64x512 x shapeCasts_S16x8x4352x512_S16x8x68x64x512)
    transposes_S16x8x68x64x512_S68x16x8x64x512_2_0_1_3_4

theorem chunks4_apply (x : FVec Ideal S16x8x4352x512 .f32) (t : Fin 68) (s : Fin 16) (h : Fin 8) (r : Fin 64) (e : Fin 512) :
    chunks4 x (ix5 t s h r e) = x (ix4 s h ⟨64 * t.val + r.val, by omega⟩ e) := by
  pointwise [chunks4]
  exact congrArg x (ix4_eq rfl rfl (congrArg (· + r.val) (Nat.mul_comm _ _)) rfl)

/-- The same of an array of gates. -/
def both3 (x y : FVec Ideal S8x8x4352 .f32) : FVec Ideal S16x8x4352 .f32 :=
  concatenate S16x8x4352 0 [⟨S8x8x4352, x⟩, ⟨S8x8x4352, concatenate S8x8x4352 2
    [⟨S8x8x256, Host.reverse [2] (extractStridedSlice S8x8x256 ![0, 0, 0] y slices_S8x8x4352_S8x8x256_0_0_0)⟩,
     ⟨S8x8x4096, Host.reverse [2] (extractStridedSlice S8x8x4096 ![0, 0, 256] y slices_S8x8x4352_S8x8x4096_0_0_256)⟩]
    concatenates_S8x8x256_S8x8x4096_S8x8x4352_d2⟩] concatenates_S8x8x4352_S8x8x4352_S16x8x4352_d0

theorem both3_apply (x y : FVec Ideal S8x8x4352 .f32) (s : Fin 16) (h : Fin 8) (p : Fin 4352) :
    both3 x y (ix3 s h p) = if hs : s.val < 8 then x (ix3 ⟨s.val, hs⟩ h p) else y (ix3 ⟨s.val - 8, by omega⟩ h (tok 1 p)) := by
  pointwise [both3]
  have hp := p.isLt
  by_cases hs : s.val < 8
  · rw [dif_pos hs, dif_pos hs]
  · rw [dif_neg hs, dif_neg hs]
    by_cases h2 : p.val < 256
    · rw [dif_pos h2]
      refine congrArg y (congrArg (ix3 _ h) (Fin.ext ?_))
      show 256 - (p.val + 1) = (if (1 : ℕ) = 0 then p.val else if p.val < 256 then 255 - p.val else 4607 - p.val) % 4352
      rw [if_neg (by decide), if_pos h2]; omega
    · rw [dif_neg h2]
      refine congrArg y (congrArg (ix3 _ h) (Fin.ext ?_))
      show 256 + (4096 - (p.val - 256 + 1)) = (if (1 : ℕ) = 0 then p.val else if p.val < 256 then 255 - p.val else 4607 - p.val) % 4352
      rw [if_neg (by decide), if_neg h2]; omega

def chunks3 (x : FVec Ideal S16x8x4352 .f32) : FVec Ideal S68x16x8x64 .f32 :=
  transpose S68x16x8x64 [2, 0, 1, 3] (shapeCast S16x8x68x64 x shapeCasts_S16x8x4352_S16x8x68x64) transposes_S16x8x68x64_S68x16x8x64_2_0_1_3

theorem chunks3_apply (x : FVec Ideal S16x8x4352 .f32) (t : Fin 68) (s : Fin 16) (h : Fin 8) (r : Fin 64) :
    chunks3 x (ix4 t s h r) = x (ix3 s h ⟨64 * t.val + r.val, by omega⟩) := by
  pointwise [chunks3]
  exact congrArg x (congrArg (ix3 s h) (Fin.ext (congrArg (· + r.val) (Nat.mul_comm _ _))))

/-- The gates with the direction, the kind, the batch entry and the head in front. -/
def gatesT (g : FVec Ideal S8x4352x32 .f32) : FVec Ideal S2x2x8x8x4352 .f32 :=
  transpose S2x2x8x8x4352 [2, 3, 0, 4, 1] (shapeCast S8x4352x2x2x8 g shapeCasts_S8x4352x32_S8x4352x2x2x8) transposes_S8x4352x2x2x8_S2x2x8x8x4352_2_3_0_4_1

/-- The logarithm of the logistic function as the reference computes it. -/
def lsig (x : FVec Ideal S8x8x4352 .f32) : FVec Ideal S8x8x4352 .f32 :=
  Host.negf (select (cmpf .une (subf (Host.negf x) (broadcastInDim S8x8x4352 ![] bcast_S_S8x8x4352 (constant S_ .f32 0x00000000#32)))
      (subf (Host.negf x) (broadcastInDim S8x8x4352 ![] bcast_S_S8x8x4352 (constant S_ .f32 0x00000000#32))))
    (addf (Host.negf x) (broadcastInDim S8x8x4352 ![] bcast_S_S8x8x4352 (constant S_ .f32 0x00000000#32)))
    (addf (maximumf (Host.negf x) (broadcastInDim S8x8x4352 ![] bcast_S_S8x8x4352 (constant S_ .f32 0x00000000#32)))
      (Host.log1p (Host.exp (Host.negf (Host.absf (subf (Host.negf x) (broadcastInDim S8x8x4352 ![] bcast_S_S8x8x4352 (constant S_ .f32 0x00000000#32)))))))))

theorem lsig_apply (x : FVec Ideal S8x8x4352 .f32) (i : S8x8x4352.Idx) (y : ℝ) (h : x i = (y : EReal)) :
    lsig x i = (logSigmoid y : EReal) := by
  pointwise [lsig]
  rw [h, if_neg (by simp), ← EReal.coe_neg,
    show (FloatOps.absf (F := Ideal) (φ := .f32) ((-y : ℝ) : EReal)) = ((|-y| : ℝ) : EReal) from coe_abs _, abs_neg, ← EReal.coe_neg,
    Ideal.exp_coe, show Ideal.log1p ((Real.exp (-|y|) : ℝ) : EReal) = Ideal.log (1 + ((Real.exp (-|y|) : ℝ) : EReal)) from rfl,
    ← EReal.coe_one, ← EReal.coe_add, Ideal.log_coe, if_neg (not_le.mpr (by positivity)), ← EReal.coe_zero, coe_max, ← EReal.coe_add,
    ← EReal.coe_neg, logSigmoid]
  congr 1
  rw [neg_add, ← neg_zero, max_neg_neg, neg_neg, neg_zero, sub_eq_add_neg]

variable (m : (j : Loc nD τ sig) → j.ty.Contents (Elt Ideal)) (c : Dev nD)

theorem entry_q : entryContents preI m c (Proc.devRef .tc main_v66_0)
    = chunks4 (mulf (both4 (heads (m ((c.tc : Thread nD τ).loc main_arg0))) (heads (m ((c.tc : Thread nD τ).loc main_arg0))))
        (broadcastInDim S16x8x4352x512 ![] bcast_S_S16x8x4352x512 (constant S_ .f32 0x3D3504F3#32))) := by
  simp only [entryContents, afterL_cons, afterL_nil]
  after_reads_simp
  rfl

theorem entry_k : entryContents preI m c (Proc.devRef .tc main_v66_1)
    = chunks4 (both4 (heads (m ((c.tc : Thread nD τ).loc main_arg1))) (heads (m ((c.tc : Thread nD τ).loc main_arg1)))) := by
  simp only [entryContents, afterL_cons, afterL_nil]
  after_reads_simp
  rfl

theorem entry_v : entryContents preI m c (Proc.devRef .tc main_v66_2)
    = chunks4 (both4 (heads (m ((c.tc : Thread nD τ).loc main_arg2))) (heads (m ((c.tc : Thread nD τ).loc main_arg2)))) := by
  simp only [entryContents, afterL_cons, afterL_nil]
  after_reads_simp
  rfl

theorem entry_li : entryContents preI m c (Proc.devRef .tc main_v66_3)
    = chunks3 (both3
        (shapeCast S8x8x4352 (extractStridedSlice S1x1x8x8x4352 ![0, 0, 0, 0, 0] (gatesT (m ((c.tc : Thread nD τ).loc main_arg3))) slices_S2x2x8x8x4352_S1x1x8x8x4352_0_0_0_0_0) shapeCasts_S1x1x8x8x4352_S8x8x4352)
        (shapeCast S8x8x4352 (extractStridedSlice S1x1x8x8x4352 ![1, 0, 0, 0, 0] (gatesT (m ((c.tc : Thread nD τ).loc main_arg3))) slices_S2x2x8x8x4352_S1x1x8x8x4352_1_0_0_0_0) shapeCasts_S1x1x8x8x4352_S8x8x4352)) := by
  simp only [entryContents, afterL_cons, afterL_nil]
  after_reads_simp
  rfl

theorem entry_lf : entryContents preI m c (Proc.devRef .tc main_v66_4)
    = chunks3 (both3
        (lsig (shapeCast S8x8x4352 (extractStridedSlice S1x1x8x8x4352 ![0, 1, 0, 0, 0] (gatesT (m ((c.tc : Thread nD τ).loc main_arg3))) slices_S2x2x8x8x4352_S1x1x8x8x4352_0_1_0_0_0) shapeCasts_S1x1x8x8x4352_S8x8x4352))
        (lsig (shapeCast S8x8x4352 (extractStridedSlice S1x1x8x8x4352 ![1, 1, 0, 0, 0] (gatesT (m ((c.tc : Thread nD τ).loc main_arg3))) slices_S2x2x8x8x4352_S1x1x8x8x4352_1_1_0_0_0) shapeCasts_S1x1x8x8x4352_S8x8x4352))) := by
  simp only [entryContents, afterL_cons, afterL_nil]
  after_reads_simp
  refine congrArg chunks3 (congrArg₂ (fun a b => concatenate S16x8x4352 0 [⟨S8x8x4352, a⟩, ⟨S8x8x4352, b⟩]
    concatenates_S8x8x4352_S8x8x4352_S16x8x4352_d0) ?_ ?_)
  · after_reads_simp
    simp only [StableHlo.TRef.ofBuf_toBuf, id]
    simp only [StableHlo.TRef.of, StableHlo.TRef.ofBuf, StableHlo.TRef.toBuf, cast_eq]
    rfl
  · after_reads_simp
    refine congrArg₂ (fun a b => concatenate S8x8x4352 2 [⟨S8x8x256, a⟩, ⟨S8x8x4096, b⟩]
      concatenates_S8x8x256_S8x8x4096_S8x8x4352_d2) ?_ ?_ <;>
    · after_reads_simp
      simp only [StableHlo.TRef.ofBuf_toBuf, id]
      simp only [StableHlo.TRef.of, StableHlo.TRef.ofBuf, StableHlo.TRef.toBuf, cast_eq]
      rfl

theorem entry_mask (r t : Fin 64) : entryContents preI m c (Proc.devRef .tc main_v66_5) (ix2 r t) = if t ≤ r then 1#1 else 0#1 := by
  simp only [entryContents, afterL_cons, afterL_nil]
  after_reads_simp
  simp only [StableHlo.TRef.ofBuf_toBuf, id]
  simp only [StableHlo.TRef.of, StableHlo.TRef.ofBuf, StableHlo.TRef.toBuf, cast_eq]
  pointwise []
  have h : ∀ r t : Fin 64, Scalar.select (IntOp.cmpi .sge (IntOp.addi (BitVec.ofNat 32 r.val) 0#32) (BitVec.ofNat 32 t.val)) 1#1 0#1 = if t ≤ r then 1#1 else 0#1 := by
    decide +kernel
  exact h r t

theorem entry_mat (i) : entryContents preI m c (Proc.devRef .tc main_v66_7) i = (0 : EReal) := by
  simp only [entryContents, afterL_cons, afterL_nil]
  after_reads_simp
  pointwise [id]

theorem entry_norm (i) : entryContents preI m c (Proc.devRef .tc main_v66_8) i = (0 : EReal) := by
  simp only [entryContents, afterL_cons, afterL_nil]
  after_reads_simp
  pointwise [id]

theorem entry_stab (i) : entryContents preI m c (Proc.devRef .tc main_v66_9) i = (mInit : EReal) := by
  simp only [entryContents, afterL_cons, afterL_nil]
  after_reads_simp
  pointwise [id]
  exact coe_mInit

/-! ## What the arguments hold -/

/-- The arguments as arrays of reals. -/
structure Reads (A : Arrays) : Prop where
  q : ∀ b t j, m ((c.tc : Thread nD τ).loc main_arg0) (ix3 b t j) = ((A.q b t j : ℝ) : EReal)
  k : ∀ b t j, m ((c.tc : Thread nD τ).loc main_arg1) (ix3 b t j) = ((A.k b t j : ℝ) : EReal)
  v : ∀ b t j, m ((c.tc : Thread nD τ).loc main_arg2) (ix3 b t j) = ((A.v b t j : ℝ) : EReal)
  g : ∀ b t j, m ((c.tc : Thread nD τ).loc main_arg3) (ix3 b t j) = ((A.g b t j : ℝ) : EReal)

/-- The direction and the batch entry of one of the sixteen sequences. -/
def dirOf (s : Fin 16) : Fin 2 := ⟨s.val / 8, by omega⟩
def entryOf (s : Fin 16) : Fin 8 := ⟨s.val % 8, by omega⟩
def seqOf (A : Arrays) (s : Fin 16) (h : Fin 8) : Tokens := seq A (dirOf s) (entryOf s) h

theorem tok_zero (p : Fin 4352) : tok 0 p = p := Fin.ext (Nat.mod_eq_of_lt p.isLt)

theorem dirOf_lt {s : Fin 16} (hs : s.val < 8) : dirOf s = 0 ∧ entryOf s = ⟨s.val, hs⟩ :=
  ⟨Fin.ext (Nat.div_eq_of_lt hs), Fin.ext (Nat.mod_eq_of_lt hs)⟩

theorem dirOf_ge {s : Fin 16} (hs : ¬ s.val < 8) : dirOf s = 1 ∧ entryOf s = ⟨s.val - 8, by omega⟩ :=
  ⟨Fin.ext (by show s.val / 8 = 1; omega), Fin.ext (by show s.val % 8 = s.val - 8; omega)⟩

theorem both_heads (x : FVec Ideal S8x4352x4096 .f32) (s : Fin 16) (h : Fin 8) (p : Fin 4352) (e : Fin 512) :
    both4 (heads x) (heads x) (ix4 s h p e) = x (ix3 (entryOf s) (tok (dirOf s) p) (headLane h e)) := by
  rw [both4_apply]
  split
  · rename_i hs
    rw [(dirOf_lt hs).1, (dirOf_lt hs).2, heads_apply, show tok ((0 : Fin 2) : ℕ) p = p from tok_zero p]
  · rename_i hs
    rw [(dirOf_ge hs).1, (dirOf_ge hs).2, heads_apply]
    rfl

/-- One of the four rows of gates. -/
theorem gate_apply (g : FVec Ideal S8x4352x32 .f32) (b h : Fin 8) (t : Fin 4352) :
    shapeCast S8x8x4352 (extractStridedSlice S1x1x8x8x4352 ![0, 0, 0, 0, 0] (gatesT g) slices_S2x2x8x8x4352_S1x1x8x8x4352_0_0_0_0_0) shapeCasts_S1x1x8x8x4352_S8x8x4352 (ix3 b h t) = g (ix3 b t (gateLane 0 0 h))
    ∧ shapeCast S8x8x4352 (extractStridedSlice S1x1x8x8x4352 ![1, 0, 0, 0, 0] (gatesT g) slices_S2x2x8x8x4352_S1x1x8x8x4352_1_0_0_0_0) shapeCasts_S1x1x8x8x4352_S8x8x4352 (ix3 b h t) = g (ix3 b t (gateLane 1 0 h))
    ∧ shapeCast S8x8x4352 (extractStridedSlice S1x1x8x8x4352 ![0, 1, 0, 0, 0] (gatesT g) slices_S2x2x8x8x4352_S1x1x8x8x4352_0_1_0_0_0) shapeCasts_S1x1x8x8x4352_S8x8x4352 (ix3 b h t) = g (ix3 b t (gateLane 0 1 h))
    ∧ shapeCast S8x8x4352 (extractStridedSlice S1x1x8x8x4352 ![1, 1, 0, 0, 0] (gatesT g) slices_S2x2x8x8x4352_S1x1x8x8x4352_1_1_0_0_0) shapeCasts_S1x1x8x8x4352_S8x8x4352 (ix3 b h t) = g (ix3 b t (gateLane 1 1 h)) := by
  refine ⟨?_, ?_, ?_, ?_⟩ <;> pointwise [gatesT] <;> exact congrArg g (congrArg (ix3 b t) (Fin.ext (by show _ = 16 * _ + 8 * _ + h.val; simp)))

/-! ## The reference's result -/

/-- The stack of chunks as sequences. -/
def unchunk (x : FVec Ideal S68x16x8x64x512 .f32) : FVec Ideal S16x8x4352x512 .f32 :=
  shapeCast S16x8x4352x512 (transpose S16x8x68x64x512 [1, 2, 0, 3, 4] x transposes_S68x16x8x64x512_S16x8x68x64x512_1_2_0_3_4)
    shapeCasts_S16x8x68x64x512_S16x8x4352x512

theorem unchunk_apply (x : FVec Ideal S68x16x8x64x512 .f32) (s : Fin 16) (h : Fin 8) (p : Fin 4352) (e : Fin 512) :
    unchunk x (ix4 s h p e) = x (ix5 ⟨p.val / 64, by omega⟩ s h ⟨p.val % 64, by omega⟩ e) := by
  pointwise [unchunk]

/-- The sequences of each direction. -/
def firstHalf (x : FVec Ideal S16x8x4352x512 .f32) : FVec Ideal S8x8x4352x512 .f32 :=
  extractStridedSlice S8x8x4352x512 ![0, 0, 0, 0] x slices_S16x8x4352x512_S8x8x4352x512_0_0_0_0
def secondHalf (x : FVec Ideal S16x8x4352x512 .f32) : FVec Ideal S8x8x4352x512 .f32 :=
  extractStridedSlice S8x8x4352x512 ![8, 0, 0, 0] x slices_S16x8x4352x512_S8x8x4352x512_8_0_0_0

theorem firstHalf_apply (x : FVec Ideal S16x8x4352x512 .f32) (b h : Fin 8) (p : Fin 4352) (e : Fin 512) :
    firstHalf x (ix4 b h p e) = x (ix4 ⟨b.val, by omega⟩ h p e) := by
  pointwise [firstHalf]
theorem secondHalf_apply (x : FVec Ideal S16x8x4352x512 .f32) (b h : Fin 8) (p : Fin 4352) (e : Fin 512) :
    secondHalf x (ix4 b h p e) = x (ix4 ⟨8 + b.val, by omega⟩ h p e) := by
  pointwise [secondHalf]

/-- The sequences of both directions as tokens. -/
def tokens (x : FVec Ideal S16x8x4352x512 .f32) : FVec Ideal S2x8x4352x4096 .bf16 :=
  truncf .bf16 (shapeCast S2x8x4352x4096 (transpose S2x8x4352x8x512 [0, 1, 3, 2, 4] (shapeCast S2x8x8x4352x512 x shapeCasts_S16x8x4352x512_S2x8x8x4352x512)
    transposes_S2x8x8x4352x512_S2x8x4352x8x512_0_1_3_2_4) shapeCasts_S2x8x4352x8x512_S2x8x4352x4096) bitsLt_bf16_f32

theorem tokens_apply (x : FVec Ideal S16x8x4352x512 .f32) (d : Fin 2) (b : Fin 8) (t : Fin 4352) (j : Fin 4096) :
    tokens x (ix4 d b t j) = x (ix4 ⟨8 * d.val + b.val, by omega⟩ ⟨j.val / 512, by omega⟩ t ⟨j.val % 512, Nat.mod_lt _ (by decide)⟩) := by
  pointwise [tokens]
  exact congrArg x (ix4_eq (congrArg (· + b.val) (Nat.mul_comm _ _)) rfl rfl rfl)

theorem result_eq (V : Valuation τ sig (Elt Ideal)) :
    out_main_v80 V = tokens (both4 (firstHalf (unchunk (V (Proc.devRef .tc main_v66_10)))) (secondHalf (unchunk (V (Proc.devRef .tc main_v66_10))))) := by
  unfold out_main_v80
  rfl

theorem result_read (V : Valuation τ sig (Elt Ideal)) (d : Fin 2) (b : Fin 8) (t : Fin 4352) (j : Fin 4096) :
    out_main_v80 V (ix4 d b t j)
      = V (Proc.devRef .tc main_v66_10) (ix5 ⟨(tok d t).val / 64, by omega⟩ ⟨8 * d.val + b.val, by omega⟩ ⟨j.val / 512, by omega⟩
          ⟨(tok d t).val % 64, Nat.mod_lt _ (by decide)⟩ ⟨j.val % 512, Nat.mod_lt _ (by decide)⟩) := by
  rw [result_eq, tokens_apply, both4_apply]
  have hb := b.isLt
  have ht := t.isLt
  match d with
  | ⟨0, _⟩ =>
    have h8 : 8 * (0 : ℕ) + b.val < 8 := by omega
    have h0 : (tok 0 t).val = t.val := Nat.mod_eq_of_lt ht
    refine (dif_pos h8).trans ?_
    rw [firstHalf_apply, unchunk_apply]
    exact congrArg (V (Proc.devRef .tc main_v66_10)) (ix5_eq (congrArg (· / 64) h0.symm) rfl rfl (congrArg (· % 64) h0.symm) rfl)
  | ⟨1, _⟩ =>
    have h8 : ¬ 8 * (1 : ℕ) + b.val < 8 := by omega
    refine (dif_neg h8).trans ?_
    rw [secondHalf_apply, unchunk_apply]
    exact congrArg (V (Proc.devRef .tc main_v66_10)) (ix5_eq rfl (by show 8 + (8 * 1 + b.val - 8) = 8 * 1 + b.val; omega) rfl rfl rfl)

variable {A : Arrays} (hA : Reads m c A)
include hA

theorem holds : Holds 0 (seqOf A) (entryContents preI m c) where
  lt := by decide
  ctr i := by rw [ctr_entry]
  q t s h r d := by
    rw [entry_q, chunks4_apply]
    show (both4 _ _ (ix4 s h _ d) : EReal) * Ideal.ofBits .f32 0x3D3504F3#32 = _
    rw [both_heads, hA.q, coe_qScale, ← EReal.coe_mul]
    rfl
  k t s h r d := by rw [entry_k, chunks4_apply, both_heads, hA.k]; rfl
  v t s h r d := by rw [entry_v, chunks4_apply, both_heads, hA.v]; rfl
  li t s h r := by
    rw [entry_li, chunks3_apply, both3_apply]
    unfold seqOf
    split
    · rename_i hs
      rw [(gate_apply _ _ _ _).1, hA.g, (dirOf_lt hs).1, (dirOf_lt hs).2]
      show _ = ((A.g _ (tok 0 (⟨64 * t.val + r.val, by omega⟩ : Fin 4352).val) _ : ℝ) : EReal)
      rw [tok_zero]
    · rename_i hs
      rw [(gate_apply _ _ _ _).2.1, hA.g, (dirOf_ge hs).1, (dirOf_ge hs).2]
      rfl
  lf t s h r := by
    rw [entry_lf, chunks3_apply, both3_apply]
    unfold seqOf
    split
    · rename_i hs
      rw [lsig_apply _ _ _ ((gate_apply _ _ _ _).2.2.1.trans (hA.g _ _ _)), (dirOf_lt hs).1, (dirOf_lt hs).2]
      show _ = ((logSigmoid (A.g _ (tok 0 (⟨64 * t.val + r.val, by omega⟩ : Fin 4352).val) _) : ℝ) : EReal)
      rw [tok_zero]
    · rename_i hs
      rw [lsig_apply _ _ _ ((gate_apply _ _ _ _).2.2.2.trans (hA.g _ _ _)), (dirOf_ge hs).1, (dirOf_ge hs).2]
      rfl
  mask r t := entry_mask m c r t
  mat s h d e := by rw [entry_mat]; simp [C]
  norm s h d := by rw [entry_norm]; simp [N]
  stab s h := by rw [entry_stab]; rfl

theorem result_apply (d : Fin 2) (b : Fin 8) (t : Fin 4352) (j : Fin 4096) :
    out_main_v80 (STEP^[68] (entryContents preI m c)) (ix4 d b t j) = ((result A d b t j : ℝ) : EReal) := by
  refine (result_read _ d b t j).trans ?_
  refine (stack_iterate (holds m c hA) 68 le_rfl _ _ _ _ _ (by have := (tok d t).isLt; show (tok d t).val / 64 < 68; omega)).trans ?_
  have hd : dirOf ⟨8 * d.val + b.val, by omega⟩ = d := Fin.ext (by show (8 * d.val + b.val) / 8 = d.val; omega)
  have he : entryOf ⟨8 * d.val + b.val, by omega⟩ = b := Fin.ext (by show (8 * d.val + b.val) % 8 = b.val; omega)
  unfold seqOf result
  rw [hd, he]
  congr 2
  exact Nat.div_add_mod _ 64

end Cert.ReferenceIdeal.Entry
-- ==== Proof.Finite.lean ====
module

public import proofs.«01_k».proof.Defs
public import proofs.«01_k».proof.Proof.Tokens
public import Idealize.ShloMosaic.Lib.Pointwise
public import Idealize.ShloMosaic.Lib.ReduceAll

@[expose] public section

noncomputable section

open Idealize.ShloMosaic Cert.Mlstm

namespace Cert.Finite

/-! ## What the precondition says of the arguments -/

instance : Subsingleton Cert.Pre_finite.S_.Idx := ⟨fun _ _ => funext fun i => i.elim0⟩

/-- A value whose magnitude is below the greatest one is a real number. -/
theorem real_of_bounded (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine (EReal.coe_toReal hlt.1.ne ?_).symm
  intro hb
  rw [hb] at hlt
  simp at hlt

/-- The precondition, read back: every entry of the four arguments is a real number. -/
theorem entries [Cert.Pre_finite.Facts] (q k v : FVec Ideal Cert.Pre_finite.S8x4352x4096 .f32) (g : FVec Ideal Cert.Pre_finite.S8x4352x32 .f32)
    (h : Cert.Pre_finite.fn (F := Ideal) q k v g = fun _ => 1#1) :
    (∀ i, (q i : EReal) = ((EReal.toReal (q i) : ℝ) : EReal)) ∧ (∀ i, (k i : EReal) = ((EReal.toReal (k i) : ℝ) : EReal))
    ∧ (∀ i, (v i : EReal) = ((EReal.toReal (v i) : ℝ) : EReal)) ∧ (∀ i, (g i : EReal) = ((EReal.toReal (g i) : ℝ) : EReal)) := by
  have e := congrFun h (fun i => i.elim0)
  obtain ⟨e, e3⟩ := IntOp.andi_eq_one.1 e
  obtain ⟨e, e2⟩ := IntOp.andi_eq_one.1 e
  obtain ⟨e0, e1⟩ := IntOp.andi_eq_one.1 e
  exact ⟨fun i => real_of_bounded _ (Host.reduce_andi_all _ _ _ _ _ e0 i), fun i => real_of_bounded _ (Host.reduce_andi_all _ _ _ _ _ e1 i),
    fun i => real_of_bounded _ (Host.reduce_andi_all _ _ _ _ _ e2 i), fun i => real_of_bounded _ (Host.reduce_andi_all _ _ _ _ _ e3 i)⟩

/-- The real arrays that four arrays of extended reals hold. -/
def arrays (q k v : FVec Ideal Cert.Pre_finite.S8x4352x4096 .f32) (g : FVec Ideal Cert.Pre_finite.S8x4352x32 .f32) : Arrays where
  q b t j := EReal.toReal (q (ix3 b t j))
  k b t j := EReal.toReal (k (ix3 b t j))
  v b t j := EReal.toReal (v (ix3 b t j))
  g b t j := EReal.toReal (g (ix3 b t j))

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.In3
public import proofs.«01_k».proof.Proof.In6
public import proofs.«01_k».proof.Proof.Out7
public import proofs.«01_k».proof.Proof.Fold
public import proofs.«01_k».proof.Proof.Entry
public import proofs.«01_k».proof.Proof.Finite
public import Idealize.ShloMosaic.Adequacy
public import Idealize.ShloMosaic.Init

@[expose] public section

noncomputable section

namespace Cert.Proof

open Idealize.ShloMosaic Idealize.SL.Sem Cert.Mlstm

/-- The reference runs, leaves its arguments and ends with no semaphore raised: it is a host program. -/
theorem reference_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Both programs end with the recurrence's hidden states over the real arrays their arguments hold. -/
theorem values : Cert.algebraic_KernelIdeal_ReferenceIdeal_pre_finite := fun m g m' g' hpre hargs => by
  have hE := fun c => Cert.Finite.entries _ _ _ _ (hpre c)
  let A := fun c : Dev Cert.KernelIdeal.nD => Cert.Finite.arrays (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have hK : ∀ c, Cert.KernelIdeal.Fold.Reads m c (A c) := fun c =>
    ⟨fun b t j => (hE c).1 _, fun b t j => (hE c).2.1 _, fun b t j => (hE c).2.2.1 _, fun b t j => (hE c).2.2.2 _⟩
  have hR : ∀ c, Cert.ReferenceIdeal.Entry.Reads m' c (A c) := fun c =>
    ⟨fun b t j => (congrFun (hargs c).1 _).trans ((hE c).1 _), fun b t j => (congrFun (hargs c).2.1 _).trans ((hE c).2.1 _),
      fun b t j => (congrFun (hargs c).2.2.1 _).trans ((hE c).2.2.1 _), fun b t j => (congrFun (hargs c).2.2.2 _).trans ((hE c).2.2.2 _)⟩
  refine ⟨fun c => fun i => ((result (A c) (i 0) (i 1) (i 2) (i 3) : ℝ) : EReal), ?_, ?_⟩
  · exact (θ_run Cert.KernelIdeal.defs _ _).mono (fun r h c => ⟨(h c).1.trans (Cert.KernelIdeal.Fold.array m c (hK c)), (h c).2⟩)
      (Cert.KernelIdeal.Value.run_blocks (F := Ideal) m g)
  · refine (θ_run Cert.ReferenceIdeal.defs _ _).mono (fun r h c => ⟨(h c).1.trans (funext fun i => ?_), (h c).2⟩)
      (Cert.ReferenceIdeal.Value.run (F := Ideal) m' g')
    refine (congrArg _ (Idealize.ShloMosaic.ix4_eta (n0 := 2) (n1 := 8) (n2 := 4352) (n3 := 4096) i).symm).trans ?_
    exact Cert.ReferenceIdeal.Entry.result_apply m' c (hR c) (i 0) (i 1) (i 2) (i 3)

theorem reference_frame2 : Cert.quiescent_Reference2Ideal := fun m g _ =>
  (θ_run Cert.Reference2Ideal.defs _ _).mono (fun r h => ⟨fun c => (h c).2.2, Idealize.ShloMosaic.sem_eq_zero_of_no_sems (by decide) r.2⟩)
    (Cert.Reference2Ideal.Value.run (F := Ideal) m g)
theorem reference_frame3 : Cert.quiescent_Reference3Ideal := fun m g _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m g)
theorem reference_frame4 : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)
theorem reference_frame5 : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)
theorem reference_frame6 : Cert.quiescent_Reference6Ideal := fun m g _ =>
  (θ_run Cert.Reference6Ideal.defs _ _).mono (fun r h => ⟨fun c => (h c).2.2, Idealize.ShloMosaic.sem_eq_zero_of_no_sems (by decide) r.2⟩)
    (Cert.Reference6Ideal.Value.run (F := Ideal) m g)
theorem reference_frame7 : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- Every array of rows is known from its entries. -/
theorem rows_ext {n k : ℕ} {x y : (⟨2, ![n, k]⟩ : Shape).Idx → EReal} (h : ∀ r j, x (ix2 r j) = y (ix2 r j)) : x = y := funext fun i => by
  rw [← ix2_eta i]; exact h _ _

/-- The output projection of a layer. -/
theorem values5 : Cert.algebraic_Kernel5Ideal_Reference5Ideal := fun m g m' g' _ hargs => by
  refine ⟨_, (θ_run Cert.Kernel5Ideal.defs _ _).mono (fun r h c => ⟨(h c).1.trans (Cert.Kernel5Ideal.Out.array m c), (h c).2⟩)
    (Cert.Kernel5Ideal.Value.run_blocks (F := Ideal) m g), (θ_run Cert.Reference5Ideal.defs _ _).mono (fun r h c => ⟨(h c).1.trans ?_, (h c).2⟩)
    (Cert.Reference5Ideal.Value.run (F := Ideal) m' g')⟩
  obtain ⟨e0, e1, e2, e3⟩ := hargs c
  rw [e0, e1, e2, e3]
  exact rows_ext (Cert.Reference5Ideal.Out.result_apply _ _ _ _)

/-- The output projection of the last layer, normalised. -/
theorem values4 : Cert.algebraic_Kernel4Ideal_Reference4Ideal := fun m g m' g' _ hargs => by
  refine ⟨_, (θ_run Cert.Kernel4Ideal.defs _ _).mono (fun r h c => ⟨(h c).1.trans (Cert.Kernel4Ideal.Out.array m c), (h c).2⟩)
    (Cert.Kernel4Ideal.Value.run_blocks (F := Ideal) m g), (θ_run Cert.Reference4Ideal.defs _ _).mono (fun r h c => ⟨(h c).1.trans ?_, (h c).2⟩)
    (Cert.Reference4Ideal.Value.run (F := Ideal) m' g')⟩
  obtain ⟨e0, e1, e2, e3, e4⟩ := hargs c
  rw [e0, e1, e2, e3, e4]
  exact rows_ext (Cert.Reference4Ideal.Out.result_apply _ _ _ _ _)

/-- The input projection of a convolution layer. -/
theorem values2 : Cert.algebraic_Kernel2Ideal_Reference2Ideal := fun m g m' g' _ hargs => by
  refine ⟨_, _, (θ_run Cert.Kernel2Ideal.defs _ _).mono (fun r h c => ⟨(h c).1.trans (Cert.Kernel2Ideal.In.array7 m c), (h c).2.1.trans (Cert.Kernel2Ideal.In.array8 m c), (h c).2.2⟩)
    (Cert.Kernel2Ideal.In.run m g), (θ_run Cert.Reference2Ideal.defs _ _).mono (fun r h c => ⟨(h c).1.trans ?_, (h c).2.1.trans ?_, (h c).2.2⟩)
    (Cert.Reference2Ideal.Value.run (F := Ideal) m' g')⟩
  all_goals
    obtain ⟨e0, e1, e2, e3, e4⟩ := hargs c
    rw [e0, e1, e2, e3, e4]
  · exact rows_ext fun r j => (Cert.Reference2Ideal.In.gated_apply (Cert.Reference2Ideal.In.product (Cert.Reference2Ideal.In.input _ _ _ _) _) r j).trans
      (congrArg₂ (fun a b => a * Cert.Rows.sigmoid b) (Cert.Reference2Ideal.In.product_apply _ _ _ _ _ r _) (Cert.Reference2Ideal.In.product_apply _ _ _ _ _ r _))
  · exact rows_ext fun r j => (Cert.Reference2Ideal.In.silu_apply (Cert.Reference2Ideal.In.product (Cert.Reference2Ideal.In.input _ _ _ _) _) r j).trans
      (congrArg (fun a => a * Cert.Rows.sigmoid a) (Cert.Reference2Ideal.In.product_apply _ _ _ _ _ r _))

/-- The input projection of the Hyena layer. -/
theorem values3 : Cert.algebraic_Kernel3Ideal_Reference3Ideal := fun m g m' g' _ hargs => by
  refine ⟨_, _, _, _, (θ_run Cert.Kernel3Ideal.defs _ _).mono (fun r h c => ⟨(h c).1.trans (Cert.Kernel3Ideal.In.array8 m c), (h c).2.1.trans (Cert.Kernel3Ideal.In.array9 m c),
      (h c).2.2.1.trans (Cert.Kernel3Ideal.In.array10 m c), (h c).2.2.2.1.trans (Cert.Kernel3Ideal.In.array11 m c), (h c).2.2.2.2⟩)
    (Cert.Kernel3Ideal.In.run m g), (θ_run Cert.Reference3Ideal.defs _ _).mono (fun r h c => ⟨(h c).1.trans ?_, (h c).2.1.trans ?_, (h c).2.2.1.trans ?_, (h c).2.2.2.1.trans ?_, (h c).2.2.2.2⟩)
    (Cert.Reference3Ideal.Value.run (F := Ideal) m' g')⟩
  all_goals
    obtain ⟨e0, e1, e2, e3, e4⟩ := hargs c
    rw [e0, e1, e2, e3, e4]
  · exact rows_ext fun r j => Cert.Reference3Ideal.In.plain_apply 0 (by decide) _ _ _ _ _ _ r j
  · exact rows_ext fun r j => Cert.Reference3Ideal.In.plain_apply 4096 (by decide) _ _ _ _ _ _ r j
  · exact rows_ext fun r j => Cert.Reference3Ideal.In.plain_apply 8192 (by decide) _ _ _ _ _ _ r j
  · exact rows_ext fun r j => Cert.Reference3Ideal.In.silu_apply 12288 (by decide) _ _ _ _ _ _ r j

/-- The input projection of the mLSTM layer. -/
theorem values6 : Cert.algebraic_Kernel6Ideal_Reference6Ideal := fun m g m' g' _ hargs => by
  refine ⟨_, _, (θ_run Cert.Kernel6Ideal.defs _ _).mono (fun r h c => ⟨(h c).1.trans (Cert.Kernel6Ideal.In.array6 m c), (h c).2.1.trans (Cert.Kernel6Ideal.In.array7 m c), (h c).2.2⟩)
    (Cert.Kernel6Ideal.In.run m g), (θ_run Cert.Reference6Ideal.defs _ _).mono (fun r h c => ⟨(h c).1.trans ?_, (h c).2.1.trans ?_, (h c).2.2⟩)
    (Cert.Reference6Ideal.Value.run (F := Ideal) m' g')⟩
  · obtain ⟨e0, e1, e2, e3, e4, e5, e6, e7⟩ := hargs c
    rw [e0, e1, e2, e3, e4, e5, e6, e7]
    exact rows_ext fun r j => Cert.Reference6Ideal.In.plain_apply 0 (by decide) _ _ _ _ _ _ _ _ _ _ r j
  · unfold Cert.Reference6Ideal.Value.res_main_v55
    obtain ⟨e0, e1, e2, e3, e4, e5, e6, e7⟩ := hargs c
    rw [e0, e1, e2, e3, e4, e5, e6, e7]
    exact rows_ext fun r j => Cert.Reference6Ideal.In.silu_apply 4096 (by decide) _ _ _ _ _ _ _ _ _ _ r j

/-- The head norm, skip, gates and output projection of the mLSTM layer. -/
theorem values7 : Cert.algebraic_Kernel7Ideal_Reference7Ideal := fun m g m' g' _ hargs => by
  refine ⟨_, (θ_run Cert.Kernel7Ideal.defs _ _).mono (fun r h c => ⟨(h c).1.trans (Cert.Kernel7Ideal.Out.array m c), (h c).2⟩)
    (Cert.Kernel7Ideal.Value.run_blocks m g), (θ_run Cert.Reference7Ideal.defs _ _).mono (fun r h c => ⟨(h c).1.trans ?_, (h c).2⟩)
    (Cert.Reference7Ideal.Value.run (F := Ideal) m' g')⟩
  unfold Cert.Reference7Ideal.Value.res_main_v44
  obtain ⟨e0, e1, e2, e3, e4, e5, e6, e7, e8⟩ := hargs c
  rw [e0, e1, e2, e3, e4, e5, e6, e7, e8]
  exact rows_ext fun r j => Cert.Reference7Ideal.Out.result_apply _ _ _ _ _ _ _ _ _ r j

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference_frame2,
  fun m g _ => Cert.Kernel3.Gen.frame m g, fun m g _ => Cert.Kernel3Ideal.Gen.frame m g, reference_frame3,
  fun m g _ => Cert.Kernel4.Gen.frame m g, fun m g _ => Cert.Kernel4Ideal.Gen.frame m g, reference_frame4,
  fun m g _ => Cert.Kernel5.Gen.frame m g, fun m g _ => Cert.Kernel5Ideal.Gen.frame m g, reference_frame5,
  fun m g _ => Cert.Kernel6.Gen.frame m g, fun m g _ => Cert.Kernel6Ideal.Gen.frame m g, reference_frame6,
  fun m g _ => Cert.Kernel7.Gen.frame m g, fun m g _ => Cert.Kernel7Ideal.Gen.frame m g, reference_frame7,
  trivial, values, trivial, values2, trivial, values3, trivial, values4, trivial, values5, trivial, values6, trivial, values7⟩

end Cert.Proof

end
